-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_2)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_2) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v285) = v1 c
          ∧ r.2.mem ((c.tc : Thread Cert.ReferenceIdeal.nD Cert.ReferenceIdeal.τ).loc Cert.ReferenceIdeal.main_v274) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_v280) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_tables : Cert.Pre_finite_tables.Facts),
    quiescent_Kernel (hKernel := hKernel)
    ∧ quiescent_KernelIdeal (hKernelIdeal := hKernelIdeal)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ preserves_Kernel_KernelIdeal
    ∧ algebraic_KernelIdeal_ReferenceIdeal_pre_finite_tables (hKernelIdeal := hKernelIdeal) (hReferenceIdeal := hReferenceIdeal) (hPre_finite_tables := hPre_finite_tables)
-- ==== Pre_finite_tables.lean ====
abbrev S8x2x2048 : Shape := ⟨3, ![8, 2, 2048]⟩
abbrev S8x2048 : Shape := ⟨2, ![8, 2048]⟩
abbrev S256x2x7 : Shape := ⟨3, ![256, 2, 7]⟩
abbrev S256 : Shape := ⟨1, ![256]⟩
abbrev S64x256x9 : Shape := ⟨3, ![64, 256, 9]⟩
abbrev S64 : Shape := ⟨1, ![64]⟩
abbrev S1280x1280 : Shape := ⟨2, ![1280, 1280]⟩
abbrev S1280 : Shape := ⟨1, ![1280]⟩
abbrev S1024x64 : Shape := ⟨2, ![1024, 64]⟩
abbrev S2x1024x64 : Shape := ⟨3, ![2, 1024, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S2x1024x64 : S_.BroadcastsInDim S2x1024x64 (![] : Fin 0 → Fin S2x1024x64.rank)
  reducesTo_S2x1024x64_S_d0_1_2 : S2x1024x64.ReducesTo [0, 1, 2] S_

variable [Facts]

def fn {F : FTy → Type} [FloatOps F] (main_arg0 : FVec F S8x2x2048 .f32) (main_arg1 : FVec F S8x2048 .f32) (main_arg2 : FVec F S256x2x7 .f32) (main_arg3 : FVec F S256 .f32) (main_arg4 : FVec F S64x256x9 .f32) (main_arg5 : FVec F S64 .f32) (main_arg6 : FVec F S1280x1280 .f32) (main_arg7 : FVec F S1280 .f32) (main_arg8 : FVec F S1280x1280 .f32) (main_arg9 : FVec F S1280 .f32) (main_arg10 : FVec F S1024x64 .f32) (main_arg11 : FVec F S2x1024x64 .f32) : IVec S_ 1 :=
  let main_v0 : FVec F S1024x64 .f32 := Host.absf main_arg10
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S2x1024x64 .f32 := Host.absf main_arg11
  let main_cst_0 : FVec F S_ .f32 := constant S_ .f32 0x7F800000#32
  let main_v5 : FVec F S2x1024x64 .f32 := broadcastInDim S2x1024x64 ![] bcast_S_S2x1024x64 main_cst_0
  let main_v6 : IVec S2x1024x64 1 := cmpf .olt main_v4 main_v5
  let main_c_1 : IVec S_ 1 := constantI S_ 1 1#1
  let main_v7 : IVec S_ 1 := (fun x v => Host.reduce IntOp.andi x v reducesTo_S2x1024x64_S_d0_1_2 h_S_) main_v6 main_c_1
  let main_v8 : IVec S_ 1 := andi main_v3 main_v7
  main_v8
-- ==== Kernel.lean ====
abbrev S8x2x2048 : Shape := ⟨3, ![8, 2, 2048]⟩
abbrev S8x2048 : Shape := ⟨2, ![8, 2048]⟩
abbrev S256x2x7 : Shape := ⟨3, ![256, 2, 7]⟩
abbrev S256 : Shape := ⟨1, ![256]⟩
abbrev S64x256x9 : Shape := ⟨3, ![64, 256, 9]⟩
abbrev S64 : Shape := ⟨1, ![64]⟩
abbrev S1280x1280 : Shape := ⟨2, ![1280, 1280]⟩
abbrev S1280 : Shape := ⟨1, ![1280]⟩
abbrev S1024x64 : Shape := ⟨2, ![1024, 64]⟩
abbrev S2x1024x64 : Shape := ⟨3, ![2, 1024, 64]⟩
abbrev S8x2048x2 : Shape := ⟨3, ![8, 2048, 2]⟩
abbrev S7x2x256 : Shape := ⟨3, ![7, 2, 256]⟩
abbrev S9x256x64 : Shape := ⟨3, ![9, 256, 64]⟩
abbrev S1x256 : Shape := ⟨2, ![1, 256]⟩
abbrev S1x64 : Shape := ⟨2, ![1, 64]⟩
abbrev S8x2048x64 : Shape := ⟨3, ![8, 2048, 64]⟩
abbrev S1x2048x2 : Shape := ⟨3, ![1, 2048, 2]⟩
abbrev S1x2048x64 : Shape := ⟨3, ![1, 2048, 64]⟩
abbrev S2048x2 : Shape := ⟨2, ![2048, 2]⟩
abbrev S2048x256 : Shape := ⟨2, ![2048, 256]⟩
abbrev S3x2 : Shape := ⟨2, ![3, 2]⟩
abbrev S2045x2 : Shape := ⟨2, ![2045, 2]⟩
abbrev S1x2x256 : Shape := ⟨3, ![1, 2, 256]⟩
abbrev S2x256 : Shape := ⟨2, ![2, 256]⟩
abbrev S2x2 : Shape := ⟨2, ![2, 2]⟩
abbrev S2046x2 : Shape := ⟨2, ![2046, 2]⟩
abbrev S1x2 : Shape := ⟨2, ![1, 2]⟩
abbrev S2047x2 : Shape := ⟨2, ![2047, 2]⟩
abbrev S2048x64 : Shape := ⟨2, ![2048, 64]⟩
abbrev S4x256 : Shape := ⟨2, ![4, 256]⟩
abbrev S2044x256 : Shape := ⟨2, ![2044, 256]⟩
abbrev S1x256x64 : Shape := ⟨3, ![1, 256, 64]⟩
abbrev S256x64 : Shape := ⟨2, ![256, 64]⟩
abbrev S3x256 : Shape := ⟨2, ![3, 256]⟩
abbrev S2045x256 : Shape := ⟨2, ![2045, 256]⟩
abbrev S2046x256 : Shape := ⟨2, ![2046, 256]⟩
abbrev S2047x256 : Shape := ⟨2, ![2047, 256]⟩
abbrev S2x64x1024 : Shape := ⟨3, ![2, 64, 1024]⟩
abbrev S8x2080x64 : Shape := ⟨3, ![8, 2080, 64]⟩
abbrev S8x2064x128 : Shape := ⟨3, ![8, 2064, 128]⟩
abbrev S8x3x64 : Shape := ⟨3, ![8, 3, 64]⟩
abbrev S1x2080x64 : Shape := ⟨3, ![1, 2080, 64]⟩
abbrev S1x2064x128 : Shape := ⟨3, ![1, 2064, 128]⟩
abbrev S1x3x64 : Shape := ⟨3, ![1, 3, 64]⟩
abbrev S512x1024 : Shape := ⟨2, ![512, 1024]⟩
abbrev S1x1024x64 : Shape := ⟨3, ![1, 1024, 64]⟩
abbrev S1024x128 : Shape := ⟨2, ![1024, 128]⟩
abbrev S1x64x1024 : Shape := ⟨3, ![1, 64, 1024]⟩
abbrev S64x1024 : Shape := ⟨2, ![64, 1024]⟩
abbrev S1024 : Shape := ⟨1, ![1024]⟩
abbrev S1x1024 : Shape := ⟨2, ![1, 1024]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S1x512x1 : Shape := ⟨3, ![1, 512, 1]⟩
abbrev S32x64 : Shape := ⟨2, ![32, 64]⟩
abbrev S1x32x64 : Shape := ⟨3, ![1, 32, 64]⟩
abbrev S16x128 : Shape := ⟨2, ![16, 128]⟩
abbrev S1x16x128 : Shape := ⟨3, ![1, 16, 128]⟩
abbrev S2048x1 : Shape := ⟨2, ![2048, 1]⟩
abbrev S2047x1 : Shape := ⟨2, ![2047, 1]⟩
abbrev S1 : Shape := ⟨1, ![1]⟩
abbrev S1x1 : Shape := ⟨2, ![1, 1]⟩
abbrev S1x1x64 : Shape := ⟨3, ![1, 1, 64]⟩
abbrev S8x2048x1 : Shape := ⟨3, ![8, 2048, 1]⟩
abbrev S_ : Shape := ⟨0, ![]⟩
abbrev S8x2080x1 : Shape := ⟨3, ![8, 2080, 1]⟩
abbrev S1280x10x128 : Shape := ⟨3, ![1280, 10, 128]⟩
abbrev S10x128x1280 : Shape := ⟨3, ![10, 128, 1280]⟩
abbrev S1x1280 : Shape := ⟨2, ![1, 1280]⟩
abbrev S8x4x1x128 : Shape := ⟨4, ![8, 4, 1, 128]⟩
abbrev S1x2080x1 : Shape := ⟨3, ![1, 2080, 1]⟩
abbrev S1x1x1x128 : Shape := ⟨4, ![1, 1, 1, 128]⟩
abbrev S512x1280 : Shape := ⟨2, ![512, 1280]⟩
abbrev S1x512x128 : Shape := ⟨3, ![1, 512, 128]⟩
abbrev S1x128x1280 : Shape := ⟨3, ![1, 128, 1280]⟩
abbrev S128x1280 : Shape := ⟨2, ![128, 1280]⟩
abbrev S1x1x1 : Shape := ⟨3, ![1, 1, 1]⟩
abbrev S1x128 : Shape := ⟨2, ![1, 128]⟩
abbrev S8x1x64 : Shape := ⟨3, ![8, 1, 64]⟩
abbrev S8x64 : Shape := ⟨2, ![8, 64]⟩

abbrev nBuf : Space → Nat
  | .hbm => 69
  | .vmem => 33
  | .smem => 0
  | _ => 0

abbrev bufTy : (tb : Table) → Fin (tcTables nBuf tb) → BufTy
  | .hbm, ⟨0, _⟩ => ⟨S8x2x2048, .f32⟩
  | .hbm, ⟨1, _⟩ => ⟨S8x2048, .f32⟩
  | .hbm, ⟨2, _⟩ => ⟨S256x2x7, .f32⟩
  | .hbm, ⟨3, _⟩ => ⟨S256, .f32⟩
  | .hbm, ⟨4, _⟩ => ⟨S64x256x9, .f32⟩
  | .hbm, ⟨5, _⟩ => ⟨S64, .f32⟩
  | .hbm, ⟨6, _⟩ => ⟨S1280x1280, .f32⟩
  | .hbm, ⟨7, _⟩ => ⟨S1280, .f32⟩
  | .hbm, ⟨8, _⟩ => ⟨S1280x1280, .f32⟩
  | .hbm, ⟨9, _⟩ => ⟨S1280, .f32⟩
  | .hbm, ⟨10, _⟩ => ⟨S1024x64, .f32⟩
  | .hbm, ⟨11, _⟩ => ⟨S2x1024x64, .f32⟩
  | .hbm, ⟨12, _⟩ => ⟨S8x2048x2, .f32⟩
  | .hbm, ⟨13, _⟩ => ⟨S7x2x256, .f32⟩
  | .hbm, ⟨14, _⟩ => ⟨S9x256x64, .f32⟩
  | .hbm, ⟨15, _⟩ => ⟨S9x256x64, .bf16⟩
  | .hbm, ⟨16, _⟩ => ⟨S1x256, .f32⟩
  | .hbm, ⟨17, _⟩ => ⟨S1x64, .f32⟩
  | .hbm, ⟨18, _⟩ => ⟨S8x2048x64, .f32⟩
  | .hbm, ⟨19, _⟩ => ⟨S2x64x1024, .f32⟩
  | .hbm, ⟨20, _⟩ => ⟨S8x2080x64, .f32⟩
  | .hbm, ⟨21, _⟩ => ⟨S8x2064x128, .f32⟩
  | .hbm, ⟨22, _⟩ => ⟨S8x2048x2, .i32⟩
  | .hbm, ⟨23, _⟩ => ⟨S8x3x64, .f32⟩
  | .hbm, ⟨24, _⟩ => ⟨S8x2048x1, .i32⟩
  | .hbm, ⟨25, _⟩ => ⟨S_, .i32⟩
  | .hbm, ⟨26, _⟩ => ⟨S_, .i32⟩
  | .hbm, ⟨27, _⟩ => ⟨S8x2080x1, .i32⟩
  | .hbm, ⟨28, _⟩ => ⟨S1280x10x128, .f32⟩
  | .hbm, ⟨29, _⟩ => ⟨S10x128x1280, .f32⟩
  | .hbm, ⟨30, _⟩ => ⟨S10x128x1280, .bf16⟩
  | .hbm, ⟨31, _⟩ => ⟨S1280x1280, .f32⟩
  | .hbm, ⟨32, _⟩ => ⟨S1280x1280, .bf16⟩
  | .hbm, ⟨33, _⟩ => ⟨S1x1280, .f32⟩
  | .hbm, ⟨34, _⟩ => ⟨S1x1280, .f32⟩
  | .hbm, ⟨35, _⟩ => ⟨S8x4x1x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x1x64, .f32⟩
  | .hbm, ⟨41, _⟩ => ⟨S8x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x1x64, .f32⟩
  | .hbm, ⟨47, _⟩ => ⟨S8x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x1x64, .f32⟩
  | .hbm, ⟨56, _⟩ => ⟨S8x64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1x2048x2, .f32⟩
  | .local _ .vmem, ⟨1, _⟩ => ⟨S1x2048x2, .f32⟩
  | .local _ .vmem, ⟨2, _⟩ => ⟨S7x2x256, .f32⟩
  | .local _ .vmem, ⟨3, _⟩ => ⟨S1x256, .f32⟩
  | .local _ .vmem, ⟨4, _⟩ => ⟨S9x256x64, .bf16⟩
  | .local _ .vmem, ⟨5, _⟩ => ⟨S1x64, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x64, .f32⟩
  | .local _ .vmem, ⟨9, _⟩ => ⟨S1x2048x64, .f32⟩
  | .local _ .vmem, ⟨10, _⟩ => ⟨S2x64x1024, .f32⟩
  | .local _ .vmem, ⟨11, _⟩ => ⟨S2x1024x64, .f32⟩
  | .local _ .vmem, ⟨12, _⟩ => ⟨S1024x64, .f32⟩
  | .local _ .vmem, ⟨13, _⟩ => ⟨S1x2080x64, .f32⟩
  | .local _ .vmem, ⟨14, _⟩ => ⟨S1x2080x64, .f32⟩
  | .local _ .vmem, ⟨15, _⟩ => ⟨S1x2064x128, .f32⟩
  | .local _ .vmem, ⟨16, _⟩ => ⟨S1x2064x128, .f32⟩
  | .local _ .vmem, ⟨17, _⟩ => ⟨S1x2048x2, .i32⟩
  | .local _ .vmem, ⟨18, _⟩ => ⟨S1x2048x2, .i32⟩
  | .local _ .vmem, ⟨19, _⟩ => ⟨S1x3x64, .f32⟩
  | .local _ .vmem, ⟨20, _⟩ => ⟨S1x3x64, .f32⟩
  | .local _ .vmem, ⟨21, _⟩ => ⟨S1x2064x128, .f32⟩
  | .local _ .vmem, ⟨22, _⟩ => ⟨S1x2064x128, .f32⟩
  | .local _ .vmem, ⟨23, _⟩ => ⟨S1x2080x64, .f32⟩
  | .local _ .vmem, ⟨24, _⟩ => ⟨S1x2080x64, .f32⟩
  | .local _ .vmem, ⟨25, _⟩ => ⟨S1x2080x1, .i32⟩
  | .local _ .vmem, ⟨26, _⟩ => ⟨S1x2080x1, .i32⟩
  | .local _ .vmem, ⟨27, _⟩ => ⟨S10x128x1280, .bf16⟩
  | .local _ .vmem, ⟨28, _⟩ => ⟨S1x1280, .f32⟩
  | .local _ .vmem, ⟨29, _⟩ => ⟨S1280x1280, .bf16⟩
  | .local _ .vmem, ⟨30, _⟩ => ⟨S1x1280, .f32⟩
  | .local _ .vmem, ⟨31, _⟩ => ⟨S1x1x1x128, .f32⟩
  | .local _ .vmem, ⟨32, _⟩ => ⟨S1x1x1x128, .f32⟩
  | _, _ => ⟨S8x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2080x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2064x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x2 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x3x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![8, 4], ![false, false]⟩

def k2_off1 (i : grid2.Coords) (c0_i32 : BitVec 32) : Fin 3 → Nat :=
  let c0 : Index := 0#32
  let arg1 : BitVec 32 := BitVec.ofNat 32 (i 1).val
  let c512_i32 : BitVec 32 := 512#32
  let v0 : BitVec 32 := Scalar.muli arg1 c512_i32
  let v2 : BitVec 32 := Scalar.addi v0 c0_i32
  let v3 : Index := Scalar.indexCast v2
  let c0_0 : Index := 0#32
  ![0, v3.toNat, 0]
def k2_off2 (i : grid2.Coords) : Fin 3 → Nat :=
  let c0_58 : Index := 0#32
  let arg1 : BitVec 32 := BitVec.ofNat 32 (i 1).val
  let c512_i32 : BitVec 32 := 512#32
  let v0 : BitVec 32 := Scalar.muli arg1 c512_i32
  let c10_i32 : BitVec 32 := 10#32
  let v102 : BitVec 32 := Scalar.addi v0 c10_i32
  let v103 : Index := Scalar.indexCast v102
  let c0_59 : Index := 0#32
  ![0, v103.toNat, 0]
def k2_off3 (i : grid2.Coords) : Fin 3 → Nat :=
  let c0_62 : Index := 0#32
  let arg1 : BitVec 32 := BitVec.ofNat 32 (i 1).val
  let c512_i32 : BitVec 32 := 512#32
  let v0 : BitVec 32 := Scalar.muli arg1 c512_i32
  let c10_i32_60 : BitVec 32 := 10#32
  let v106 : BitVec 32 := Scalar.addi v0 c10_i32_60
  let c1_i32_61 : BitVec 32 := 1#32
  let v107 : BitVec 32 := Scalar.addi v106 c1_i32_61
  let v108 : Index := Scalar.indexCast v107
  let c0_63 : Index := 0#32
  ![0, v108.toNat, 0]
def k2_off4 (i : grid2.Coords) (c0_i32_66 : BitVec 32) : Fin 3 → Nat :=
  let c0_67 : Index := 0#32
  let arg1 : BitVec 32 := BitVec.ofNat 32 (i 1).val
  let c512_i32 : BitVec 32 := 512#32
  let v0 : BitVec 32 := Scalar.muli arg1 c512_i32
  let c10_i32_65 : BitVec 32 := 10#32
  let v115 : BitVec 32 := Scalar.addi v0 c10_i32_65
  let v116 : BitVec 32 := Scalar.addi v115 c0_i32_66
  let v117 : Index := Scalar.indexCast v116
  let c0_68 : Index := 0#32
  ![0, v117.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x2064x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2080x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2080x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S10x128x1280 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1280 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1280x1280 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1280 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x1x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== ReferenceIdeal.lean ====
abbrev S8x2x2048 : Shape := ⟨3, ![8, 2, 2048]⟩
abbrev S8x2048 : Shape := ⟨2, ![8, 2048]⟩
abbrev S256x2x7 : Shape := ⟨3, ![256, 2, 7]⟩
abbrev S256 : Shape := ⟨1, ![256]⟩
abbrev S64x256x9 : Shape := ⟨3, ![64, 256, 9]⟩
abbrev S64 : Shape := ⟨1, ![64]⟩
abbrev S1280x1280 : Shape := ⟨2, ![1280, 1280]⟩
abbrev S1280 : Shape := ⟨1, ![1280]⟩
abbrev S1024x64 : Shape := ⟨2, ![1024, 64]⟩
abbrev S2x1024x64 : Shape := ⟨3, ![2, 1024, 64]⟩
abbrev S_ : Shape := ⟨0, ![]⟩
abbrev S8x2x2054 : Shape := ⟨3, ![8, 2, 2054]⟩
abbrev S8x256x2048 : Shape := ⟨3, ![8, 256, 2048]⟩
abbrev S256x2x1 : Shape := ⟨3, ![256, 2, 1]⟩
abbrev S256x2 : Shape := ⟨2, ![256, 2]⟩
abbrev S256x8x2048 : Shape := ⟨3, ![256, 8, 2048]⟩
abbrev S1x256x1 : Shape := ⟨3, ![1, 256, 1]⟩
abbrev S8x256x2056 : Shape := ⟨3, ![8, 256, 2056]⟩
abbrev S8x64x2048 : Shape := ⟨3, ![8, 64, 2048]⟩
abbrev S64x256x1 : Shape := ⟨3, ![64, 256, 1]⟩
abbrev S64x256 : Shape := ⟨2, ![64, 256]⟩
abbrev S64x8x2048 : Shape := ⟨3, ![64, 8, 2048]⟩
abbrev S1x64x1 : Shape := ⟨3, ![1, 64, 1]⟩
abbrev S8x2048x64 : Shape := ⟨3, ![8, 2048, 64]⟩
abbrev S1x1024x64 : Shape := ⟨3, ![1, 1024, 64]⟩
abbrev S8x2048x1 : Shape := ⟨3, ![8, 2048, 1]⟩
abbrev S64x1024 : Shape := ⟨2, ![64, 1024]⟩
abbrev S8x2048x1024 : Shape := ⟨3, ![8, 2048, 1024]⟩
abbrev S1024 : Shape := ⟨1, ![1024]⟩
abbrev S1x1x1024 : Shape := ⟨3, ![1, 1, 1024]⟩
abbrev S8x2048x2 : Shape := ⟨3, ![8, 2048, 2]⟩
abbrev S1 : Shape := ⟨1, ![1]⟩
abbrev S2 : Shape := ⟨1, ![2]⟩
abbrev S8x2048x128 : Shape := ⟨3, ![8, 2048, 128]⟩
abbrev S8x2019x128 : Shape := ⟨3, ![8, 2019, 128]⟩
abbrev S8x2019x1x128 : Shape := ⟨4, ![8, 2019, 1, 128]⟩
abbrev S8x2019x10x128 : Shape := ⟨4, ![8, 2019, 10, 128]⟩
abbrev S16152x1280 : Shape := ⟨2, ![16152, 1280]⟩
abbrev S8x2019x64 : Shape := ⟨3, ![8, 2019, 64]⟩
abbrev S8x2019x1x64 : Shape := ⟨4, ![8, 2019, 1, 64]⟩
abbrev S8x2019x16x64 : Shape := ⟨4, ![8, 2019, 16, 64]⟩
abbrev S8x2019x4x64 : Shape := ⟨4, ![8, 2019, 4, 64]⟩
abbrev S8x2019x20x64 : Shape := ⟨4, ![8, 2019, 20, 64]⟩
abbrev S1x1280 : Shape := ⟨2, ![1, 1280]⟩
abbrev S8x2019x20 : Shape := ⟨3, ![8, 2019, 20]⟩
abbrev S8x2019 : Shape := ⟨2, ![8, 2019]⟩
abbrev S8x2019x1 : Shape := ⟨3, ![8, 2019, 1]⟩
abbrev S1x1x20 : Shape := ⟨3, ![1, 1, 20]⟩
abbrev S8x2047 : Shape := ⟨2, ![8, 2047]⟩

abbrev nBuf : Space → Nat
  | .hbm => 347
  | .vmem => 0
  | .smem => 0
  | _ => 0

abbrev hbmTy0_0 (i : Nat) : BufTy := match i % 128 with
  | 0 => ⟨S8x2x2048, .f32⟩
  | 1 => ⟨S8x2048, .f32⟩
  | 2 => ⟨S256x2x7, .f32⟩
  | 3 => ⟨S256, .f32⟩
  | 4 => ⟨S64x256x9, .f32⟩
  | 5 => ⟨S64, .f32⟩
  | 6 => ⟨S1280x1280, .f32⟩
  | 7 => ⟨S1280, .f32⟩
  | 8 => ⟨S1280x1280, .f32⟩
  | 9 => ⟨S1280, .f32⟩
  | 10 => ⟨S1024x64, .f32⟩
  | 11 => ⟨S2x1024x64, .f32⟩
  | 12 => ⟨S_, .i32⟩
  | 13 => ⟨S_, .f32⟩
  | 14 => ⟨S8x2x2054, .f32⟩
  | 15 => ⟨S_, .f32⟩
  | 16 => ⟨S8x256x2048, .f32⟩
  | 17 => ⟨S8x2x2048, .f32⟩
  | 18 => ⟨S256x2x1, .f32⟩
  | 19 => ⟨S256x2, .f32⟩
  | 20 => ⟨S256x8x2048, .f32⟩
  | 21 => ⟨S8x256x2048, .f32⟩
  | 22 => ⟨S8x256x2048, .f32⟩
  | 23 => ⟨S8x2x2048, .f32⟩
  | 24 => ⟨S256x2x1, .f32⟩
  | 25 => ⟨S256x2, .f32⟩
  | 26 => ⟨S256x8x2048, .f32⟩
  | 27 => ⟨S8x256x2048, .f32⟩
  | 28 => ⟨S8x256x2048, .f32⟩
  | 29 => ⟨S8x2x2048, .f32⟩
  | 30 => ⟨S256x2x1, .f32⟩
  | 31 => ⟨S256x2, .f32⟩
  | 32 => ⟨S256x8x2048, .f32⟩
  | 33 => ⟨S8x256x2048, .f32⟩
  | 34 => ⟨S8x256x2048, .f32⟩
  | 35 => ⟨S8x2x2048, .f32⟩
  | 36 => ⟨S256x2x1, .f32⟩
  | 37 => ⟨S256x2, .f32⟩
  | 38 => ⟨S256x8x2048, .f32⟩
  | 39 => ⟨S8x256x2048, .f32⟩
  | 40 => ⟨S8x256x2048, .f32⟩
  | 41 => ⟨S8x2x2048, .f32⟩
  | 42 => ⟨S256x2x1, .f32⟩
  | 43 => ⟨S256x2, .f32⟩
  | 44 => ⟨S256x8x2048, .f32⟩
  | 45 => ⟨S8x256x2048, .f32⟩
  | 46 => ⟨S8x256x2048, .f32⟩
  | 47 => ⟨S8x2x2048, .f32⟩
  | 48 => ⟨S256x2x1, .f32⟩
  | 49 => ⟨S256x2, .f32⟩
  | 50 => ⟨S256x8x2048, .f32⟩
  | 51 => ⟨S8x256x2048, .f32⟩
  | 52 => ⟨S8x256x2048, .f32⟩
  | 53 => ⟨S8x2x2048, .f32⟩
  | 54 => ⟨S256x2x1, .f32⟩
  | 55 => ⟨S256x2, .f32⟩
  | 56 => ⟨S256x8x2048, .f32⟩
  | 57 => ⟨S8x256x2048, .f32⟩
  | 58 => ⟨S8x256x2048, .f32⟩
  | 59 => ⟨S1x256x1, .f32⟩
  | 60 => ⟨S8x256x2048, .f32⟩
  | 61 => ⟨S8x256x2048, .f32⟩
  | 62 => ⟨S_, .f32⟩
  | 63 => ⟨S8x256x2048, .f32⟩
  | 64 => ⟨S8x256x2048, .f32⟩
  | 65 => ⟨S_, .i32⟩
  | 66 => ⟨S_, .f32⟩
  | 67 => ⟨S8x256x2056, .f32⟩
  | 68 => ⟨S_, .f32⟩
  | 69 => ⟨S8x64x2048, .f32⟩
  | 70 => ⟨S8x256x2048, .f32⟩
  | 71 => ⟨S64x256x1, .f32⟩
  | 72 => ⟨S64x256, .f32⟩
  | 73 => ⟨S64x8x2048, .f32⟩
  | 74 => ⟨S8x64x2048, .f32⟩
  | 75 => ⟨S8x64x2048, .f32⟩
  | 76 => ⟨S8x256x2048, .f32⟩
  | 77 => ⟨S64x256x1, .f32⟩
  | 78 => ⟨S64x256, .f32⟩
  | 79 => ⟨S64x8x2048, .f32⟩
  | 80 => ⟨S8x64x2048, .f32⟩
  | 81 => ⟨S8x64x2048, .f32⟩
  | 82 => ⟨S8x256x2048, .f32⟩
  | 83 => ⟨S64x256x1, .f32⟩
  | 84 => ⟨S64x256, .f32⟩
  | 85 => ⟨S64x8x2048, .f32⟩
  | 86 => ⟨S8x64x2048, .f32⟩
  | 87 => ⟨S8x64x2048, .f32⟩
  | 88 => ⟨S8x256x2048, .f32⟩
  | 89 => ⟨S64x256x1, .f32⟩
  | 90 => ⟨S64x256, .f32⟩
  | 91 => ⟨S64x8x2048, .f32⟩
  | 92 => ⟨S8x64x2048, .f32⟩
  | 93 => ⟨S8x64x2048, .f32⟩
  | 94 => ⟨S8x256x2048, .f32⟩
  | 95 => ⟨S64x256x1, .f32⟩
  | 96 => ⟨S64x256, .f32⟩
  | 97 => ⟨S64x8x2048, .f32⟩
  | 98 => ⟨S8x64x2048, .f32⟩
  | 99 => ⟨S8x64x2048, .f32⟩
  | 100 => ⟨S8x256x2048, .f32⟩
  | 101 => ⟨S64x256x1, .f32⟩
  | 102 => ⟨S64x256, .f32⟩
  | 103 => ⟨S64x8x2048, .f32⟩
  | 104 => ⟨S8x64x2048, .f32⟩
  | 105 => ⟨S8x64x2048, .f32⟩
  | 106 => ⟨S8x256x2048, .f32⟩
  | 107 => ⟨S64x256x1, .f32⟩
  | 108 => ⟨S64x256, .f32⟩
  | 109 => ⟨S64x8x2048, .f32⟩
  | 110 => ⟨S8x64x2048, .f32⟩
  | 111 => ⟨S8x64x2048, .f32⟩
  | 112 => ⟨S8x256x2048, .f32⟩
  | 113 => ⟨S64x256x1, .f32⟩
  | 114 => ⟨S64x256, .f32⟩
  | 115 => ⟨S64x8x2048, .f32⟩
  | 116 => ⟨S8x64x2048, .f32⟩
  | 117 => ⟨S8x64x2048, .f32⟩
  | 118 => ⟨S8x256x2048, .f32⟩
  | 119 => ⟨S64x256x1, .f32⟩
  | 120 => ⟨S64x256, .f32⟩
  | 121 => ⟨S64x8x2048, .f32⟩
  | 122 => ⟨S8x64x2048, .f32⟩
  | 123 => ⟨S8x64x2048, .f32⟩
  | 124 => ⟨S1x64x1, .f32⟩
  | 125 => ⟨S8x64x2048, .f32⟩
  | 126 => ⟨S8x64x2048, .f32⟩
  | 127 => ⟨S8x2048x64, .f32⟩
  | _ => ⟨S8x2x2048, .f32⟩

abbrev hbmTy0_1 (i : Nat) : BufTy := match i % 128 with
  | 0 => ⟨S_, .f32⟩
  | 1 => ⟨S8x2048x64, .f32⟩
  | 2 => ⟨S1x1024x64, .f32⟩
  | 3 => ⟨S1024x64, .f32⟩
  | 4 => ⟨S8x2048x64, .f32⟩
  | 5 => ⟨S_, .f32⟩
  | 6 => ⟨S8x2048, .f32⟩
  | 7 => ⟨S8x2048x1, .f32⟩
  | 8 => ⟨S64x1024, .f32⟩
  | 9 => ⟨S8x2048x1024, .f32⟩
  | 10 => ⟨S_, .f32⟩
  | 11 => ⟨S8x2048x1024, .f32⟩
  | 12 => ⟨S8x2048x1024, .f32⟩
  | 13 => ⟨S8x2048x1024, .f32⟩
  | 14 => ⟨S8x2048x1024, .f32⟩
  | 15 => ⟨S1024x64, .f32⟩
  | 16 => ⟨S_, .f32⟩
  | 17 => ⟨S1024, .f32⟩
  | 18 => ⟨S1x1x1024, .f32⟩
  | 19 => ⟨S8x2048x1024, .f32⟩
  | 20 => ⟨S8x2048x1024, .f32⟩
  | 21 => ⟨S8x2048x1024, .i32⟩
  | 22 => ⟨S_, .f32⟩
  | 23 => ⟨S_, .i32⟩
  | 24 => ⟨S8x2048, .f32⟩
  | 25 => ⟨S8x2048, .i32⟩
  | 26 => ⟨S8x2048x1, .i32⟩
  | 27 => ⟨S8x2048x64, .f32⟩
  | 28 => ⟨S8x2048x64, .f32⟩
  | 29 => ⟨S8x2048x64, .f32⟩
  | 30 => ⟨S8x2048x64, .f32⟩
  | 31 => ⟨S8x2048x64, .f32⟩
  | 32 => ⟨S_, .f32⟩
  | 33 => ⟨S_, .f32⟩
  | 34 => ⟨S_, .f32⟩
  | 35 => ⟨S_, .f32⟩
  | 36 => ⟨S8x2048x64, .f32⟩
  | 37 => ⟨S8x2048x64, .f32⟩
  | 38 => ⟨S1x1024x64, .f32⟩
  | 39 => ⟨S1024x64, .f32⟩
  | 40 => ⟨S8x2048x64, .f32⟩
  | 41 => ⟨S_, .f32⟩
  | 42 => ⟨S8x2048, .f32⟩
  | 43 => ⟨S8x2048x1, .f32⟩
  | 44 => ⟨S64x1024, .f32⟩
  | 45 => ⟨S8x2048x1024, .f32⟩
  | 46 => ⟨S_, .f32⟩
  | 47 => ⟨S8x2048x1024, .f32⟩
  | 48 => ⟨S8x2048x1024, .f32⟩
  | 49 => ⟨S8x2048x1024, .f32⟩
  | 50 => ⟨S8x2048x1024, .f32⟩
  | 51 => ⟨S1024x64, .f32⟩
  | 52 => ⟨S_, .f32⟩
  | 53 => ⟨S1024, .f32⟩
  | 54 => ⟨S1x1x1024, .f32⟩
  | 55 => ⟨S8x2048x1024, .f32⟩
  | 56 => ⟨S8x2048x1024, .f32⟩
  | 57 => ⟨S8x2048x1024, .i32⟩
  | 58 => ⟨S_, .f32⟩
  | 59 => ⟨S_, .i32⟩
  | 60 => ⟨S8x2048, .f32⟩
  | 61 => ⟨S8x2048, .i32⟩
  | 62 => ⟨S8x2048x1, .i32⟩
  | 63 => ⟨S8x2048x64, .f32⟩
  | 64 => ⟨S8x2048x64, .f32⟩
  | 65 => ⟨S8x2048x64, .f32⟩
  | 66 => ⟨S8x2048x64, .f32⟩
  | 67 => ⟨S8x2048x64, .f32⟩
  | 68 => ⟨S_, .f32⟩
  | 69 => ⟨S_, .f32⟩
  | 70 => ⟨S_, .f32⟩
  | 71 => ⟨S_, .f32⟩
  | 72 => ⟨S8x2048x64, .f32⟩
  | 73 => ⟨S8x2048x64, .f32⟩
  | 74 => ⟨S8x2048x1, .i32⟩
  | 75 => ⟨S8x2048x1, .i32⟩
  | 76 => ⟨S8x2048x2, .i32⟩
  | 77 => ⟨S1, .f32⟩
  | 78 => ⟨S1, .f32⟩
  | 79 => ⟨S2, .f32⟩
  | 80 => ⟨S_, .f32⟩
  | 81 => ⟨S_, .f32⟩
  | 82 => ⟨S_, .f32⟩
  | 83 => ⟨S_, .f32⟩
  | 84 => ⟨S8x2048x1, .i32⟩
  | 85 => ⟨S8x2048, .i32⟩
  | 86 => ⟨S8x2048x1, .i32⟩
  | 87 => ⟨S8x2048x64, .f32⟩
  | 88 => ⟨S8x2048x128, .f32⟩
  | 89 => ⟨S8x2019x128, .f32⟩
  | 90 => ⟨S8x2019x128, .f32⟩
  | 91 => ⟨S8x2019x128, .f32⟩
  | 92 => ⟨S8x2019x128, .f32⟩
  | 93 => ⟨S8x2019x128, .f32⟩
  | 94 => ⟨S8x2019x128, .f32⟩
  | 95 => ⟨S8x2019x128, .f32⟩
  | 96 => ⟨S8x2019x128, .f32⟩
  | 97 => ⟨S8x2019x128, .f32⟩
  | 98 => ⟨S8x2019x128, .f32⟩
  | 99 => ⟨S8x2019x1x128, .f32⟩
  | 100 => ⟨S8x2019x1x128, .f32⟩
  | 101 => ⟨S8x2019x1x128, .f32⟩
  | 102 => ⟨S8x2019x1x128, .f32⟩
  | 103 => ⟨S8x2019x1x128, .f32⟩
  | 104 => ⟨S8x2019x1x128, .f32⟩
  | 105 => ⟨S8x2019x1x128, .f32⟩
  | 106 => ⟨S8x2019x1x128, .f32⟩
  | 107 => ⟨S8x2019x1x128, .f32⟩
  | 108 => ⟨S8x2019x1x128, .f32⟩
  | 109 => ⟨S8x2019x10x128, .f32⟩
  | 110 => ⟨S16152x1280, .f32⟩
  | 111 => ⟨S8x2019x64, .f32⟩
  | 112 => ⟨S8x2019x64, .f32⟩
  | 113 => ⟨S8x2019x64, .f32⟩
  | 114 => ⟨S8x2019x64, .f32⟩
  | 115 => ⟨S8x2019x64, .f32⟩
  | 116 => ⟨S8x2019x64, .f32⟩
  | 117 => ⟨S8x2019x64, .f32⟩
  | 118 => ⟨S8x2019x64, .f32⟩
  | 119 => ⟨S8x2019x64, .f32⟩
  | 120 => ⟨S8x2019x64, .f32⟩
  | 121 => ⟨S8x2019x64, .f32⟩
  | 122 => ⟨S8x2019x64, .f32⟩
  | 123 => ⟨S8x2019x64, .f32⟩
  | 124 => ⟨S8x2019x64, .f32⟩
  | 125 => ⟨S8x2019x64, .f32⟩
  | 126 => ⟨S8x2019x64, .f32⟩
  | 127 => ⟨S8x2019x64, .f32⟩
  | _ => ⟨S8x2x2048, .f32⟩

abbrev hbmTy0_2 (i : Nat) : BufTy := match i % 128 with
  | 0 => ⟨S8x2019x64, .f32⟩
  | 1 => ⟨S8x2019x64, .f32⟩
  | 2 => ⟨S8x2019x64, .f32⟩
  | 3 => ⟨S8x2019x1x64, .f32⟩
  | 4 => ⟨S8x2019x1x64, .f32⟩
  | 5 => ⟨S8x2019x1x64, .f32⟩
  | 6 => ⟨S8x2019x1x64, .f32⟩
  | 7 => ⟨S8x2019x1x64, .f32⟩
  | 8 => ⟨S8x2019x1x64, .f32⟩
  | 9 => ⟨S8x2019x1x64, .f32⟩
  | 10 => ⟨S8x2019x1x64, .f32⟩
  | 11 => ⟨S8x2019x1x64, .f32⟩
  | 12 => ⟨S8x2019x1x64, .f32⟩
  | 13 => ⟨S8x2019x1x64, .f32⟩
  | 14 => ⟨S8x2019x1x64, .f32⟩
  | 15 => ⟨S8x2019x1x64, .f32⟩
  | 16 => ⟨S8x2019x1x64, .f32⟩
  | 17 => ⟨S8x2019x1x64, .f32⟩
  | 18 => ⟨S8x2019x1x64, .f32⟩
  | 19 => ⟨S8x2019x1x64, .f32⟩
  | 20 => ⟨S8x2019x1x64, .f32⟩
  | 21 => ⟨S8x2019x1x64, .f32⟩
  | 22 => ⟨S8x2019x1x64, .f32⟩
  | 23 => ⟨S8x2019x16x64, .f32⟩
  | 24 => ⟨S8x2019x4x64, .f32⟩
  | 25 => ⟨S8x2019x20x64, .f32⟩
  | 26 => ⟨S1280x1280, .f32⟩
  | 27 => ⟨S16152x1280, .f32⟩
  | 28 => ⟨S1x1280, .f32⟩
  | 29 => ⟨S16152x1280, .f32⟩
  | 30 => ⟨S16152x1280, .f32⟩
  | 31 => ⟨S_, .f32⟩
  | 32 => ⟨S16152x1280, .f32⟩
  | 33 => ⟨S16152x1280, .f32⟩
  | 34 => ⟨S1280x1280, .f32⟩
  | 35 => ⟨S16152x1280, .f32⟩
  | 36 => ⟨S1x1280, .f32⟩
  | 37 => ⟨S16152x1280, .f32⟩
  | 38 => ⟨S16152x1280, .f32⟩
  | 39 => ⟨S8x2019x20x64, .f32⟩
  | 40 => ⟨S8x2019x20x64, .f32⟩
  | 41 => ⟨S_, .f32⟩
  | 42 => ⟨S8x2019x20, .f32⟩
  | 43 => ⟨S8x2019x20x64, .f32⟩
  | 44 => ⟨S_, .f32⟩
  | 45 => ⟨S8x2019x20, .f32⟩
  | 46 => ⟨S8x2019x20, .f32⟩
  | 47 => ⟨S_, .f32⟩
  | 48 => ⟨S8x2019x20, .f32⟩
  | 49 => ⟨S8x2019x20, .f32⟩
  | 50 => ⟨S8x2019x20x64, .f32⟩
  | 51 => ⟨S_, .f32⟩
  | 52 => ⟨S8x2019x20, .f32⟩
  | 53 => ⟨S8x2019x20, .f32⟩
  | 54 => ⟨S_, .f32⟩
  | 55 => ⟨S8x2019x20, .f32⟩
  | 56 => ⟨S8x2019x20, .f32⟩
  | 57 => ⟨S8x2019x20, .f32⟩
  | 58 => ⟨S8x2019x20, .f32⟩
  | 59 => ⟨S8x2019, .i32⟩
  | 60 => ⟨S8x2019, .i32⟩
  | 61 => ⟨S8x2019, .i1⟩
  | 62 => ⟨S8x2019, .f32⟩
  | 63 => ⟨S8x2019x1, .f32⟩
  | 64 => ⟨S_, .f32⟩
  | 65 => ⟨S1x1x20, .f32⟩
  | 66 => ⟨S8x2019x20, .f32⟩
  | 67 => ⟨S8x2019x20, .f32⟩
  | 68 => ⟨S8x2019x20, .f32⟩
  | 69 => ⟨S8x2019x20, .f32⟩
  | 70 => ⟨S8x2019x20, .f32⟩
  | 71 => ⟨S_, .f32⟩
  | 72 => ⟨S_, .f32⟩
  | 73 => ⟨S_, .f32⟩
  | 74 => ⟨S_, .f32⟩
  | 75 => ⟨S8x2047, .i32⟩
  | 76 => ⟨S8x2047, .i32⟩
  | 77 => ⟨S8x2047, .i1⟩
  | 78 => ⟨S8x2047, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | _ => ⟨S8x2x2048, .f32⟩

abbrev hbmTy (i : Nat) : BufTy := match i / 128 with
  | 0 => hbmTy0_0 i
  | 1 => hbmTy0_1 i
  | 2 => hbmTy0_2 i
  | _ => ⟨S8x2x2048, .f32⟩

abbrev bufTy : (tb : Table) → Fin (tcTables nBuf tb) → BufTy
  | .hbm, ⟨i, _⟩ => hbmTy i
  | _, _ => ⟨S8x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_0 : Ref sig .tc := ⟨.hbm, 62, rfl⟩
abbrev main_v47 : Ref sig .tc := ⟨.hbm, 63, rfl⟩
abbrev main_v48 : Ref sig .tc := ⟨.hbm, 64, rfl⟩
abbrev main_c_1 : Ref sig .tc := ⟨.hbm, 65, rfl⟩
abbrev main_call1_v0 : Ref sig .tc := ⟨.hbm, 66, rfl⟩
abbrev main_v49 : Ref sig .tc := ⟨.hbm, 67, rfl⟩
abbrev main_cst_2 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_3 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_4 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_5 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_6 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_call2_v0 : Ref sig .tc := ⟨.hbm, 149, rfl⟩
abbrev main_call2_cst : Ref sig .tc := ⟨.hbm, 150, rfl⟩
abbrev main_call2_c : Ref sig .tc := ⟨.hbm, 151, rfl⟩
abbrev main_call2_v1_0 : Ref sig .tc := ⟨.hbm, 152, rfl⟩
abbrev main_v126 : Ref sig .tc := ⟨.hbm, 153, rfl⟩
abbrev main_call3_v0 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_7 : Ref sig .tc := ⟨.hbm, 160, rfl⟩
abbrev main_v132 : Ref sig .tc := ⟨.hbm, 161, rfl⟩
abbrev main_cst_8 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_9 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_10 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_11 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_call4_v0 : Ref sig .tc := ⟨.hbm, 185, rfl⟩
abbrev main_call4_cst : Ref sig .tc := ⟨.hbm, 186, rfl⟩
abbrev main_call4_c : Ref sig .tc := ⟨.hbm, 187, rfl⟩
abbrev main_call4_v1_0 : Ref sig .tc := ⟨.hbm, 188, rfl⟩
abbrev main_v152 : Ref sig .tc := ⟨.hbm, 189, rfl⟩
abbrev main_call5_v0 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_12 : Ref sig .tc := ⟨.hbm, 196, rfl⟩
abbrev main_v158 : Ref sig .tc := ⟨.hbm, 197, rfl⟩
abbrev main_cst_13 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_14 : Ref sig .tc := ⟨.hbm, 208, rfl⟩
abbrev main_v168 : Ref sig .tc := ⟨.hbm, 209, rfl⟩
abbrev main_cst_15 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_call6_v0 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_cst_16 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_cst_17 : Ref sig .tc := ⟨.hbm, 297, rfl⟩
abbrev main_v253 : Ref sig .tc := ⟨.hbm, 298, rfl⟩
abbrev main_call7_v0 : Ref sig .tc := ⟨.hbm, 299, rfl⟩
abbrev main_call7_cst : Ref sig .tc := ⟨.hbm, 300, rfl⟩
abbrev main_call7_v1 : Ref sig .tc := ⟨.hbm, 301, rfl⟩
abbrev main_v254 : Ref sig .tc := ⟨.hbm, 302, rfl⟩
abbrev main_cst_18 : Ref sig .tc := ⟨.hbm, 303, rfl⟩
abbrev main_v255 : Ref sig .tc := ⟨.hbm, 304, rfl⟩
abbrev main_v256 : Ref sig .tc := ⟨.hbm, 305, rfl⟩
abbrev main_call8_v0 : Ref sig .tc := ⟨.hbm, 306, rfl⟩
abbrev main_call8_cst : Ref sig .tc := ⟨.hbm, 307, rfl⟩
abbrev main_call8_v1 : Ref sig .tc := ⟨.hbm, 308, rfl⟩
abbrev main_v257 : Ref sig .tc := ⟨.hbm, 309, rfl⟩
abbrev main_cst_19 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_cst_20 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_cst_21 : Ref sig .tc := ⟨.hbm, 327, rfl⟩
abbrev main_v273 : Ref sig .tc := ⟨.hbm, 328, rfl⟩
abbrev main_cst_22 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_cst_23 : Ref sig .tc := ⟨.hbm, 335, rfl⟩
abbrev main_v279 : Ref sig .tc := ⟨.hbm, 336, rfl⟩
abbrev main_cst_24 : Ref sig .tc := ⟨.hbm, 337, rfl⟩
abbrev main_v280 : Ref sig .tc := ⟨.hbm, 338, rfl⟩
abbrev main_cst_25 : Ref sig .tc := ⟨.hbm, 339, rfl⟩
abbrev main_v281 : Ref sig .tc := ⟨.hbm, 340, rfl⟩
abbrev main_cst_26 : Ref sig .tc := ⟨.hbm, 341, rfl⟩
abbrev main_v282 : Ref sig .tc := ⟨.hbm, 342, rfl⟩
abbrev main_v283 : Ref sig .tc := ⟨.hbm, 343, rfl⟩
abbrev main_cst_27 : Ref sig .tc := ⟨.hbm, 344, rfl⟩
abbrev main_v284 : Ref sig .tc := ⟨.hbm, 345, rfl⟩
abbrev main_v285 : Ref sig .tc := ⟨.hbm, 346, rfl⟩

abbrev nD : Nat := 1
abbrev τ : Topo := Topo.v7x

variable {F : FTy → Type} [FloatOps F]
-- ==== Proof.KRun.lean ====
/- The kernel's run: every result buffer ends at the last boundary's contents, the arguments unchanged. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result buffer at the contents the last stretch of host operations leaves (`W9`) and with the
    arguments as launched: the launch over the segments, as for the frame, with the results read as well. -/
theorem run : θ_run defs (onTc (τ := τ) (main (F := F))) ⟨m, fun _ => 0, ρ⟩ (fun r => ∀ c : Dev nD,
      r.2.mem ((c.tc : Thread nD τ).loc main_v8_2) = W9 m ρ c (Proc.devRef .tc main_v8_2)
      ∧ r.2.mem ((c.tc : Thread nD τ).loc main_v39) = W9 m ρ c (Proc.devRef .tc main_v39)
      ∧ r.2.mem ((c.tc : Thread nD τ).loc main_v20) = W9 m ρ c (Proc.devRef .tc main_v20)
      ∧ r.2.mem ((c.tc : Thread nD τ).loc main_v30) = W9 m ρ c (Proc.devRef .tc main_v30)
      ∧ r.2.mem ((c.tc : Thread nD τ).loc main_v34) = W9 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v8_2 (by decide)),
       h c _ (mem_uc main_v39 (by decide)),
       h c _ (mem_uc main_v20 (by decide)),
       h c _ (mem_uc main_v30 (by decide)),
       h c _ (mem_uc main_v34 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Val

end
-- ==== Proof.Spec.lean ====
/- The mathematics both programs compute, over extended reals and free of either program: the two convolutions, the two
   quantizer stages, the predictor and the four losses. -/
module

public import Idealize.ShloMosaic.Lib.Pointwise

@[expose] public section

set_option maxRecDepth 16384

noncomputable section

namespace Cert.Spec

open Idealize.ShloMosaic

/-- Entry `m` of a sequence with `p` zeros put before it and zeros after its end. -/
def sh (p : ℕ) (f : Fin 2048 → EReal) (m : ℕ) : EReal := if h : p ≤ m ∧ m - p < 2048 then f ⟨m - p, h.2⟩ else 0

/-- Entry `m` of a sequence, zero beyond its end. -/
def ext (f : Fin 2048 → EReal) (m : ℕ) : EReal := if h : m < 2048 then f ⟨m, h⟩ else 0

/-- The first convolution with its bias and rectification. -/
def conv1 (x : Fin 2 → Fin 2048 → EReal) (w : Fin 256 → Fin 2 → Fin 7 → EReal) (b : Fin 256 → EReal) (d : Fin 256) (t : Fin 2048) :
    EReal :=
  max ((∑ k : Fin 7, ∑ c : Fin 2, sh 3 (x c) (t.val + k.val) * w d c k) + b d) 0

/-- The second convolution with its bias. -/
def conv2 (h : Fin 256 → Fin 2048 → EReal) (w : Fin 64 → Fin 256 → Fin 9 → EReal) (b : Fin 64 → EReal) (o : Fin 64) (t : Fin 2048) :
    EReal :=
  (∑ k : Fin 9, ∑ c : Fin 256, sh 4 (h c) (t.val + k.val) * w o c k) + b o

/-- The squared distance of a row to row `j` of a codebook, in the expanded form both programs use. -/
def dist (r : Fin 64 → EReal) (cb : Fin 1024 → Fin 64 → EReal) (j : Fin 1024) : EReal :=
  (∑ k, r k * r k) - Ideal.ofBits .f32 0x40000000#32 * (∑ k, r k * cb j k) + ∑ k, cb j k * cb j k

/-- `j` is the first index where `f` is least. -/
def IsFirst (f : Fin 1024 → EReal) (j : Fin 1024) : Prop := (∀ i, f j ≤ f i) ∧ ∀ i, i < j → f j < f i

/-- There is a first index of the least value. -/
theorem exists_isFirst (f : Fin 1024 → EReal) : ∃ j, IsFirst f j := by
  obtain ⟨j0, -, h0⟩ := Finset.exists_min_image Finset.univ f ⟨0, Finset.mem_univ _⟩
  have hne : (Finset.univ.filter fun j => ∀ i, f j ≤ f i).Nonempty := ⟨j0, by simpa using fun i => h0 i (Finset.mem_univ _)⟩
  refine ⟨Finset.min' _ hne, (Finset.mem_filter.mp (Finset.min'_mem _ hne)).2, fun i hi => ?_⟩
  by_contra hlt
  rw [not_lt] at hlt
  have hm := (Finset.mem_filter.mp (Finset.min'_mem _ hne)).2
  have : i ∈ Finset.univ.filter fun j => ∀ i, f j ≤ f i :=
    Finset.mem_filter.mpr ⟨Finset.mem_univ _, fun k => hlt.trans (hm k)⟩
  exact absurd (Finset.min'_le _ _ this) (not_le.mpr hi)

/-- There is only one. -/
theorem IsFirst.unique {f : Fin 1024 → EReal} {i j : Fin 1024} (hi : IsFirst f i) (hj : IsFirst f j) : i = j := by
  rcases lt_trichotomy i j with h | h | h
  · exact absurd (hj.2 i h) (not_lt.mpr (hi.1 j))
  · exact h
  · exact absurd (hi.2 j h) (not_lt.mpr (hj.1 i))

/-- The first index where `f` is least. -/
def first (f : Fin 1024 → EReal) : Fin 1024 := (exists_isFirst f).choose

/-- `first` is the first index of the least value. -/
theorem first_spec (f : Fin 1024 → EReal) : IsFirst f (first f) := (exists_isFirst f).choose_spec

/-- A first index of the least value is `first`. -/
theorem IsFirst.eq {f : Fin 1024 → EReal} {j : Fin 1024} (h : IsFirst f j) : j = first f := h.unique (first_spec f)

/-! ## The two quantizer stages on one row -/

section row

variable (a b : Fin 1024 → Fin 64 → EReal) (z : Fin 64 → EReal)

/-- The first code. -/
def c0 : Fin 1024 := first (dist z a)
/-- The chosen codebook row less the row. -/
def d0 (k : Fin 64) : EReal := a (c0 a z) k - z k
/-- The first contribution. -/
def q0 (k : Fin 64) : EReal := z k + d0 a z k
/-- What the first stage leaves. -/
def r1 (k : Fin 64) : EReal := z k - q0 a z k
/-- The second code. -/
def c1 : Fin 1024 := first (dist (r1 a z) b)
/-- The second chosen row less what the first stage left. -/
def d1 (k : Fin 64) : EReal := b (c1 a b z) k - r1 a z k
/-- The quantized row. -/
def qs (k : Fin 64) : EReal := q0 a z k + (r1 a z k + d1 a b z k)

end row

/-! ## The predictor -/

/-- One output of the predictor: two layers over ten history rows. -/
def pred (h : Fin 10 → Fin 128 → EReal) (w3 : Fin 10 → Fin 128 → Fin 1280 → EReal) (b3 : Fin 1280 → EReal)
    (w4 : Fin 1280 → Fin 1280 → EReal) (b4 : Fin 1280 → EReal) (o : Fin 1280) : EReal :=
  (∑ d, max ((∑ i, ∑ k, h i k * w3 i k d) + b3 d) 0 * w4 d o) + b4 o

/-- The product sum of two rows. -/
def dot (u v : Fin 64 → EReal) : EReal := ∑ k, u k * v k

/-- The cosine of two rows less `s`. -/
def cosDiff (s : EReal) (u v : Fin 64 → EReal) : EReal :=
  Ideal.div (dot u v) (max (Ideal.sqrt (dot u u)) (Ideal.ofBits .f32 0x322BCC77#32) *
    max (Ideal.sqrt (dot v v)) (Ideal.ofBits .f32 0x322BCC77#32)) - s

/-- Zero or one, by a decidable proposition. -/
def ind (p : Prop) [Decidable p] : EReal := if p then 1 else 0

/-- A sum over nine indices written out. -/
theorem sum9 {M : Type} [AddCommMonoid M] (f : Fin 9 → M) : ∑ k, f k = f 0 + f 1 + f 2 + f 3 + f 4 + f 5 + f 6 + f 7 + f 8 := by
  rw [Fin.sum_univ_castSucc, Fin.sum_univ_eight]; rfl

/-- A sum over ten indices written out. -/
theorem sum10 {M : Type} [AddCommMonoid M] (f : Fin 10 → M) :
    ∑ k, f k = f 0 + f 1 + f 2 + f 3 + f 4 + f 5 + f 6 + f 7 + f 8 + f 9 := by
  rw [Fin.sum_univ_castSucc, sum9]; rfl

/-- A sum over twenty indices written out. -/
theorem sum20 {M : Type} [AddCommMonoid M] (f : Fin 20 → M) :
    ∑ k, f k = f 0 + f 1 + f 2 + f 3 + f 4 + f 5 + f 6 + f 7 + f 8 + f 9 + f 10 + f 11 + f 12 + f 13 + f 14 + f 15 + f 16 + f 17
      + f 18 + f 19 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, sum10]
  rfl

end Cert.Spec

end
-- ==== Proof.Args.lean ====
/- The five results as functions of the arguments, over extended reals and free of either program. -/
module

public import proofs.«01_k».proof.Proof.Spec

@[expose] public section

set_option maxRecDepth 16384

noncomputable section

namespace Cert.Spec

open Idealize.ShloMosaic

/-- The arguments the results depend on. -/
structure Args where
  /-- The input rows: batch, channel, time. -/
  x : Fin 8 → Fin 2 → Fin 2048 → EReal
  /-- The first convolution's weights. -/
  w1 : Fin 256 → Fin 2 → Fin 7 → EReal
  /-- The first convolution's bias. -/
  e1 : Fin 256 → EReal
  /-- The second convolution's weights. -/
  w2 : Fin 64 → Fin 256 → Fin 9 → EReal
  /-- The second convolution's bias. -/
  e2 : Fin 64 → EReal
  /-- The predictor's first layer, output by input. -/
  w3 : Fin 1280 → Fin 1280 → EReal
  /-- The predictor's first bias. -/
  e3 : Fin 1280 → EReal
  /-- The predictor's second layer, output by input. -/
  w4 : Fin 1280 → Fin 1280 → EReal
  /-- The predictor's second bias. -/
  e4 : Fin 1280 → EReal
  /-- The code table. -/
  t : Fin 1024 → Fin 64 → EReal
  /-- The two codebooks. -/
  cb : Fin 2 → Fin 1024 → Fin 64 → EReal

/-- The arguments read off their arrays. -/
def argsOf (x : (⟨3, ![8, 2, 2048]⟩ : Shape).Idx → EReal) (w1 : (⟨3, ![256, 2, 7]⟩ : Shape).Idx → EReal)
    (e1 : (⟨1, ![256]⟩ : Shape).Idx → EReal) (w2 : (⟨3, ![64, 256, 9]⟩ : Shape).Idx → EReal) (e2 : (⟨1, ![64]⟩ : Shape).Idx → EReal)
    (w3 : (⟨2, ![1280, 1280]⟩ : Shape).Idx → EReal) (e3 : (⟨1, ![1280]⟩ : Shape).Idx → EReal)
    (w4 : (⟨2, ![1280, 1280]⟩ : Shape).Idx → EReal) (e4 : (⟨1, ![1280]⟩ : Shape).Idx → EReal)
    (t : (⟨2, ![1024, 64]⟩ : Shape).Idx → EReal) (cb : (⟨3, ![2, 1024, 64]⟩ : Shape).Idx → EReal) : Args where
  x b i s := x (ix3 b i s)
  w1 d i k := w1 (ix3 d i k)
  e1 d := e1 (ix1 d)
  w2 o i k := w2 (ix3 o i k)
  e2 o := e2 (ix1 o)
  w3 d i := w3 (ix2 d i)
  e3 d := e3 (ix1 d)
  w4 o d := w4 (ix2 o d)
  e4 o := e4 (ix1 o)
  t j k := t (ix2 j k)
  cb q j k := cb (ix3 q j k)

namespace Args

variable (A : Args)

/-- The encoded row of a batch at a time. -/
def z (b : Fin 8) (s : Fin 2048) (k : Fin 64) : EReal := conv2 (conv1 (A.x b) A.w1 A.e1) A.w2 A.e2 k s
/-- The first code of a row. -/
def code0 (b : Fin 8) (s : Fin 2048) : Fin 1024 := c0 (A.cb 0) (A.z b s)
/-- The second code of a row. -/
def code1 (b : Fin 8) (s : Fin 2048) : Fin 1024 := c1 (A.cb 0) (A.cb 1) (A.z b s)
/-- The quantized row. -/
def q (b : Fin 8) (s : Fin 2048) (k : Fin 64) : EReal := qs (A.cb 0) (A.cb 1) (A.z b s) k
/-- The history row: the quantized row and the code table's row at the first code. -/
def hist (b : Fin 8) (s : Fin 2048) (k : Fin 128) : EReal :=
  if h : k.val < 64 then A.q b s ⟨k.val, h⟩ else A.t (A.code0 b s) ⟨k.val - 64, by omega⟩
/-- One output of the predictor at a position. -/
def out (b : Fin 8) (n : Fin 2019) (o : Fin 1280) : EReal :=
  pred (fun r k => A.hist b ⟨n.val + r.val, by omega⟩ k) (fun r k d => A.w3 d ⟨128 * r.val + k.val, by omega⟩) A.e3
    (fun d o => A.w4 o d) A.e4 o
/-- Whether the first code stays the same after a position. -/
def same (b : Fin 8) (n : Fin 2019) : EReal :=
  ind (A.code0 b ⟨n.val + 10, by omega⟩ = A.code0 b ⟨n.val + 11, by omega⟩)
/-- The cosine of a target row and its prediction, less the indicator. -/
def sim (b : Fin 8) (n : Fin 2019) (p : Fin 20) : EReal :=
  cosDiff (A.same b n) (A.q b ⟨n.val + p.val + 10, by omega⟩) (fun k => A.out b n ⟨64 * p.val + k.val, by omega⟩)
/-- The group loss. -/
def group : EReal := Ideal.div (∑ b, ∑ n, ∑ p, A.sim b n p * A.sim b n p) (Ideal.ofBits .f32 0x489DBC00#32)
/-- The first stage's share of the quantization loss. -/
def vq0 : EReal :=
  Ideal.div (∑ b, ∑ s, ∑ k, d0 (A.cb 0) (A.z b s) k * d0 (A.cb 0) (A.z b s) k) (Ideal.ofBits .f32 0x49800000#32)
/-- The second stage's share of the quantization loss. -/
def vq1 : EReal :=
  Ideal.div (∑ b, ∑ s, ∑ k, d1 (A.cb 0) (A.cb 1) (A.z b s) k * d1 (A.cb 0) (A.cb 1) (A.z b s) k)
    (Ideal.ofBits .f32 0x49800000#32)
/-- The quantization loss. -/
def vq : EReal := Ideal.ofBits .f32 0x3F000000#32 * (A.vq0 + A.vq1)
/-- The smoothness loss: how often the first code changes. -/
def smooth : EReal :=
  Ideal.div (∑ b, ∑ n : Fin 2047, ind (A.code0 b ⟨1 + n.val, by omega⟩ ≠ A.code0 b ⟨n.val, by omega⟩))
    (Ideal.ofBits .f32 0x467FE000#32)
/-- The loss. -/
def loss : EReal :=
  A.group * Ideal.ofBits .f32 0x3F800000#32 + A.vq * Ideal.ofBits .f32 0x3E800000#32
    + A.smooth * Ideal.ofBits .f32 0x3DCCCCCD#32

end Args

end Cert.Spec

end
-- ==== Proof.KEnc.lean ====
/- The encoder region: what one grid point leaves in its block, as a composition of few vector operations. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline

/-- The rows moved for tap 0 of 7, zero rows moving in. -/
def in0 (x : FVec Ideal S2048x2 .f32) : FVec Ideal S2048x2 .f32 :=
  concatenate S2048x2 0 [⟨S3x2, broadcast S3x2 (Scalar.ofBits (F := Ideal) .f32 0x00000000#32)⟩,
    ⟨S2045x2, extractStridedSlice S2045x2 ![0, 0] x slices_S2048x2_o0_0_S2045x2⟩] concatenates_S3x2_S2045x2_S2048x2_d0
/-- The rows moved for tap 1 of 7, zero rows moving in. -/
def in1 (x : FVec Ideal S2048x2 .f32) : FVec Ideal S2048x2 .f32 :=
  concatenate S2048x2 0 [⟨S2x2, broadcast S2x2 (Scalar.ofBits (F := Ideal) .f32 0x00000000#32)⟩,
    ⟨S2046x2, extractStridedSlice S2046x2 ![0, 0] x slices_S2048x2_o0_0_S2046x2⟩] concatenates_S2x2_S2046x2_S2048x2_d0
/-- The rows moved for tap 2 of 7, zero rows moving in. -/
def in2 (x : FVec Ideal S2048x2 .f32) : FVec Ideal S2048x2 .f32 :=
  concatenate S2048x2 0 [⟨S1x2, broadcast S1x2 (Scalar.ofBits (F := Ideal) .f32 0x00000000#32)⟩,
    ⟨S2047x2, extractStridedSlice S2047x2 ![0, 0] x slices_S2048x2_o0_0_S2047x2⟩] concatenates_S1x2_S2047x2_S2048x2_d0
/-- The rows moved for tap 3 of 7, zero rows moving in. -/
def in3 (x : FVec Ideal S2048x2 .f32) : FVec Ideal S2048x2 .f32 :=
  x
/-- The rows moved for tap 4 of 7, zero rows moving in. -/
def in4 (x : FVec Ideal S2048x2 .f32) : FVec Ideal S2048x2 .f32 :=
  concatenate S2048x2 0 [⟨S2047x2, extractStridedSlice S2047x2 ![1, 0] x slices_S2048x2_o1_0_S2047x2⟩,
    ⟨S1x2, broadcast S1x2 (Scalar.ofBits (F := Ideal) .f32 0x00000000#32)⟩] concatenates_S2047x2_S1x2_S2048x2_d0
/-- The rows moved for tap 5 of 7, zero rows moving in. -/
def in5 (x : FVec Ideal S2048x2 .f32) : FVec Ideal S2048x2 .f32 :=
  concatenate S2048x2 0 [⟨S2046x2, extractStridedSlice S2046x2 ![2, 0] x slices_S2048x2_o2_0_S2046x2⟩,
    ⟨S2x2, broadcast S2x2 (Scalar.ofBits (F := Ideal) .f32 0x00000000#32)⟩] concatenates_S2046x2_S2x2_S2048x2_d0
/-- The rows moved for tap 6 of 7, zero rows moving in. -/
def in6 (x : FVec Ideal S2048x2 .f32) : FVec Ideal S2048x2 .f32 :=
  concatenate S2048x2 0 [⟨S2045x2, extractStridedSlice S2045x2 ![3, 0] x slices_S2048x2_o3_0_S2045x2⟩,
    ⟨S3x2, broadcast S3x2 (Scalar.ofBits (F := Ideal) .f32 0x00000000#32)⟩] concatenates_S2045x2_S3x2_S2048x2_d0

/-- The rows moved for tap 0 of 9, zero rows moving in. -/
def mid0 (x : FVec Ideal S2048x256 .f32) : FVec Ideal S2048x256 .f32 :=
  concatenate S2048x256 0 [⟨S4x256, broadcast S4x256 (Scalar.ofBits (F := Ideal) .f32 0x00000000#32)⟩,
    ⟨S2044x256, extractStridedSlice S2044x256 ![0, 0] x slices_S2048x256_o0_0_S2044x256⟩] concatenates_S4x256_S2044x256_S2048x256_d0
/-- The rows moved for tap 1 of 9, zero rows moving in. -/
def mid1 (x : FVec Ideal S2048x256 .f32) : FVec Ideal S2048x256 .f32 :=
  concatenate S2048x256 0 [⟨S3x256, broadcast S3x256 (Scalar.ofBits (F := Ideal) .f32 0x00000000#32)⟩,
    ⟨S2045x256, extractStridedSlice S2045x256 ![0, 0] x slices_S2048x256_o0_0_S2045x256⟩] concatenates_S3x256_S2045x256_S2048x256_d0
/-- The rows moved for tap 2 of 9, zero rows moving in. -/
def mid2 (x : FVec Ideal S2048x256 .f32) : FVec Ideal S2048x256 .f32 :=
  concatenate S2048x256 0 [⟨S2x256, broadcast S2x256 (Scalar.ofBits (F := Ideal) .f32 0x00000000#32)⟩,
    ⟨S2046x256, extractStridedSlice S2046x256 ![0, 0] x slices_S2048x256_o0_0_S2046x256⟩] concatenates_S2x256_S2046x256_S2048x256_d0
/-- The rows moved for tap 3 of 9, zero rows moving in. -/
def mid3 (x : FVec Ideal S2048x256 .f32) : FVec Ideal S2048x256 .f32 :=
  concatenate S2048x256 0 [⟨S1x256, broadcast S1x256 (Scalar.ofBits (F := Ideal) .f32 0x00000000#32)⟩,
    ⟨S2047x256, extractStridedSlice S2047x256 ![0, 0] x slices_S2048x256_o0_0_S2047x256⟩] concatenates_S1x256_S2047x256_S2048x256_d0
/-- The rows moved for tap 4 of 9, zero rows moving in. -/
def mid4 (x : FVec Ideal S2048x256 .f32) : FVec Ideal S2048x256 .f32 :=
  x
/-- The rows moved for tap 5 of 9, zero rows moving in. -/
def mid5 (x : FVec Ideal S2048x256 .f32) : FVec Ideal S2048x256 .f32 :=
  concatenate S2048x256 0 [⟨S2047x256, extractStridedSlice S2047x256 ![1, 0] x slices_S2048x256_o1_0_S2047x256⟩,
    ⟨S1x256, broadcast S1x256 (Scalar.ofBits (F := Ideal) .f32 0x00000000#32)⟩] concatenates_S2047x256_S1x256_S2048x256_d0
/-- The rows moved for tap 6 of 9, zero rows moving in. -/
def mid6 (x : FVec Ideal S2048x256 .f32) : FVec Ideal S2048x256 .f32 :=
  concatenate S2048x256 0 [⟨S2046x256, extractStridedSlice S2046x256 ![2, 0] x slices_S2048x256_o2_0_S2046x256⟩,
    ⟨S2x256, broadcast S2x256 (Scalar.ofBits (F := Ideal) .f32 0x00000000#32)⟩] concatenates_S2046x256_S2x256_S2048x256_d0
/-- The rows moved for tap 7 of 9, zero rows moving in. -/
def mid7 (x : FVec Ideal S2048x256 .f32) : FVec Ideal S2048x256 .f32 :=
  concatenate S2048x256 0 [⟨S2045x256, extractStridedSlice S2045x256 ![3, 0] x slices_S2048x256_o3_0_S2045x256⟩,
    ⟨S3x256, broadcast S3x256 (Scalar.ofBits (F := Ideal) .f32 0x00000000#32)⟩] concatenates_S2045x256_S3x256_S2048x256_d0
/-- The rows moved for tap 8 of 9, zero rows moving in. -/
def mid8 (x : FVec Ideal S2048x256 .f32) : FVec Ideal S2048x256 .f32 :=
  concatenate S2048x256 0 [⟨S2044x256, extractStridedSlice S2044x256 ![4, 0] x slices_S2048x256_o4_0_S2044x256⟩,
    ⟨S4x256, broadcast S4x256 (Scalar.ofBits (F := Ideal) .f32 0x00000000#32)⟩] concatenates_S2044x256_S4x256_S2048x256_d0

/-- One tap's product of the first convolution, added to the sum so far. -/
def tap1 (acc : FVec Ideal S2048x256 .f32) (x : FVec Ideal S2048x2 .f32) (w : Vec Ideal S1x2x256 .f32) : FVec Ideal S2048x256 .f32 :=
  addf acc (matmul dot_S2048x2_S2x256_S2048x256_1_0_0_1_n_n none x
    (shapeCast (α := Ideal .f32) S2x256 w shapeCasts_S1x2x256_S2x256) (constant S2048x256 .f32 0x00000000#32))
/-- One tap's product of the second convolution, added to the sum so far. -/
def tap2 (acc : FVec Ideal S2048x64 .f32) (x : FVec Ideal S2048x256 .f32) (w : Vec Ideal S1x256x64 .bf16) : FVec Ideal S2048x64 .f32 :=
  addf acc (matmul dot_S2048x256_S256x64_S2048x64_1_0_0_1_n_n none x
    (φ₂ := .bf16) (shapeCast (α := Ideal .bf16) S256x64 w shapeCasts_S1x256x64_S256x64) (constant S2048x64 .f32 0x00000000#32))

/-- The first layer of the encoder. -/
def enc1 (x0 : Vec Ideal S1x2048x2 .f32) (w1 : Vec Ideal S7x2x256 .f32) (b1 : Vec Ideal S1x256 .f32) : FVec Ideal S2048x256 .f32 :=
  let x : FVec Ideal S2048x2 .f32 := shapeCast (α := Ideal .f32) S2048x2 x0 shapeCasts_S1x2048x2_S2048x2
  maximumf (addf (tap1 (tap1 (tap1 (tap1 (tap1 (tap1 (tap1 (broadcast S2048x256 (Scalar.ofBits .f32 0x00000000#32)) (in0 x) (View.ld w1 (Rect.unit ![0, 0, 0] S1x2x256.size inb_S7x2x256_S1x2x256_0_0_0))) (in1 x) (View.ld w1 (Rect.unit ![1, 0, 0] S1x2x256.size inb_S7x2x256_S1x2x256_1_0_0))) (in2 x) (View.ld w1 (Rect.unit ![2, 0, 0] S1x2x256.size inb_S7x2x256_S1x2x256_2_0_0))) (in3 x) (View.ld w1 (Rect.unit ![3, 0, 0] S1x2x256.size inb_S7x2x256_S1x2x256_3_0_0))) (in4 x) (View.ld w1 (Rect.unit ![4, 0, 0] S1x2x256.size inb_S7x2x256_S1x2x256_4_0_0))) (in5 x) (View.ld w1 (Rect.unit ![5, 0, 0] S1x2x256.size inb_S7x2x256_S1x2x256_5_0_0))) (in6 x) (View.ld w1 (Rect.unit ![6, 0, 0] S1x2x256.size inb_S7x2x256_S1x2x256_6_0_0)))
    (broadcastTo S2048x256 (shapeCast (α := Ideal .f32) S1x256 b1 shapeCasts_S1x256_S1x256) broadcasts_S1x256_S2048x256))
    (broadcast S2048x256 (Scalar.ofBits .f32 0x00000000#32))
/-- The second layer of the encoder. -/
def enc2 (x : FVec Ideal S2048x256 .f32) (w2 : Vec Ideal S9x256x64 .bf16) (b2 : Vec Ideal S1x64 .f32) : FVec Ideal S2048x64 .f32 :=
  addf (tap2 (tap2 (tap2 (tap2 (tap2 (tap2 (tap2 (tap2 (tap2 (broadcast S2048x64 (Scalar.ofBits .f32 0x00000000#32)) (mid0 x) (View.ld w2 (Rect.unit ![0, 0, 0] S1x256x64.size inb_S9x256x64_S1x256x64_0_0_0))) (mid1 x) (View.ld w2 (Rect.unit ![1, 0, 0] S1x256x64.size inb_S9x256x64_S1x256x64_1_0_0))) (mid2 x) (View.ld w2 (Rect.unit ![2, 0, 0] S1x256x64.size inb_S9x256x64_S1x256x64_2_0_0))) (mid3 x) (View.ld w2 (Rect.unit ![3, 0, 0] S1x256x64.size inb_S9x256x64_S1x256x64_3_0_0))) (mid4 x) (View.ld w2 (Rect.unit ![4, 0, 0] S1x256x64.size inb_S9x256x64_S1x256x64_4_0_0))) (mid5 x) (View.ld w2 (Rect.unit ![5, 0, 0] S1x256x64.size inb_S9x256x64_S1x256x64_5_0_0))) (mid6 x) (View.ld w2 (Rect.unit ![6, 0, 0] S1x256x64.size inb_S9x256x64_S1x256x64_6_0_0))) (mid7 x) (View.ld w2 (Rect.unit ![7, 0, 0] S1x256x64.size inb_S9x256x64_S1x256x64_7_0_0))) (mid8 x) (View.ld w2 (Rect.unit ![8, 0, 0] S1x256x64.size inb_S9x256x64_S1x256x64_8_0_0)))
    (broadcastTo S2048x64 (shapeCast (α := Ideal .f32) S1x64 b2 shapeCasts_S1x64_S1x64) broadcasts_S1x64_S2048x64)

variable (V : ∀ c : Dev nD, (b : Ref sig .tc) → b.ty.Contents (Elt Ideal)) (c : Dev nD) (t : Fin cfg0.N)

set_option maxHeartbeats 1000000 in
/-- The encoder's block after grid point `t`, spelt out. -/
theorem encBlk : (dat0 V c).after 5 t
    = shapeCast S1x2048x64 (enc2 (enc1 (iblk0 V c 0 t) (iblk0 V c 1 t) (iblk0 V c 2 t)) (iblk0 V c 3 t) (iblk0 V c 4 t))
      shapeCasts_S2048x64_S1x2048x64 := by
  funext y
  rw [after0_5]
  unfold_out out0_5
  frame_out
  exact congrFun (rfl : _ = shapeCast S1x2048x64 (enc2 (enc1 (iblk0 V c 0 t) (iblk0 V c 1 t) (iblk0 V c 2 t)) (iblk0 V c 3 t) (iblk0 V c 4 t)) shapeCasts_S2048x64_S1x2048x64) y

end Cert.KernelIdeal.Val

end
-- ==== Proof.KEncRead.lean ====
/- The encoder region's array, entry by entry. -/
module

public import proofs.«01_k».proof.Proof.KEnc
public import proofs.«01_k».proof.Proof.Spec

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline
open Idealize.ShloMosaic.Pointwise

/-- The input shifted for tap 0. -/
theorem in0_apply (x : FVec Ideal S2048x2 .f32) (t : Fin 2048) (i : Fin 2) :
    in0 x (ix2 t i) = Spec.sh 3 (fun s => x (ix2 s i)) (t.val + 0) := by
  pointwise [in0]
  unfold Spec.sh
  split
  · rw [dif_neg (by omega)]
  · rw [dif_pos (by omega)]
    all_goals congr 2 <;> (ext; simp only [] <;> omega)
/-- The input shifted for tap 1. -/
theorem in1_apply (x : FVec Ideal S2048x2 .f32) (t : Fin 2048) (i : Fin 2) :
    in1 x (ix2 t i) = Spec.sh 3 (fun s => x (ix2 s i)) (t.val + 1) := by
  pointwise [in1]
  unfold Spec.sh
  split
  · rw [dif_neg (by omega)]
  · rw [dif_pos (by omega)]
    congr 2 <;> (ext; simp only [] <;> omega)
/-- The input shifted for tap 2. -/
theorem in2_apply (x : FVec Ideal S2048x2 .f32) (t : Fin 2048) (i : Fin 2) :
    in2 x (ix2 t i) = Spec.sh 3 (fun s => x (ix2 s i)) (t.val + 2) := by
  pointwise [in2]
  unfold Spec.sh
  split
  · rw [dif_neg (by omega)]
  · rw [dif_pos (by omega)]
    congr 2 <;> (ext; simp only [] <;> omega)
/-- The input shifted for tap 3. -/
theorem in3_apply (x : FVec Ideal S2048x2 .f32) (t : Fin 2048) (i : Fin 2) :
    in3 x (ix2 t i) = Spec.sh 3 (fun s => x (ix2 s i)) (t.val + 3) := by
  pointwise [in3]
  unfold Spec.sh
  rw [dif_pos (by omega)]
  congr 2 <;> (ext; simp)
/-- The input shifted for tap 4. -/
theorem in4_apply (x : FVec Ideal S2048x2 .f32) (t : Fin 2048) (i : Fin 2) :
    in4 x (ix2 t i) = Spec.sh 3 (fun s => x (ix2 s i)) (t.val + 4) := by
  pointwise [in4]
  unfold Spec.sh
  split
  · rw [dif_pos (by omega)]
    congr 2 <;> (ext; simp only [] <;> omega)
  · rw [dif_neg (by omega)]
/-- The input shifted for tap 5. -/
theorem in5_apply (x : FVec Ideal S2048x2 .f32) (t : Fin 2048) (i : Fin 2) :
    in5 x (ix2 t i) = Spec.sh 3 (fun s => x (ix2 s i)) (t.val + 5) := by
  pointwise [in5]
  unfold Spec.sh
  split
  · rw [dif_pos (by omega)]
    congr 2 <;> (ext; simp only [] <;> omega)
  · rw [dif_neg (by omega)]
/-- The input shifted for tap 6. -/
theorem in6_apply (x : FVec Ideal S2048x2 .f32) (t : Fin 2048) (i : Fin 2) :
    in6 x (ix2 t i) = Spec.sh 3 (fun s => x (ix2 s i)) (t.val + 6) := by
  pointwise [in6]
  unfold Spec.sh
  split
  · rw [dif_pos (by omega)]
    congr 2 <;> (ext; simp only [] <;> omega)
  · rw [dif_neg (by omega)]
/-- The first layer shifted for tap 0. -/
theorem mid0_apply (x : FVec Ideal S2048x256 .f32) (t : Fin 2048) (i : Fin 256) :
    mid0 x (ix2 t i) = Spec.sh 4 (fun s => x (ix2 s i)) (t.val + 0) := by
  pointwise [mid0]
  unfold Spec.sh
  split
  · rw [dif_neg (by omega)]
  · rw [dif_pos (by omega)]
    all_goals congr 2 <;> (ext; simp only [] <;> omega)
/-- The first layer shifted for tap 1. -/
theorem mid1_apply (x : FVec Ideal S2048x256 .f32) (t : Fin 2048) (i : Fin 256) :
    mid1 x (ix2 t i) = Spec.sh 4 (fun s => x (ix2 s i)) (t.val + 1) := by
  pointwise [mid1]
  unfold Spec.sh
  split
  · rw [dif_neg (by omega)]
  · rw [dif_pos (by omega)]
    congr 2 <;> (ext; simp only [] <;> omega)
/-- The first layer shifted for tap 2. -/
theorem mid2_apply (x : FVec Ideal S2048x256 .f32) (t : Fin 2048) (i : Fin 256) :
    mid2 x (ix2 t i) = Spec.sh 4 (fun s => x (ix2 s i)) (t.val + 2) := by
  pointwise [mid2]
  unfold Spec.sh
  split
  · rw [dif_neg (by omega)]
  · rw [dif_pos (by omega)]
    congr 2 <;> (ext; simp only [] <;> omega)
/-- The first layer shifted for tap 3. -/
theorem mid3_apply (x : FVec Ideal S2048x256 .f32) (t : Fin 2048) (i : Fin 256) :
    mid3 x (ix2 t i) = Spec.sh 4 (fun s => x (ix2 s i)) (t.val + 3) := by
  pointwise [mid3]
  unfold Spec.sh
  split
  · rw [dif_neg (by omega)]
  · rw [dif_pos (by omega)]
    congr 2 <;> (ext; simp only [] <;> omega)
/-- The first layer shifted for tap 4. -/
theorem mid4_apply (x : FVec Ideal S2048x256 .f32) (t : Fin 2048) (i : Fin 256) :
    mid4 x (ix2 t i) = Spec.sh 4 (fun s => x (ix2 s i)) (t.val + 4) := by
  pointwise [mid4]
  unfold Spec.sh
  rw [dif_pos (by omega)]
  congr 2 <;> (ext; simp)
/-- The first layer shifted for tap 5. -/
theorem mid5_apply (x : FVec Ideal S2048x256 .f32) (t : Fin 2048) (i : Fin 256) :
    mid5 x (ix2 t i) = Spec.sh 4 (fun s => x (ix2 s i)) (t.val + 5) := by
  pointwise [mid5]
  unfold Spec.sh
  split
  · rw [dif_pos (by omega)]
    congr 2 <;> (ext; simp only [] <;> omega)
  · rw [dif_neg (by omega)]
/-- The first layer shifted for tap 6. -/
theorem mid6_apply (x : FVec Ideal S2048x256 .f32) (t : Fin 2048) (i : Fin 256) :
    mid6 x (ix2 t i) = Spec.sh 4 (fun s => x (ix2 s i)) (t.val + 6) := by
  pointwise [mid6]
  unfold Spec.sh
  split
  · rw [dif_pos (by omega)]
    congr 2 <;> (ext; simp only [] <;> omega)
  · rw [dif_neg (by omega)]
/-- The first layer shifted for tap 7. -/
theorem mid7_apply (x : FVec Ideal S2048x256 .f32) (t : Fin 2048) (i : Fin 256) :
    mid7 x (ix2 t i) = Spec.sh 4 (fun s => x (ix2 s i)) (t.val + 7) := by
  pointwise [mid7]
  unfold Spec.sh
  split
  · rw [dif_pos (by omega)]
    congr 2 <;> (ext; simp only [] <;> omega)
  · rw [dif_neg (by omega)]
/-- The first layer shifted for tap 8. -/
theorem mid8_apply (x : FVec Ideal S2048x256 .f32) (t : Fin 2048) (i : Fin 256) :
    mid8 x (ix2 t i) = Spec.sh 4 (fun s => x (ix2 s i)) (t.val + 8) := by
  pointwise [mid8]
  unfold Spec.sh
  split
  · rw [dif_pos (by omega)]
    congr 2 <;> (ext; simp only [] <;> omega)
  · rw [dif_neg (by omega)]

/-- The first layer at row `t`, channel `d`. -/
theorem enc1_apply (x0 w1 b1) (t : Fin 2048) (d : Fin 256) :
    enc1 x0 w1 b1 (ix2 t d) = Spec.conv1 (fun c s => x0 (ix3 0 s c)) (fun d c k => w1 (ix3 k c d)) (fun d => b1 (ix2 0 d)) d t := by
  pointwise [enc1, tap1]
  simp only [in0_apply, in1_apply, in2_apply, in3_apply, in4_apply, in5_apply, in6_apply]
  pointwise!
  unfold Spec.conv1
  rw [Fin.sum_univ_seven]
  rfl

/-- The second layer at row `t`, channel `o`. -/
theorem enc2_apply (x w2 b2) (t : Fin 2048) (o : Fin 64) :
    enc2 x w2 b2 (ix2 t o) = Spec.conv2 (fun c s => x (ix2 s c)) (fun o c k => w2 (ix3 k c o)) (fun o => b2 (ix2 0 o)) o t := by
  pointwise [enc2, tap2]
  simp only [mid0_apply, mid1_apply, mid2_apply, mid3_apply, mid4_apply, mid5_apply, mid6_apply, mid7_apply, mid8_apply]
  unfold Spec.conv2
  rw [Spec.sum9]
  rfl

variable (V : ∀ c : Dev nD, (b : Ref sig .tc) → b.ty.Contents (Elt Ideal)) (c : Dev nD)

/-- Where each window stands at each grid point. -/
theorem win0_index : ∀ t : Fin cfg0.N, win0_0.index t = ![t.val, 0, 0] ∧ win0_1.index t = ![0, 0, 0] ∧ win0_2.index t = ![0, 0]
    ∧ win0_3.index t = ![0, 0, 0] ∧ win0_4.index t = ![0, 0] ∧ win0_5.index t = ![t.val, 0, 0] := by decide +kernel

/-- The batch a grid point works on. -/
def b0 (t : Fin cfg0.N) : Fin 8 := ⟨t.val, t.isLt⟩

/-- The region's block of operand 0. -/
theorem iblk0_0_apply (t : Fin cfg0.N) (s : Fin 2048) (i : Fin 2) : iblk0 V c 0 t (ix3 0 s i) = V c main_v0 (ix3 (b0 t) s i) := by
  have hb : (b0 t).val = t.val := rfl
  blk_ext [iblk0, win0_index t]
/-- The region's block of operand 1. -/
theorem iblk0_1_apply (t : Fin cfg0.N) (k : Fin 7) (i : Fin 2) (d : Fin 256) :
    iblk0 V c 1 t (ix3 k i d) = V c main_v1 (ix3 k i d) := by
  blk_ext [iblk0, win0_index t]
/-- The region's block of operand 2. -/
theorem iblk0_2_apply (t : Fin cfg0.N) (d : Fin 256) : iblk0 V c 2 t (ix2 0 d) = V c main_v4 (ix2 0 d) := by
  blk_ext [iblk0, win0_index t]
/-- The region's block of operand 3. -/
theorem iblk0_3_apply (t : Fin cfg0.N) (k : Fin 9) (i : Fin 256) (o : Fin 64) :
    iblk0 V c 3 t (ix3 k i o) = V c main_v3 (ix3 k i o) := by
  blk_ext [iblk0, win0_index t]
/-- The region's block of operand 4. -/
theorem iblk0_4_apply (t : Fin cfg0.N) (o : Fin 64) : iblk0 V c 4 t (ix2 0 o) = V c main_v5 (ix2 0 o) := by
  blk_ext [iblk0, win0_index t]
/-- Where the region's block lies in its array. -/
theorem emb0_5 (t : Fin cfg0.N) (s : Fin 2048) (o : Fin 64) :
    ((View.whole main_v6).slice (win0_5.rect t)).emb (ix3 0 s o) = ix3 (b0 t) s o := by
  have hb : (b0 t).val = t.val := rfl
  blk_ext [win0_index t]

/-- The encoder's whole array, as the two convolutions of the region's operands. -/
def encArr : S8x2048x64.Idx → EReal := fun j =>
  Spec.conv2 (fun d => Spec.conv1 (fun i s => V c main_v0 (ix3 (j 0) s i)) (fun d i k => V c main_v1 (ix3 k i d))
    (fun d => V c main_v4 (ix2 0 d)) d) (fun o i k => V c main_v3 (ix3 k i o)) (fun o => V c main_v5 (ix2 0 o)) (j 2) (j 1)

/-- The array the encoder region leaves. -/
theorem encArr_eq : (dat0 V c).arrAt 5 cfg0.N = encArr V c := by
  refine (dat0 V c).arrAt_eq_of_covers 5 _ (by decide +kernel) fun t hf y => ?_
  blk_simp
  rw [encBlk]
  idx_vars y
  obtain rfl : y0 = 0 := Subsingleton.elim _ _
  rw [emb0_5]
  pointwise!
  rw [enc2_apply]
  simp only [enc1_apply, iblk0_0_apply, iblk0_1_apply, iblk0_2_apply, iblk0_3_apply, iblk0_4_apply]
  rfl

end Cert.KernelIdeal.Val

end
-- ==== Proof.KVq.lean ====
/- The quantizer region: what one grid point leaves in its four blocks, as a composition of few vector operations. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline

/-- The first of the three summands of a table. -/
def part1 (t : FVec Ideal S1024x64 .f32) : FVec Ideal S1024x64 .bf16 := truncf .bf16 t bitsLt_bf16_f32
/-- What the first summand leaves. -/
def rest1 (t : FVec Ideal S1024x64 .f32) : FVec Ideal S1024x64 .f32 := subf t (extf .f32 (part1 t) bitsLt_bf16_f32)
/-- The second summand. -/
def part2 (t : FVec Ideal S1024x64 .f32) : FVec Ideal S1024x64 .bf16 := truncf .bf16 (rest1 t) bitsLt_bf16_f32
/-- The third summand. -/
def part3 (t : FVec Ideal S1024x64 .f32) : FVec Ideal S1024x64 .bf16 :=
  truncf .bf16 (subf (rest1 t) (extf .f32 (part2 t) bitsLt_bf16_f32)) bitsLt_bf16_f32
/-- Two summands side by side. -/
def beside (a b : FVec Ideal S1024x64 .bf16) : FVec Ideal S1024x128 .bf16 :=
  concatenate S1024x128 1 [⟨S1024x64, a⟩, ⟨S1024x64, b⟩] concatenates_S1024x64_S1024x64_S1024x128_d1

/-- The column numbers. -/
def colNo : IVec S512x1024 32 := iota .tc S512x1024 32 [1] iota_S512x1024_d1_w32

/-- Squared distances of a block of rows to the rows of a transposed codebook. -/
def vqDist (r : FVec Ideal S512x64 .f32) (t : FVec Ideal S64x1024 .f32) : FVec Ideal S512x1024 .f32 :=
  addf (subf (broadcastTo S512x1024 (shapeCast S512x1 (multiReduction .add [1] S512 (mulf r r) 0x00000000#32 reduces_S512x64_S512
        (.inl rfl) rfl) shapeCasts_S512_S512x1) broadcasts_S512x1_S512x1024)
      (mulf (broadcast S512x1024 (Scalar.ofBits .f32 0x40000000#32))
        (matmul dot_S512x64_S64x1024_S512x1024_1_0_0_1_n_n none r t (constant S512x1024 .f32 0x00000000#32))))
    (broadcastTo S512x1024 (shapeCast S1x1024 (multiReduction .add [0] S1024 (mulf t t) 0x00000000#32 reduces_S64x1024_S1024
      (.inl rfl) rfl) shapeCasts_S1024_S1x1024) broadcasts_S1x1024_S512x1024)

/-- The first column where a row has its least entry. -/
def vqIdx (d : FVec Ideal S512x1024 .f32) : IVec S512x1 32 :=
  shapeCast S512x1 (multiReductionI .minsi [1] S512 (select (cmpf .oeq d (broadcastTo S512x1024 (shapeCast S512x1
    (multiReduction .minimumf [1] S512 d 0x7F800000#32 reduces_S512x1024_S512 (.inl rfl) rfl) shapeCasts_S512_S512x1)
    broadcasts_S512x1_S512x1024)) colNo (broadcast S512x1024 1024#32)) 2147483647#32 reduces_S512x1024_S512 rfl) shapeCasts_S512_S512x1

/-- The rows with a one at the given column. -/
def oneHot (i : IVec S512x1 32) : FVec Ideal S512x1024 .bf16 :=
  truncf .bf16 (sitofp (F := Ideal) .f32 (extui 32 (cmpi .eq colNo (broadcastTo S512x1024 i broadcasts_S512x1_S512x1024)) natLt_1_32))
    bitsLt_bf16_f32

/-- The rows of a doubled table picked by a one-hot block. -/
def pick2 (oh : FVec Ideal S512x1024 .bf16) (t : FVec Ideal S1024x128 .bf16) : FVec Ideal S512x128 .f32 :=
  matmul dot_S512x1024_S1024x128_S512x128_1_0_0_1_n_n none oh t (constant S512x128 .f32 0x00000000#32)
/-- The rows of a table picked by a one-hot block. -/
def pick1 (oh : FVec Ideal S512x1024 .bf16) (t : FVec Ideal S1024x64 .bf16) : FVec Ideal S512x64 .f32 :=
  matmul dot_S512x1024_S1024x64_S512x64_1_0_0_1_n_n none oh t (constant S512x64 .f32 0x00000000#32)
/-- The left half of a doubled row. -/
def left (p : FVec Ideal S512x128 .f32) : FVec Ideal S512x64 .f32 := extractStridedSlice S512x64 ![0, 0] p slices_S512x128_o0_0_S512x64
/-- The right half of a doubled row. -/
def right (p : FVec Ideal S512x128 .f32) : FVec Ideal S512x64 .f32 := extractStridedSlice S512x64 ![0, 64] p slices_S512x128_o0_64_S512x64

/-- Column sums of squares, as a row. -/
def colSq (d : FVec Ideal S512x64 .f32) : FVec Ideal S1x64 .f32 :=
  shapeCast S1x64 (multiReduction .add [0] S64 (mulf d d) 0x00000000#32 reduces_S512x64_S64 (.inl rfl) rfl) shapeCasts_S64_S1x64

section chunk

variable (a b t : FVec Ideal S1024x64 .f32) (at' bt : FVec Ideal S64x1024 .f32) (z : FVec Ideal S512x64 .f32)

/-- The first stage's codes of a chunk. -/
def code0 : IVec S512x1 32 := vqIdx (vqDist z at')
/-- The first stage's difference: the chosen rows less the chunk. -/
def diff0 : FVec Ideal S512x64 .f32 :=
  subf (addf (addf (left (pick2 (oneHot (code0 at' z)) (beside (part1 a) (part2 a))))
      (right (pick2 (oneHot (code0 at' z)) (beside (part1 a) (part2 a)))))
    (left (pick2 (oneHot (code0 at' z)) (beside (part3 a) (part1 t))))) z
/-- The first stage's contribution. -/
def quant0 : FVec Ideal S512x64 .f32 := addf z (diff0 a t at' z)
/-- What the first stage leaves. -/
def resid : FVec Ideal S512x64 .f32 := subf z (quant0 a t at' z)
/-- The second stage's codes. -/
def code1 : IVec S512x1 32 := vqIdx (vqDist (resid a t at' z) bt)
/-- The second stage's difference. -/
def diff1 : FVec Ideal S512x64 .f32 :=
  subf (addf (addf (left (pick2 (oneHot (code1 a t at' bt z)) (beside (part1 b) (part2 b))))
      (right (pick2 (oneHot (code1 a t at' bt z)) (beside (part1 b) (part2 b)))))
    (pick1 (oneHot (code1 a t at' bt z)) (part3 b))) (resid a t at' z)
/-- The quantized chunk: both contributions. -/
def quants : FVec Ideal S512x64 .f32 := addf (quant0 a t at' z) (addf (resid a t at' z) (diff1 a b t at' bt z))
/-- The code table's rows at the first stage's codes. -/
def embed : FVec Ideal S512x64 .f32 :=
  addf (addf (right (pick2 (oneHot (code0 at' z)) (beside (part3 a) (part1 t))))
      (left (pick2 (oneHot (code0 at' z)) (beside (part2 t) (part3 t)))))
    (right (pick2 (oneHot (code0 at' z)) (beside (part2 t) (part3 t))))

end chunk

/-- The number of rows whose code differs from the row before, laid in lane zero of an otherwise zero row. -/
def changes (i0 i1 i2 i3 : IVec S512x1 32) : FVec Ideal S1x64 .f32 :=
  let all : IVec S2048x1 32 := concatenate S2048x1 0 [⟨S512x1, i0⟩, ⟨S512x1, i1⟩, ⟨S512x1, i2⟩, ⟨S512x1, i3⟩]
    concatenates_S512x1_S512x1_S512x1_S512x1_S2048x1_d0
  let n : FVec Ideal S1 .f32 := multiReduction .add [0] S1 (sitofp (F := Ideal) .f32 (extui 32 (cmpi .ne
    (extractStridedSlice S2047x1 ![1, 0] all slices_S2048x1_o1_0_S2047x1)
    (extractStridedSlice S2047x1 ![0, 0] all slices_S2048x1_o0_0_S2047x1)) natLt_1_32)) 0x00000000#32 reduces_S2047x1_S1 (.inl rfl) rfl
  select (cmpi .eq (iota .tc S1x64 32 [1] iota_S1x64_d1_w32) (broadcast S1x64 0#32))
    (broadcastTo S1x64 (shapeCast S1x1 (shapeCast S1x1 n shapeCasts_S1_S1x1) shapeCasts_S1x1_S1x1) broadcasts_S1x1_S1x64)
    (broadcast S1x64 (Scalar.ofBits .f32 0x00000000#32))

/-- A codebook out of the pair of them. -/
def book0 (x : Vec Ideal S2x1024x64 .f32) : FVec Ideal S1024x64 .f32 :=
  shapeCast (α := Ideal .f32) S1024x64 (View.ld x (Rect.unit ![0, 0, 0] S1x1024x64.size inb_S2x1024x64_S1x1024x64_0_0_0)) shapeCasts_S1x1024x64_S1024x64
/-- The second codebook. -/
def book1 (x : Vec Ideal S2x1024x64 .f32) : FVec Ideal S1024x64 .f32 :=
  shapeCast (α := Ideal .f32) S1024x64 (View.ld x (Rect.unit ![1, 0, 0] S1x1024x64.size inb_S2x1024x64_S1x1024x64_1_0_0)) shapeCasts_S1x1024x64_S1024x64
/-- The first transposed codebook. -/
def tbook0 (x : Vec Ideal S2x64x1024 .f32) : FVec Ideal S64x1024 .f32 :=
  shapeCast (α := Ideal .f32) S64x1024 (View.ld x (Rect.unit ![0, 0, 0] S1x64x1024.size inb_S2x64x1024_S1x64x1024_0_0_0)) shapeCasts_S1x64x1024_S64x1024
/-- The second transposed codebook. -/
def tbook1 (x : Vec Ideal S2x64x1024 .f32) : FVec Ideal S64x1024 .f32 :=
  shapeCast (α := Ideal .f32) S64x1024 (View.ld x (Rect.unit ![1, 0, 0] S1x64x1024.size inb_S2x64x1024_S1x64x1024_1_0_0)) shapeCasts_S1x64x1024_S64x1024
/-- Chunk 0 of the rows. -/
def chunk0 (x : Vec Ideal S1x2048x64 .f32) : FVec Ideal S512x64 .f32 :=
  shapeCast (α := Ideal .f32) S512x64 (View.ld x (Rect.unit ![0, 0, 0] S1x512x64.size inb_S1x2048x64_S1x512x64_0_0_0)) shapeCasts_S1x512x64_S512x64
/-- Chunk 1 of the rows. -/
def chunk1 (x : Vec Ideal S1x2048x64 .f32) : FVec Ideal S512x64 .f32 :=
  shapeCast (α := Ideal .f32) S512x64 (View.ld x (Rect.unit ![0, 512, 0] S1x512x64.size inb_S1x2048x64_S1x512x64_0_512_0)) shapeCasts_S1x512x64_S512x64
/-- Chunk 2 of the rows. -/
def chunk2 (x : Vec Ideal S1x2048x64 .f32) : FVec Ideal S512x64 .f32 :=
  shapeCast (α := Ideal .f32) S512x64 (View.ld x (Rect.unit ![0, 1024, 0] S1x512x64.size inb_S1x2048x64_S1x512x64_0_1024_0)) shapeCasts_S1x512x64_S512x64
/-- Chunk 3 of the rows. -/
def chunk3 (x : Vec Ideal S1x2048x64 .f32) : FVec Ideal S512x64 .f32 :=
  shapeCast (α := Ideal .f32) S512x64 (View.ld x (Rect.unit ![0, 1536, 0] S1x512x64.size inb_S1x2048x64_S1x512x64_0_1536_0)) shapeCasts_S1x512x64_S512x64

variable (V : ∀ c : Dev nD, (b : Ref sig .tc) → b.ty.Contents (Elt Ideal)) (c : Dev nD) (t : Fin cfg1.N)

set_option maxHeartbeats 4000000 in
/-- The quantized block, store by store. -/
theorem quantBlk : (outsAt1 (F := Ideal) V c t).1
    = View.canon (Val := Elt Ideal) (s := S1x2080x64) (e := .f32) [⟨Rect.unit (s := S1x2080x64) ![0, 2048, 0] S1x32x64.size inb_S1x2080x64_S1x32x64_0_2048_0, shapeCast S1x32x64 (broadcast S32x64 (Scalar.ofBits (F := Ideal) .f32 0x00000000#32)) shapeCasts_S32x64_S1x32x64⟩,
        ⟨Rect.unit (s := S1x2080x64) ![0, 1536, 0] S1x512x64.size inb_S1x2080x64_S1x512x64_0_1536_0, shapeCast S1x512x64 (quants (book0 (iblk1 V c 2 t)) (book1 (iblk1 V c 2 t)) (iblk1 V c 3 t) (tbook0 (iblk1 V c 1 t)) (tbook1 (iblk1 V c 1 t)) (chunk3 (iblk1 V c 0 t))) shapeCasts_S512x64_S1x512x64⟩,
        ⟨Rect.unit (s := S1x2080x64) ![0, 1024, 0] S1x512x64.size inb_S1x2080x64_S1x512x64_0_1024_0, shapeCast S1x512x64 (quants (book0 (iblk1 V c 2 t)) (book1 (iblk1 V c 2 t)) (iblk1 V c 3 t) (tbook0 (iblk1 V c 1 t)) (tbook1 (iblk1 V c 1 t)) (chunk2 (iblk1 V c 0 t))) shapeCasts_S512x64_S1x512x64⟩,
        ⟨Rect.unit (s := S1x2080x64) ![0, 512, 0] S1x512x64.size inb_S1x2080x64_S1x512x64_0_512_0, shapeCast S1x512x64 (quants (book0 (iblk1 V c 2 t)) (book1 (iblk1 V c 2 t)) (iblk1 V c 3 t) (tbook0 (iblk1 V c 1 t)) (tbook1 (iblk1 V c 1 t)) (chunk1 (iblk1 V c 0 t))) shapeCasts_S512x64_S1x512x64⟩,
        ⟨Rect.unit (s := S1x2080x64) ![0, 0, 0] S1x512x64.size inb_S1x2080x64_S1x512x64_0_0_0, shapeCast S1x512x64 (quants (book0 (iblk1 V c 2 t)) (book1 (iblk1 V c 2 t)) (iblk1 V c 3 t) (tbook0 (iblk1 V c 1 t)) (tbook1 (iblk1 V c 1 t)) (chunk0 (iblk1 V c 0 t))) shapeCasts_S512x64_S1x512x64⟩] := by
  funext y
  unfold outsAt1
  frame_out
  rfl

set_option maxHeartbeats 4000000 in
/-- The history block, store by store. -/
theorem histOut : (outsAt1 (F := Ideal) V c t).2.1
    = View.canon (Val := Elt Ideal) (s := S1x2064x128) (e := .f32) [⟨Rect.unit (s := S1x2064x128) ![0, 2048, 0] S1x16x128.size inb_S1x2064x128_S1x16x128_0_2048_0, shapeCast S1x16x128 (broadcast S16x128 (Scalar.ofBits (F := Ideal) .f32 0x00000000#32)) shapeCasts_S16x128_S1x16x128⟩,
        ⟨Rect.unit (s := S1x2064x128) ![0, 1536, 64] S1x512x64.size inb_S1x2064x128_S1x512x64_0_1536_64, shapeCast S1x512x64 (embed (book0 (iblk1 V c 2 t)) (iblk1 V c 3 t) (tbook0 (iblk1 V c 1 t)) (chunk3 (iblk1 V c 0 t))) shapeCasts_S512x64_S1x512x64⟩,
        ⟨Rect.unit (s := S1x2064x128) ![0, 1536, 0] S1x512x64.size inb_S1x2064x128_S1x512x64_0_1536_0, shapeCast S1x512x64 (quants (book0 (iblk1 V c 2 t)) (book1 (iblk1 V c 2 t)) (iblk1 V c 3 t) (tbook0 (iblk1 V c 1 t)) (tbook1 (iblk1 V c 1 t)) (chunk3 (iblk1 V c 0 t))) shapeCasts_S512x64_S1x512x64⟩,
        ⟨Rect.unit (s := S1x2064x128) ![0, 1024, 64] S1x512x64.size inb_S1x2064x128_S1x512x64_0_1024_64, shapeCast S1x512x64 (embed (book0 (iblk1 V c 2 t)) (iblk1 V c 3 t) (tbook0 (iblk1 V c 1 t)) (chunk2 (iblk1 V c 0 t))) shapeCasts_S512x64_S1x512x64⟩,
        ⟨Rect.unit (s := S1x2064x128) ![0, 1024, 0] S1x512x64.size inb_S1x2064x128_S1x512x64_0_1024_0, shapeCast S1x512x64 (quants (book0 (iblk1 V c 2 t)) (book1 (iblk1 V c 2 t)) (iblk1 V c 3 t) (tbook0 (iblk1 V c 1 t)) (tbook1 (iblk1 V c 1 t)) (chunk2 (iblk1 V c 0 t))) shapeCasts_S512x64_S1x512x64⟩,
        ⟨Rect.unit (s := S1x2064x128) ![0, 512, 64] S1x512x64.size inb_S1x2064x128_S1x512x64_0_512_64, shapeCast S1x512x64 (embed (book0 (iblk1 V c 2 t)) (iblk1 V c 3 t) (tbook0 (iblk1 V c 1 t)) (chunk1 (iblk1 V c 0 t))) shapeCasts_S512x64_S1x512x64⟩,
        ⟨Rect.unit (s := S1x2064x128) ![0, 512, 0] S1x512x64.size inb_S1x2064x128_S1x512x64_0_512_0, shapeCast S1x512x64 (quants (book0 (iblk1 V c 2 t)) (book1 (iblk1 V c 2 t)) (iblk1 V c 3 t) (tbook0 (iblk1 V c 1 t)) (tbook1 (iblk1 V c 1 t)) (chunk1 (iblk1 V c 0 t))) shapeCasts_S512x64_S1x512x64⟩,
        ⟨Rect.unit (s := S1x2064x128) ![0, 0, 64] S1x512x64.size inb_S1x2064x128_S1x512x64_0_0_64, shapeCast S1x512x64 (embed (book0 (iblk1 V c 2 t)) (iblk1 V c 3 t) (tbook0 (iblk1 V c 1 t)) (chunk0 (iblk1 V c 0 t))) shapeCasts_S512x64_S1x512x64⟩,
        ⟨Rect.unit (s := S1x2064x128) ![0, 0, 0] S1x512x64.size inb_S1x2064x128_S1x512x64_0_0_0, shapeCast S1x512x64 (quants (book0 (iblk1 V c 2 t)) (book1 (iblk1 V c 2 t)) (iblk1 V c 3 t) (tbook0 (iblk1 V c 1 t)) (tbook1 (iblk1 V c 1 t)) (chunk0 (iblk1 V c 0 t))) shapeCasts_S512x64_S1x512x64⟩] := by
  funext y
  unfold outsAt1
  frame_out
  rfl

set_option maxHeartbeats 4000000 in
/-- The code block, store by store. -/
theorem codeBlk : (outsAt1 (F := Ideal) V c t).2.2.1
    = View.canon (Val := Elt Ideal) (s := S1x2048x2) (e := .i32) [⟨Rect.unit (s := S1x2048x2) ![0, 1536, 1] S1x512x1.size inb_S1x2048x2_S1x512x1_0_1536_1, shapeCast S1x512x1 (code1 (book0 (iblk1 V c 2 t)) (iblk1 V c 3 t) (tbook0 (iblk1 V c 1 t)) (tbook1 (iblk1 V c 1 t)) (chunk3 (iblk1 V c 0 t))) shapeCasts_S512x1_S1x512x1⟩,
        ⟨Rect.unit (s := S1x2048x2) ![0, 1536, 0] S1x512x1.size inb_S1x2048x2_S1x512x1_0_1536_0, shapeCast S1x512x1 (code0 (tbook0 (iblk1 V c 1 t)) (chunk3 (iblk1 V c 0 t))) shapeCasts_S512x1_S1x512x1⟩,
        ⟨Rect.unit (s := S1x2048x2) ![0, 1024, 1] S1x512x1.size inb_S1x2048x2_S1x512x1_0_1024_1, shapeCast S1x512x1 (code1 (book0 (iblk1 V c 2 t)) (iblk1 V c 3 t) (tbook0 (iblk1 V c 1 t)) (tbook1 (iblk1 V c 1 t)) (chunk2 (iblk1 V c 0 t))) shapeCasts_S512x1_S1x512x1⟩,
        ⟨Rect.unit (s := S1x2048x2) ![0, 1024, 0] S1x512x1.size inb_S1x2048x2_S1x512x1_0_1024_0, shapeCast S1x512x1 (code0 (tbook0 (iblk1 V c 1 t)) (chunk2 (iblk1 V c 0 t))) shapeCasts_S512x1_S1x512x1⟩,
        ⟨Rect.unit (s := S1x2048x2) ![0, 512, 1] S1x512x1.size inb_S1x2048x2_S1x512x1_0_512_1, shapeCast S1x512x1 (code1 (book0 (iblk1 V c 2 t)) (iblk1 V c 3 t) (tbook0 (iblk1 V c 1 t)) (tbook1 (iblk1 V c 1 t)) (chunk1 (iblk1 V c 0 t))) shapeCasts_S512x1_S1x512x1⟩,
        ⟨Rect.unit (s := S1x2048x2) ![0, 512, 0] S1x512x1.size inb_S1x2048x2_S1x512x1_0_512_0, shapeCast S1x512x1 (code0 (tbook0 (iblk1 V c 1 t)) (chunk1 (iblk1 V c 0 t))) shapeCasts_S512x1_S1x512x1⟩,
        ⟨Rect.unit (s := S1x2048x2) ![0, 0, 1] S1x512x1.size inb_S1x2048x2_S1x512x1_0_0_1, shapeCast S1x512x1 (code1 (book0 (iblk1 V c 2 t)) (iblk1 V c 3 t) (tbook0 (iblk1 V c 1 t)) (tbook1 (iblk1 V c 1 t)) (chunk0 (iblk1 V c 0 t))) shapeCasts_S512x1_S1x512x1⟩,
        ⟨Rect.unit (s := S1x2048x2) ![0, 0, 0] S1x512x1.size inb_S1x2048x2_S1x512x1_0_0_0, shapeCast S1x512x1 (code0 (tbook0 (iblk1 V c 1 t)) (chunk0 (iblk1 V c 0 t))) shapeCasts_S512x1_S1x512x1⟩] := by
  funext y
  unfold outsAt1
  frame_out
  rfl

set_option maxHeartbeats 4000000 in
/-- The sums block, store by store. -/
theorem miscBlk : (outsAt1 (F := Ideal) V c t).2.2.2
    = View.canon (Val := Elt Ideal) (s := S1x3x64) (e := .f32) [⟨Rect.unit (s := S1x3x64) ![0, 2, 0] S1x1x64.size inb_S1x3x64_S1x1x64_0_2_0, shapeCast S1x1x64 (changes (code0 (tbook0 (iblk1 V c 1 t)) (chunk0 (iblk1 V c 0 t))) (code0 (tbook0 (iblk1 V c 1 t)) (chunk1 (iblk1 V c 0 t))) (code0 (tbook0 (iblk1 V c 1 t)) (chunk2 (iblk1 V c 0 t))) (code0 (tbook0 (iblk1 V c 1 t)) (chunk3 (iblk1 V c 0 t)))) shapeCasts_S1x64_S1x1x64⟩,
        ⟨Rect.unit (s := S1x3x64) ![0, 1, 0] S1x1x64.size inb_S1x3x64_S1x1x64_0_1_0, shapeCast S1x1x64 (addf (addf (addf (addf (broadcast S1x64 (Scalar.ofBits (F := Ideal) .f32 0x00000000#32)) (colSq (diff1 (book0 (iblk1 V c 2 t)) (book1 (iblk1 V c 2 t)) (iblk1 V c 3 t) (tbook0 (iblk1 V c 1 t)) (tbook1 (iblk1 V c 1 t)) (chunk0 (iblk1 V c 0 t))))) (colSq (diff1 (book0 (iblk1 V c 2 t)) (book1 (iblk1 V c 2 t)) (iblk1 V c 3 t) (tbook0 (iblk1 V c 1 t)) (tbook1 (iblk1 V c 1 t)) (chunk1 (iblk1 V c 0 t))))) (colSq (diff1 (book0 (iblk1 V c 2 t)) (book1 (iblk1 V c 2 t)) (iblk1 V c 3 t) (tbook0 (iblk1 V c 1 t)) (tbook1 (iblk1 V c 1 t)) (chunk2 (iblk1 V c 0 t))))) (colSq (diff1 (book0 (iblk1 V c 2 t)) (book1 (iblk1 V c 2 t)) (iblk1 V c 3 t) (tbook0 (iblk1 V c 1 t)) (tbook1 (iblk1 V c 1 t)) (chunk3 (iblk1 V c 0 t))))) shapeCasts_S1x64_S1x1x64⟩,
        ⟨Rect.unit (s := S1x3x64) ![0, 0, 0] S1x1x64.size inb_S1x3x64_S1x1x64_0_0_0, shapeCast S1x1x64 (addf (addf (addf (addf (broadcast S1x64 (Scalar.ofBits (F := Ideal) .f32 0x00000000#32)) (colSq (diff0 (book0 (iblk1 V c 2 t)) (iblk1 V c 3 t) (tbook0 (iblk1 V c 1 t)) (chunk0 (iblk1 V c 0 t))))) (colSq (diff0 (book0 (iblk1 V c 2 t)) (iblk1 V c 3 t) (tbook0 (iblk1 V c 1 t)) (chunk1 (iblk1 V c 0 t))))) (colSq (diff0 (book0 (iblk1 V c 2 t)) (iblk1 V c 3 t) (tbook0 (iblk1 V c 1 t)) (chunk2 (iblk1 V c 0 t))))) (colSq (diff0 (book0 (iblk1 V c 2 t)) (iblk1 V c 3 t) (tbook0 (iblk1 V c 1 t)) (chunk3 (iblk1 V c 0 t))))) shapeCasts_S1x64_S1x1x64⟩] := by
  funext y
  unfold outsAt1
  frame_out
  rfl

end Cert.KernelIdeal.Val

end
-- ==== Proof.KVqRow.lean ====
/- The quantizer region's vector operations, row by row: the first least column, the row a one-hot block picks, the three
   summands put together again. -/
module

public import proofs.«01_k».proof.Proof.KVq
public import proofs.«01_k».proof.Proof.Spec

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline
open Idealize.ShloMosaic.Pointwise

/-- The least of a family is its entry at the first least index. -/
theorem fold_min_eq (f : Fin 1024 → EReal) : Finset.fold min (⊤ : EReal) f Finset.univ = f (Spec.first f) := by
  apply le_antisymm
  · exact (Finset.fold_min_le _).mpr (Or.inr ⟨_, Finset.mem_univ _, le_rfl⟩)
  · exact (Finset.le_fold_min _).mpr ⟨le_top, fun x _ => (Spec.first_spec f).1 x⟩

/-- The lesser of two words, as integers. -/
theorem toInt_minsi (x y : BitVec 32) : (IntOp.minsi x y).toInt = min x.toInt y.toInt := by
  unfold IntOp.minsi
  simp only [BitVec.slt, decide_eq_true_eq]
  split <;> omega

/-- A small index read back from its word. -/
theorem toInt_ofNat (n : ℕ) (h : n < 2048) : (BitVec.ofNat 32 n).toInt = n := by
  rw [BitVec.toInt_eq_toNat_cond, BitVec.toNat_ofNat, Nat.mod_eq_of_lt (by omega), if_pos (by omega)]

/-- The least of the column numbers where a family is least is the first such column. -/
theorem fold_minsi_eq (f : Fin 1024 → EReal) :
    Finset.fold IntOp.minsi (2147483647#32) (fun x => if f x = f (Spec.first f) then BitVec.ofNat 32 x.val else 1024#32) Finset.univ
      = BitVec.ofNat 32 (Spec.first f).val := by
  apply BitVec.eq_of_toInt_eq
  rw [← Finset.fold_hom (op' := min) (m := BitVec.toInt) toInt_minsi, toInt_ofNat (Spec.first f).val (by have := (Spec.first f).isLt; omega)]
  apply le_antisymm
  · refine (Finset.fold_min_le _).mpr (Or.inr ⟨Spec.first f, Finset.mem_univ _, ?_⟩)
    rw [if_pos rfl, toInt_ofNat (Spec.first f).val (by have := (Spec.first f).isLt; omega)]
  · refine (Finset.le_fold_min _).mpr ⟨?_, fun x _ => ?_⟩
    · have := (Spec.first f).isLt
      have h : (2147483647#32).toInt = 2147483647 := by decide
      omega
    · split
      · rename_i h
        rw [toInt_ofNat x.val (by have := x.isLt; omega)]
        by_contra hlt
        have := (Spec.first_spec f).2 x (by rw [Fin.lt_def]; omega)
        exact absurd h (ne_of_gt this)
      · have := (Spec.first f).isLt
        have h : (1024#32).toInt = 1024 := by decide
        omega

/-- The kernel's code word of a row is the first column where its distances are least. -/
theorem vqIdx_apply (d : FVec Ideal S512x1024 .f32) (i : Fin 512) :
    vqIdx d (ix2 i 0) = BitVec.ofNat 32 (Spec.first fun j => d (ix2 i j)).val := by
  pointwise [vqIdx, colNo]
  have htop : Ideal.ofBits FTy.f32 2139095040#32 = ⊤ := by
    simp [Ideal.ofBits, Ideal.ieee]
  rw [htop, fold_min_eq fun j => d (ix2 i j)]
  exact fold_minsi_eq fun j => d (ix2 i j)

/-- A row's distances to a codebook held transposed. -/
theorem vqDist_apply (r : FVec Ideal S512x64 .f32) (t : FVec Ideal S64x1024 .f32) (i : Fin 512) (j : Fin 1024) :
    vqDist r t (ix2 i j) = Spec.dist (fun k => r (ix2 i k)) (fun j k => t (ix2 k j)) j := by
  pointwise [vqDist]
  rfl

/-- A truth value widened and read as a float. -/
theorem sitofp_ind (v : BitVec 1) :
    (FloatOps.sitofp (F := Ideal) .f32 (BitVec.setWidth 32 v) : EReal) = if v = 1#1 then 1 else 0 := by
  have h : (FloatOps.sitofp (F := Ideal) .f32 (BitVec.setWidth 32 v) : EReal) = (((BitVec.setWidth 32 v).toInt : ℝ) : EReal) := rfl
  rw [h]
  by_cases hv : v = 1#1
  · subst hv
    rw [if_pos rfl]
    have : (BitVec.setWidth 32 1#1).toInt = 1 := by decide
    rw [this]; norm_num
  · obtain rfl : v = 0#1 := (show ∀ v : BitVec 1, ¬v = 1#1 → v = 0#1 by decide) v hv
    rw [if_neg hv]
    have : (BitVec.setWidth 32 0#1).toInt = 0 := by decide
    rw [this]; norm_num

/-- A one-hot block is one at its code and zero elsewhere. -/
theorem oneHot_apply (d : IVec S512x1 32) (i : Fin 512) (j c : Fin 1024) (h : d (ix2 i 0) = BitVec.ofNat 32 c.val) :
    oneHot d (ix2 i j) = if j = c then 1 else 0 := by
  pointwise [oneHot, colNo]
  rw [h]
  by_cases hj : j = c
  · subst hj
    rw [if_pos rfl]
    rw [sitofp_ind, if_pos (by simp [IntOp.cmpi])]
  · rw [if_neg hj]
    have : BitVec.ofNat 32 j.val ≠ BitVec.ofNat 32 c.val := fun e => hj (Fin.ext (by
      have := congrArg BitVec.toNat e
      simp only [BitVec.toNat_ofNat] at this
      omega))
    rw [sitofp_ind, if_neg (by simp only [IntOp.cmpi, beq_eq_false_iff_ne.mpr this]; decide)]

/-- A one-hot row times a table is the table's row. -/
theorem pick_sum (c : Fin 1024) (p : Fin 1024 → EReal) : ∑ x, (if x = c then (1 : EReal) else 0) * p x = p c := by
  simp only [ite_mul, one_mul, zero_mul, Finset.sum_ite_eq', Finset.mem_univ, if_true]

section pick

variable (d : IVec S512x1 32) (i : Fin 512) (c : Fin 1024) (h : d (ix2 i 0) = BitVec.ofNat 32 c.val)
include h

/-- The left half of a picked row pair. -/
theorem left_pick2 (p q : FVec Ideal S1024x64 .bf16) (k : Fin 64) : left (pick2 (oneHot d) (beside p q)) (ix2 i k) = p (ix2 c k) := by
  pointwise [left, pick2, beside]
  simp only [oneHot_apply d i _ c h]
  exact pick_sum c fun x => p (ix2 x k)
/-- The right half of a picked row pair. -/
theorem right_pick2 (p q : FVec Ideal S1024x64 .bf16) (k : Fin 64) : right (pick2 (oneHot d) (beside p q)) (ix2 i k) = q (ix2 c k) := by
  pointwise [right, pick2, beside]
  simp only [oneHot_apply d i _ c h]
  exact pick_sum c fun x => q (ix2 x k)
/-- A picked row. -/
theorem pick1_apply (p : FVec Ideal S1024x64 .bf16) (k : Fin 64) : pick1 (oneHot d) p (ix2 i k) = p (ix2 c k) := by
  pointwise [pick1]
  simp only [oneHot_apply d i _ c h]
  exact pick_sum c fun x => p (ix2 x k)

end pick

/-- A finite extended real less itself is zero. -/
theorem sub_self_of_finite {x : EReal} (h : x ≠ ⊤ ∧ x ≠ ⊥) : x - x = 0 := EReal.sub_self h.1 h.2

/-- The three summands of a finite entry add up to it. -/
theorem parts_sum (t : FVec Ideal S1024x64 .f32) (j : Fin 1024) (k : Fin 64) (h : t (ix2 j k) ≠ ⊤ ∧ t (ix2 j k) ≠ ⊥) :
    part1 t (ix2 j k) + part2 t (ix2 j k) + part3 t (ix2 j k) = t (ix2 j k) := by
  pointwise [part1, part2, part3, rest1]
  rw [sub_self_of_finite h]
  simp

section chunk

variable (a b t : FVec Ideal S1024x64 .f32) (at' bt : FVec Ideal S64x1024 .f32) (z : FVec Ideal S512x64 .f32) (i : Fin 512)
  (A B T : Fin 1024 → Fin 64 → EReal) (Z : Fin 64 → EReal)

/-- The region's operands hold two codebooks, also transposed, a table and a row, the tables finite. -/
structure Holds : Prop where
  a : ∀ j k, a (ix2 j k) = A j k
  b : ∀ j k, b (ix2 j k) = B j k
  t : ∀ j k, t (ix2 j k) = T j k
  at' : ∀ k j, at' (ix2 k j) = A j k
  bt : ∀ k j, bt (ix2 k j) = B j k
  z : ∀ k, z (ix2 i k) = Z k
  fa : ∀ j k, A j k ≠ ⊤ ∧ A j k ≠ ⊥
  fb : ∀ j k, B j k ≠ ⊤ ∧ B j k ≠ ⊥
  ft : ∀ j k, T j k ≠ ⊤ ∧ T j k ≠ ⊥

variable {a b t at' bt z i A B T Z} (H : Holds a b t at' bt z i A B T Z)
include H

/-- The first code. -/
theorem code0_apply : code0 at' z (ix2 i 0) = BitVec.ofNat 32 (Spec.c0 A Z).val := by
  unfold code0
  rw [vqIdx_apply]
  simp only [vqDist_apply, H.z, H.at']
  rfl

/-- The chosen row less the encoded row. -/
theorem diff0_apply (k : Fin 64) : diff0 a t at' z (ix2 i k) = Spec.d0 A Z k := by
  pointwise [diff0]
  simp only [left_pick2 _ i _ (code0_apply H), right_pick2 _ i _ (code0_apply H)]
  rw [parts_sum _ _ _ (by rw [H.a]; exact H.fa _ _), H.a, H.z]
  rfl

/-- The first stage's contribution. -/
theorem quant0_apply (k : Fin 64) : quant0 a t at' z (ix2 i k) = Spec.q0 A Z k := by
  pointwise [quant0]
  rw [diff0_apply H, H.z]
  rfl

/-- What the first stage leaves. -/
theorem resid_apply (k : Fin 64) : resid a t at' z (ix2 i k) = Spec.r1 A Z k := by
  pointwise [resid]
  rw [quant0_apply H, H.z]
  rfl

/-- The second code. -/
theorem code1_apply : code1 a t at' bt z (ix2 i 0) = BitVec.ofNat 32 (Spec.c1 A B Z).val := by
  unfold code1
  rw [vqIdx_apply]
  simp only [vqDist_apply, resid_apply H, H.bt]
  rfl

/-- The second chosen row less what the first stage left. -/
theorem diff1_apply (k : Fin 64) : diff1 a b t at' bt z (ix2 i k) = Spec.d1 A B Z k := by
  pointwise [diff1]
  simp only [left_pick2 _ i _ (code1_apply H), right_pick2 _ i _ (code1_apply H), pick1_apply _ i _ (code1_apply H)]
  rw [parts_sum _ _ _ (by rw [H.b]; exact H.fb _ _), H.b, resid_apply H]
  rfl

/-- The quantized row. -/
theorem quants_apply (k : Fin 64) : quants a b t at' bt z (ix2 i k) = Spec.qs A B Z k := by
  pointwise [quants]
  rw [quant0_apply H, resid_apply H, diff1_apply H]
  rfl

/-- The table's row of the first code. -/
theorem embed_apply (k : Fin 64) : embed a t at' z (ix2 i k) = T (Spec.c0 A Z) k := by
  pointwise [embed]
  simp only [left_pick2 _ i _ (code0_apply H), right_pick2 _ i _ (code0_apply H)]
  rw [parts_sum _ _ _ (by rw [H.t]; exact H.ft _ _), H.t]

end chunk

end Cert.KernelIdeal.Val

end
-- ==== Proof.KVqRead.lean ====
/- The quantizer region's four arrays, entry by entry. -/
module

public import proofs.«01_k».proof.Proof.KVqRow

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline
open Idealize.ShloMosaic.Pointwise

variable (V : ∀ c : Dev nD, (b : Ref sig .tc) → b.ty.Contents (Elt Ideal)) (c : Dev nD)

/-- Where each window stands at each grid point. -/
theorem win1_index : ∀ t : Fin cfg1.N, win1_0.index t = ![t.val, 0, 0] ∧ win1_1.index t = ![0, 0, 0] ∧ win1_2.index t = ![0, 0, 0]
    ∧ win1_3.index t = ![0, 0] ∧ win1_4.index t = ![t.val, 0, 0] ∧ win1_5.index t = ![t.val, 0, 0] ∧ win1_6.index t = ![t.val, 0, 0]
    ∧ win1_7.index t = ![t.val, 0, 0] := by decide +kernel

/-- The batch a grid point works on. -/
def b1 (t : Fin cfg1.N) : Fin 8 := ⟨t.val, t.isLt⟩

/-- The region's block of operand 0. -/
theorem iblk1_0_apply (t : Fin cfg1.N) (s : Fin 2048) (k : Fin 64) : iblk1 V c 0 t (ix3 0 s k) = V c main_v6 (ix3 (b1 t) s k) := by
  have hb : (b1 t).val = t.val := rfl
  blk_ext [iblk1, win1_index t]
/-- The region's block of operand 1. -/
theorem iblk1_1_apply (t : Fin cfg1.N) (q : Fin 2) (k : Fin 64) (j : Fin 1024) :
    iblk1 V c 1 t (ix3 q k j) = V c main_v7 (ix3 q k j) := by
  blk_ext [iblk1, win1_index t]
/-- The region's block of operand 2. -/
theorem iblk1_2_apply (t : Fin cfg1.N) (q : Fin 2) (j : Fin 1024) (k : Fin 64) :
    iblk1 V c 2 t (ix3 q j k) = V c main_arg11 (ix3 q j k) := by
  blk_ext [iblk1, win1_index t]
/-- The region's block of operand 3. -/
theorem iblk1_3_apply (t : Fin cfg1.N) (j : Fin 1024) (k : Fin 64) : iblk1 V c 3 t (ix2 j k) = V c main_arg10 (ix2 j k) := by
  blk_ext [iblk1, win1_index t]
/-- Where block 4 lies in its array. -/
theorem emb1_4 (t : Fin cfg1.N) (s : Fin 2080) (k : Fin 64) :
    ((View.whole main_v8_0).slice (win1_4.rect t)).emb (ix3 0 s k) = ix3 (b1 t) s k := by
  have hb : (b1 t).val = t.val := rfl
  blk_ext [win1_index t]
/-- Where block 5 lies in its array. -/
theorem emb1_5 (t : Fin cfg1.N) (s : Fin 2064) (k : Fin 128) :
    ((View.whole main_v8_1).slice (win1_5.rect t)).emb (ix3 0 s k) = ix3 (b1 t) s k := by
  have hb : (b1 t).val = t.val := rfl
  blk_ext [win1_index t]
/-- Where block 6 lies in its array. -/
theorem emb1_6 (t : Fin cfg1.N) (s : Fin 2048) (k : Fin 2) :
    ((View.whole main_v8_2).slice (win1_6.rect t)).emb (ix3 0 s k) = ix3 (b1 t) s k := by
  have hb : (b1 t).val = t.val := rfl
  blk_ext [win1_index t]
/-- Where block 7 lies in its array. -/
theorem emb1_7 (t : Fin cfg1.N) (s : Fin 3) (k : Fin 64) :
    ((View.whole main_v8_3).slice (win1_7.rect t)).emb (ix3 0 s k) = ix3 (b1 t) s k := by
  have hb : (b1 t).val = t.val := rfl
  blk_ext [win1_index t]

/-- The first codebook. -/
def bookA (j : Fin 1024) (k : Fin 64) : EReal := V c main_arg11 (ix3 0 j k)
/-- The second codebook. -/
def bookB (j : Fin 1024) (k : Fin 64) : EReal := V c main_arg11 (ix3 1 j k)
/-- The code table. -/
def table (j : Fin 1024) (k : Fin 64) : EReal := V c main_arg10 (ix2 j k)
/-- An encoded row. -/
def row (b : Fin 8) (s : Fin 2048) (k : Fin 64) : EReal := V c main_v6 (ix3 b s k)

/-- The region's operands: the transposed codebooks are the codebooks', and the tables are finite. -/
structure Tables : Prop where
  tr : ∀ q k j, V c main_v7 (ix3 q k j) = V c main_arg11 (ix3 q j k)
  fcb : ∀ q j k, V c main_arg11 (ix3 q j k) ≠ (⊤ : EReal) ∧ V c main_arg11 (ix3 q j k) ≠ (⊥ : EReal)
  fct : ∀ j k, V c main_arg10 (ix2 j k) ≠ (⊤ : EReal) ∧ V c main_arg10 (ix2 j k) ≠ (⊥ : EReal)

/-- Codebook 0 of the pair. -/
theorem book0_apply (x) (j : Fin 1024) (k : Fin 64) : book0 x (ix2 j k) = x (ix3 0 j k) := by pointwise [book0]
/-- Codebook 1 of the pair. -/
theorem book1_apply (x) (j : Fin 1024) (k : Fin 64) : book1 x (ix2 j k) = x (ix3 1 j k) := by pointwise [book1]
/-- Codebook 0 of the pair, transposed. -/
theorem tbook0_apply (x) (k : Fin 64) (j : Fin 1024) : tbook0 x (ix2 k j) = x (ix3 0 k j) := by pointwise [tbook0]
/-- Codebook 1 of the pair, transposed. -/
theorem tbook1_apply (x) (k : Fin 64) (j : Fin 1024) : tbook1 x (ix2 k j) = x (ix3 1 k j) := by pointwise [tbook1]
/-- Rows of chunk 0. -/
theorem chunk0_apply (x) (i : Fin 512) (k : Fin 64) : chunk0 x (ix2 i k) = x (ix3 0 ⟨i.val, by omega⟩ k) := by pointwise [chunk0]
/-- Rows of chunk 1. -/
theorem chunk1_apply (x) (i : Fin 512) (k : Fin 64) : chunk1 x (ix2 i k) = x (ix3 0 ⟨512 + i.val, by omega⟩ k) := by pointwise [chunk1]
/-- Rows of chunk 2. -/
theorem chunk2_apply (x) (i : Fin 512) (k : Fin 64) : chunk2 x (ix2 i k) = x (ix3 0 ⟨1024 + i.val, by omega⟩ k) := by pointwise [chunk2]
/-- Rows of chunk 3. -/
theorem chunk3_apply (x) (i : Fin 512) (k : Fin 64) : chunk3 x (ix2 i k) = x (ix3 0 ⟨1536 + i.val, by omega⟩ k) := by pointwise [chunk3]

variable {V c} (H : Tables V c)
include H

/-- A chunk whose row `i` is row `s` of the block, with the region's tables. -/
theorem holds (t : Fin cfg1.N) (z : FVec Ideal S512x64 .f32) (i : Fin 512) (s : Fin 2048)
    (hz : ∀ k, z (ix2 i k) = iblk1 V c 0 t (ix3 0 s k)) :
    Holds (book0 (iblk1 V c 2 t)) (book1 (iblk1 V c 2 t)) (iblk1 V c 3 t) (tbook0 (iblk1 V c 1 t)) (tbook1 (iblk1 V c 1 t)) z i
      (bookA V c) (bookB V c) (table V c) (row V c (b1 t) s) where
  a j k := by rw [book0_apply, iblk1_2_apply]; rfl
  b j k := by rw [book1_apply, iblk1_2_apply]; rfl
  t j k := by rw [iblk1_3_apply]; rfl
  at' k j := by rw [tbook0_apply, iblk1_1_apply, H.tr]; rfl
  bt k j := by rw [tbook1_apply, iblk1_1_apply, H.tr]; rfl
  z k := by rw [hz, iblk1_0_apply]; rfl
  fa j k := H.fcb 0 j k
  fb j k := H.fcb 1 j k
  ft j k := H.fct j k

/-- What the row lemmas assume, on chunk 0. -/
theorem holds0 (t : Fin cfg1.N) (i : Fin 512) : Holds (book0 (iblk1 V c 2 t)) (book1 (iblk1 V c 2 t)) (iblk1 V c 3 t) (tbook0 (iblk1 V c 1 t))
    (tbook1 (iblk1 V c 1 t)) (chunk0 (iblk1 V c 0 t)) i (bookA V c) (bookB V c) (table V c)
    (row V c (b1 t) ⟨i.val, by omega⟩) :=
  holds H t (chunk0 (iblk1 V c 0 t)) i ⟨i.val, by omega⟩ fun k => chunk0_apply _ i k
/-- What the row lemmas assume, on chunk 1. -/
theorem holds1 (t : Fin cfg1.N) (i : Fin 512) : Holds (book0 (iblk1 V c 2 t)) (book1 (iblk1 V c 2 t)) (iblk1 V c 3 t) (tbook0 (iblk1 V c 1 t))
    (tbook1 (iblk1 V c 1 t)) (chunk1 (iblk1 V c 0 t)) i (bookA V c) (bookB V c) (table V c)
    (row V c (b1 t) ⟨512 + i.val, by omega⟩) :=
  holds H t (chunk1 (iblk1 V c 0 t)) i ⟨512 + i.val, by omega⟩ fun k => chunk1_apply _ i k
/-- What the row lemmas assume, on chunk 2. -/
theorem holds2 (t : Fin cfg1.N) (i : Fin 512) : Holds (book0 (iblk1 V c 2 t)) (book1 (iblk1 V c 2 t)) (iblk1 V c 3 t) (tbook0 (iblk1 V c 1 t))
    (tbook1 (iblk1 V c 1 t)) (chunk2 (iblk1 V c 0 t)) i (bookA V c) (bookB V c) (table V c)
    (row V c (b1 t) ⟨1024 + i.val, by omega⟩) :=
  holds H t (chunk2 (iblk1 V c 0 t)) i ⟨1024 + i.val, by omega⟩ fun k => chunk2_apply _ i k
/-- What the row lemmas assume, on chunk 3. -/
theorem holds3 (t : Fin cfg1.N) (i : Fin 512) : Holds (book0 (iblk1 V c 2 t)) (book1 (iblk1 V c 2 t)) (iblk1 V c 3 t) (tbook0 (iblk1 V c 1 t))
    (tbook1 (iblk1 V c 1 t)) (chunk3 (iblk1 V c 0 t)) i (bookA V c) (bookB V c) (table V c)
    (row V c (b1 t) ⟨1536 + i.val, by omega⟩) :=
  holds H t (chunk3 (iblk1 V c 0 t)) i ⟨1536 + i.val, by omega⟩ fun k => chunk3_apply _ i k

omit H
variable (V c)

/-- The quantized rows, zero beyond their end. -/
def quantArr : S8x2080x64.Idx → EReal := fun j =>
  if h : (j 1).val < 2048 then Spec.qs (bookA V c) (bookB V c) (row V c (j 0) ⟨(j 1).val, h⟩) (j 2) else 0
/-- The history rows: quantized row and code table row, zero beyond their end. -/
def histArr : S8x2064x128.Idx → EReal := fun j =>
  if h : (j 1).val < 2048 then
    if h2 : (j 2).val < 64 then Spec.qs (bookA V c) (bookB V c) (row V c (j 0) ⟨(j 1).val, h⟩) ⟨(j 2).val, h2⟩
    else table V c (Spec.c0 (bookA V c) (row V c (j 0) ⟨(j 1).val, h⟩)) ⟨(j 2).val - 64, by have : (j 2).val < 128 := (j 2).isLt; omega⟩
  else 0
/-- The codes. -/
def codeArr : S8x2048x2.Idx → BitVec 32 := fun j =>
  if (j 2).val = 0 then BitVec.ofNat 32 (Spec.c0 (bookA V c) (row V c (j 0) (j 1))).val
  else BitVec.ofNat 32 (Spec.c1 (bookA V c) (bookB V c) (row V c (j 0) (j 1))).val
/-- The sums: first stage's squares, second stage's squares, changes of the first code in lane zero. -/
def miscArr : S8x3x64.Idx → EReal := fun j =>
  if (j 1).val = 0 then ∑ s, Spec.d0 (bookA V c) (row V c (j 0) s) (j 2) * Spec.d0 (bookA V c) (row V c (j 0) s) (j 2)
  else if (j 1).val = 1 then
    ∑ s, Spec.d1 (bookA V c) (bookB V c) (row V c (j 0) s) (j 2) * Spec.d1 (bookA V c) (bookB V c) (row V c (j 0) s) (j 2)
  else if (j 2).val = 0 then ∑ n : Fin 2047, Spec.ind (Spec.c0 (bookA V c) (row V c (j 0) ⟨1 + n.val, by omega⟩)
      ≠ Spec.c0 (bookA V c) (row V c (j 0) ⟨n.val, by omega⟩))
  else 0

variable {V c}

/-- A quantized row. -/
theorem quantArr_row (b : Fin 8) (y : Fin 2080) (k : Fin 64) (s : Fin 2048) (h : y.val = s.val) :
    quantArr V c (ix3 b y k) = Spec.qs (bookA V c) (bookB V c) (row V c b s) k := by
  obtain ⟨y, hy⟩ := y
  obtain rfl : y = s.val := h
  exact dif_pos s.isLt
/-- The rows past the sequence are zero. -/
theorem quantArr_pad (b : Fin 8) (y : Fin 2080) (k : Fin 64) (h : 2048 ≤ y.val) : quantArr V c (ix3 b y k) = 0 :=
  dif_neg (not_lt.mpr h)
/-- The left half of a history row is the quantized row. -/
theorem histArr_left (b : Fin 8) (y : Fin 2064) (k : Fin 128) (s : Fin 2048) (i : Fin 64) (h : y.val = s.val) (hk : k.val = i.val) :
    histArr V c (ix3 b y k) = Spec.qs (bookA V c) (bookB V c) (row V c b s) i := by
  obtain ⟨y, hy⟩ := y
  obtain rfl : y = s.val := h
  obtain ⟨k, hk'⟩ := k
  obtain rfl : k = i.val := hk
  exact (dif_pos s.isLt).trans (dif_pos i.isLt)
/-- The right half of a history row is the table's row of its code. -/
theorem histArr_right (b : Fin 8) (y : Fin 2064) (k : Fin 128) (s : Fin 2048) (i : Fin 64) (h : y.val = s.val)
    (hk : k.val = 64 + i.val) :
    histArr V c (ix3 b y k) = table V c (Spec.c0 (bookA V c) (row V c b s)) i := by
  obtain ⟨y, hy⟩ := y
  obtain rfl : y = s.val := h
  obtain ⟨k, hk'⟩ := k
  obtain rfl : k = 64 + i.val := hk
  refine (dif_pos s.isLt).trans ((dif_neg (by simp)).trans ?_)
  congr 1
  exact Fin.ext (Nat.add_sub_cancel_left ..)
/-- The history rows past the sequence are zero. -/
theorem histArr_pad (b : Fin 8) (y : Fin 2064) (k : Fin 128) (h : 2048 ≤ y.val) : histArr V c (ix3 b y k) = 0 :=
  dif_neg (not_lt.mpr h)
/-- The first codes. -/
theorem codeArr_left (b : Fin 8) (y s : Fin 2048) (k : Fin 2) (h : y.val = s.val) (hk : k.val = 0) :
    codeArr V c (ix3 b y k) = BitVec.ofNat 32 (Spec.c0 (bookA V c) (row V c b s)).val := by
  obtain rfl : y = s := Fin.ext h
  exact if_pos hk
/-- The second codes. -/
theorem codeArr_right (b : Fin 8) (y s : Fin 2048) (k : Fin 2) (h : y.val = s.val) (hk : k.val = 1) :
    codeArr V c (ix3 b y k) = BitVec.ofNat 32 (Spec.c1 (bookA V c) (bookB V c) (row V c b s)).val := by
  obtain rfl : y = s := Fin.ext h
  exact if_neg (by change ¬ k.val = 0; omega)

/-- A sum over the rows, chunk by chunk. -/
theorem sum_chunks (f : Fin 2048 → EReal) : ∑ s, f s
    = (∑ i : Fin 512, f ⟨i.val, by omega⟩) + (∑ i : Fin 512, f ⟨512 + i.val, by omega⟩) + (∑ i : Fin 512, f ⟨1024 + i.val, by omega⟩)
      + ∑ i : Fin 512, f ⟨1536 + i.val, by omega⟩ := by
  refine (Fin.sum_univ_add (a := 1536) (b := 512) f).trans (congrArg₂ _ ?_ rfl)
  refine (Fin.sum_univ_add (a := 1024) (b := 512) _).trans (congrArg₂ _ ?_ rfl)
  exact Fin.sum_univ_add (a := 512) (b := 512) _

/-- A column under a unit axis. -/
theorem col_apply (v : IVec S512x1 32) (i : Fin 512) : shapeCast S1x512x1 v shapeCasts_S512x1_S1x512x1 (ix3 0 i 0) = v (ix2 i 0) := by
  pointwise

include H

set_option maxHeartbeats 1000000 in
/-- The quantized array the region leaves. -/
theorem quantArr_eq : (dat1 V c).arrAt 4 cfg1.N = quantArr V c := by
  refine (dat1 V c).arrAt_eq_of_covers 4 _ (by decide +kernel) fun t hf y => ?_
  blk_simp
  rw [after1_4, quantBlk]
  idx_vars y
  obtain rfl : y0 = 0 := Subsingleton.elim _ _
  rw [emb1_4]
  canon_tiles x h using by
    by_cases h0 : 2048 ≤ y1.val
    · exact ⟨_, .head _, by dsimp only; rw [Rect.mem_set_unit]; intro a; fin_cases a <;> simp <;> omega⟩
    by_cases h1 : 1536 ≤ y1.val
    · exact ⟨_, .tail _ (.head _), by dsimp only; rw [Rect.mem_set_unit]; intro a; fin_cases a <;> simp <;> omega⟩
    by_cases h2 : 1024 ≤ y1.val
    · exact ⟨_, .tail _ (.tail _ (.head _)), by dsimp only; rw [Rect.mem_set_unit]; intro a; fin_cases a <;> simp <;> omega⟩
    by_cases h3 : 512 ≤ y1.val
    · exact ⟨_, .tail _ (.tail _ (.tail _ (.head _))), by dsimp only; rw [Rect.mem_set_unit]; intro a; fin_cases a <;> simp <;> omega⟩
    exact ⟨_, .tail _ (.tail _ (.tail _ (.tail _ (.head _)))), by dsimp only; rw [Rect.mem_set_unit]; intro a; fin_cases a <;> simp <;> omega⟩
  all_goals
    idx_vars x
    obtain rfl : x0 = 0 := Subsingleton.elim _ _
    obtain rfl : y2 = x2 := Fin.ext h2
    pointwise!
  · exact (quantArr_pad _ _ _ (by have : y1.val = 2048 + x1.val := h1; omega)).symm
  · exact (quants_apply (holds3 H t x1) _).trans (quantArr_row _ _ _ ⟨1536 + x1.val, by omega⟩ h1).symm
  · exact (quants_apply (holds2 H t x1) _).trans (quantArr_row _ _ _ ⟨1024 + x1.val, by omega⟩ h1).symm
  · exact (quants_apply (holds1 H t x1) _).trans (quantArr_row _ _ _ ⟨512 + x1.val, by omega⟩ h1).symm
  · exact (quants_apply (holds0 H t x1) _).trans (quantArr_row _ _ _ ⟨x1.val, by omega⟩ h1).symm

set_option maxHeartbeats 1000000 in
/-- The history array the region leaves. -/
theorem histArr_eq : (dat1 V c).arrAt 5 cfg1.N = histArr V c := by
  refine (dat1 V c).arrAt_eq_of_covers 5 _ (by decide +kernel) fun t hf y => ?_
  blk_simp
  rw [after1_5, histOut]
  idx_vars y
  obtain rfl : y0 = 0 := Subsingleton.elim _ _
  rw [emb1_5]
  canon_tiles x h using by
    by_cases h0 : 2048 ≤ y1.val
    · exact ⟨_, .head _, by dsimp only; rw [Rect.mem_set_unit]; intro a; fin_cases a <;> simp <;> omega⟩
    by_cases h1 : 1536 ≤ y1.val ∧ 64 ≤ y2.val
    · exact ⟨_, .tail _ (.head _), by dsimp only; rw [Rect.mem_set_unit]; intro a; fin_cases a <;> simp <;> omega⟩
    by_cases h2 : 1536 ≤ y1.val
    · exact ⟨_, .tail _ (.tail _ (.head _)), by dsimp only; rw [Rect.mem_set_unit]; intro a; fin_cases a <;> simp <;> omega⟩
    by_cases h3 : 1024 ≤ y1.val ∧ 64 ≤ y2.val
    · exact ⟨_, .tail _ (.tail _ (.tail _ (.head _))), by dsimp only; rw [Rect.mem_set_unit]; intro a; fin_cases a <;> simp <;> omega⟩
    by_cases h4 : 1024 ≤ y1.val
    · exact ⟨_, .tail _ (.tail _ (.tail _ (.tail _ (.head _)))), by dsimp only; rw [Rect.mem_set_unit]; intro a; fin_cases a <;> simp <;> omega⟩
    by_cases h5 : 512 ≤ y1.val ∧ 64 ≤ y2.val
    · exact ⟨_, .tail _ (.tail _ (.tail _ (.tail _ (.tail _ (.head _))))), by dsimp only; rw [Rect.mem_set_unit]; intro a; fin_cases a <;> simp <;> omega⟩
    by_cases h6 : 512 ≤ y1.val
    · exact ⟨_, .tail _ (.tail _ (.tail _ (.tail _ (.tail _ (.tail _ (.head _)))))), by dsimp only; rw [Rect.mem_set_unit]; intro a; fin_cases a <;> simp <;> omega⟩
    by_cases h7 : 64 ≤ y2.val
    · exact ⟨_, .tail _ (.tail _ (.tail _ (.tail _ (.tail _ (.tail _ (.tail _ (.head _))))))), by dsimp only; rw [Rect.mem_set_unit]; intro a; fin_cases a <;> simp <;> omega⟩
    exact ⟨_, .tail _ (.tail _ (.tail _ (.tail _ (.tail _ (.tail _ (.tail _ (.tail _ (.head _)))))))), by dsimp only; rw [Rect.mem_set_unit]; intro a; fin_cases a <;> simp <;> omega⟩
  all_goals
    idx_vars x
    obtain rfl : x0 = 0 := Subsingleton.elim _ _
    pointwise!
  · exact (histArr_pad _ _ _ (by have : y1.val = 2048 + x1.val := h1; omega)).symm
  · exact (embed_apply (holds3 H t x1) _).trans (histArr_right _ _ _ ⟨1536 + x1.val, by omega⟩ x2 h1 h2).symm
  · exact (quants_apply (holds3 H t x1) _).trans (histArr_left _ _ _ ⟨1536 + x1.val, by omega⟩ x2 h1 h2).symm
  · exact (embed_apply (holds2 H t x1) _).trans (histArr_right _ _ _ ⟨1024 + x1.val, by omega⟩ x2 h1 h2).symm
  · exact (quants_apply (holds2 H t x1) _).trans (histArr_left _ _ _ ⟨1024 + x1.val, by omega⟩ x2 h1 h2).symm
  · exact (embed_apply (holds1 H t x1) _).trans (histArr_right _ _ _ ⟨512 + x1.val, by omega⟩ x2 h1 h2).symm
  · exact (quants_apply (holds1 H t x1) _).trans (histArr_left _ _ _ ⟨512 + x1.val, by omega⟩ x2 h1 h2).symm
  · exact (embed_apply (holds0 H t x1) _).trans (histArr_right _ _ _ ⟨x1.val, by omega⟩ x2 h1 h2).symm
  · exact (quants_apply (holds0 H t x1) _).trans (histArr_left _ _ _ ⟨x1.val, by omega⟩ x2 h1 h2).symm

set_option maxHeartbeats 1000000 in
/-- The code array the region leaves. -/
theorem codeArr_eq : (dat1 V c).arrAt 6 cfg1.N = codeArr V c := by
  refine (dat1 V c).arrAt_eq_of_covers 6 _ (by decide +kernel) fun t hf y => ?_
  blk_simp
  rw [after1_6, codeBlk]
  idx_vars y
  obtain rfl : y0 = 0 := Subsingleton.elim _ _
  rw [emb1_6]
  canon_tiles x h using by
    by_cases h0 : 1536 ≤ y1.val ∧ 1 ≤ y2.val
    · exact ⟨_, .head _, by dsimp only; rw [Rect.mem_set_unit]; intro a; fin_cases a <;> simp <;> omega⟩
    by_cases h1 : 1536 ≤ y1.val
    · exact ⟨_, .tail _ (.head _), by dsimp only; rw [Rect.mem_set_unit]; intro a; fin_cases a <;> simp <;> omega⟩
    by_cases h2 : 1024 ≤ y1.val ∧ 1 ≤ y2.val
    · exact ⟨_, .tail _ (.tail _ (.head _)), by dsimp only; rw [Rect.mem_set_unit]; intro a; fin_cases a <;> simp <;> omega⟩
    by_cases h3 : 1024 ≤ y1.val
    · exact ⟨_, .tail _ (.tail _ (.tail _ (.head _))), by dsimp only; rw [Rect.mem_set_unit]; intro a; fin_cases a <;> simp <;> omega⟩
    by_cases h4 : 512 ≤ y1.val ∧ 1 ≤ y2.val
    · exact ⟨_, .tail _ (.tail _ (.tail _ (.tail _ (.head _)))), by dsimp only; rw [Rect.mem_set_unit]; intro a; fin_cases a <;> simp <;> omega⟩
    by_cases h5 : 512 ≤ y1.val
    · exact ⟨_, .tail _ (.tail _ (.tail _ (.tail _ (.tail _ (.head _))))), by dsimp only; rw [Rect.mem_set_unit]; intro a; fin_cases a <;> simp <;> omega⟩
    by_cases h6 : 1 ≤ y2.val
    · exact ⟨_, .tail _ (.tail _ (.tail _ (.tail _ (.tail _ (.tail _ (.head _)))))), by dsimp only; rw [Rect.mem_set_unit]; intro a; fin_cases a <;> simp <;> omega⟩
    exact ⟨_, .tail _ (.tail _ (.tail _ (.tail _ (.tail _ (.tail _ (.tail _ (.head _))))))), by dsimp only; rw [Rect.mem_set_unit]; intro a; fin_cases a <;> simp <;> omega⟩
  all_goals
    idx_vars x
    obtain rfl : x0 = 0 := Subsingleton.elim _ _
    obtain rfl : x2 = 0 := Subsingleton.elim _ _
    refine (col_apply _ x1).trans ?_
  · exact (code1_apply (holds3 H t x1)).trans (codeArr_right _ _ ⟨1536 + x1.val, by omega⟩ _ h1 h2).symm
  · exact (code0_apply (holds3 H t x1)).trans (codeArr_left _ _ ⟨1536 + x1.val, by omega⟩ _ h1 h2).symm
  · exact (code1_apply (holds2 H t x1)).trans (codeArr_right _ _ ⟨1024 + x1.val, by omega⟩ _ h1 h2).symm
  · exact (code0_apply (holds2 H t x1)).trans (codeArr_left _ _ ⟨1024 + x1.val, by omega⟩ _ h1 h2).symm
  · exact (code1_apply (holds1 H t x1)).trans (codeArr_right _ _ ⟨512 + x1.val, by omega⟩ _ h1 h2).symm
  · exact (code0_apply (holds1 H t x1)).trans (codeArr_left _ _ ⟨512 + x1.val, by omega⟩ _ h1 h2).symm
  · exact (code1_apply (holds0 H t x1)).trans (codeArr_right _ _ ⟨x1.val, by omega⟩ _ h1 h2).symm
  · exact (code0_apply (holds0 H t x1)).trans (codeArr_left _ _ ⟨x1.val, by omega⟩ _ h1 h2).symm

omit H in
/-- Two codes' words differ when the codes do. -/
theorem cmpi_ne_codes (a b : Fin 1024) : IntOp.cmpi .ne (BitVec.ofNat 32 a.val) (BitVec.ofNat 32 b.val) = 1#1 ↔ a ≠ b := by
  have e : BitVec.ofNat 32 a.val = BitVec.ofNat 32 b.val ↔ a = b := by
    refine ⟨fun h => Fin.ext ?_, fun h => by rw [h]⟩
    have := congrArg BitVec.toNat h
    simp only [BitVec.toNat_ofNat] at this
    omega
  rw [ne_eq, ← e]
  by_cases h : BitVec.ofNat 32 a.val = BitVec.ofNat 32 b.val
  · simp [IntOp.cmpi, h]
  · simp only [IntOp.cmpi, bne, beq_eq_false_iff_ne.mpr h, h, not_false_eq_true, iff_true]; decide

omit H in
/-- The changes' count of four chunks' codes. -/
theorem changes_apply (i0 i1 i2 i3 : IVec S512x1 32) (g : Fin 2048 → Fin 1024)
    (e0 : ∀ i : Fin 512, i0 (ix2 i 0) = BitVec.ofNat 32 (g ⟨i.val, by omega⟩).val)
    (e1 : ∀ i : Fin 512, i1 (ix2 i 0) = BitVec.ofNat 32 (g ⟨512 + i.val, by omega⟩).val)
    (e2 : ∀ i : Fin 512, i2 (ix2 i 0) = BitVec.ofNat 32 (g ⟨1024 + i.val, by omega⟩).val)
    (e3 : ∀ i : Fin 512, i3 (ix2 i 0) = BitVec.ofNat 32 (g ⟨1536 + i.val, by omega⟩).val) (k : Fin 64) :
    changes i0 i1 i2 i3 (ix2 0 k)
      = if k.val = 0 then ∑ n : Fin 2047, Spec.ind (g ⟨1 + n.val, by omega⟩ ≠ g ⟨n.val, by omega⟩) else 0 := by
  pointwise [changes]
  have hm : ∀ m (hm : m < 2048),
      (if h : m < 512 then i0 (ix2 ⟨m, h⟩ 0) else if h : m - 512 < 512 then i1 (ix2 ⟨m - 512, h⟩ 0)
        else if h : m - 512 - 512 < 512 then i2 (ix2 ⟨m - 512 - 512, h⟩ 0)
        else i3 (ix2 ⟨m - 512 - 512 - 512, by omega⟩ 0))
      = BitVec.ofNat 32 (g ⟨m, hm⟩).val := by
    intro m hm
    split
    · rw [e0]
    split
    · rw [e1]; exact congrArg (fun s => BitVec.ofNat 32 (g s).val) (Fin.ext (by change 512 + (m - 512) = m; omega))
    split
    · rw [e2]; exact congrArg (fun s => BitVec.ofNat 32 (g s).val) (Fin.ext (by change 1024 + (m - 512 - 512) = m; omega))
    · rw [e3]; exact congrArg (fun s => BitVec.ofNat 32 (g s).val) (Fin.ext (by change 1536 + (m - 512 - 512 - 512) = m; omega))
  have hk : ((BitVec.ofNat 32 k.val) = 0#32) ↔ k.val = 0 := by
    constructor
    · intro e
      have := congrArg BitVec.toNat e
      simp only [BitVec.toNat_ofNat] at this
      omega
    · intro e
      rw [e]
  have hsel (x : EReal) : Scalar.select (IntOp.cmpi .eq (BitVec.ofNat 32 k.val) 0#32) x 0 = if k.val = 0 then x else 0 := by
    by_cases h : k.val = 0
    · rw [if_pos h, h]; rfl
    · rw [if_neg h]
      have : IntOp.cmpi .eq (BitVec.ofNat 32 k.val) 0#32 = 0#1 := by
        simp only [IntOp.cmpi, beq_eq_false_iff_ne.mpr (mt hk.mp h)]; decide
      rw [this]; rfl
  rw [hsel]
  refine if_congr Iff.rfl (Finset.sum_congr rfl fun x _ => ?_) rfl
  rw [sitofp_ind]
  rw [hm (1 + x.val) (by omega), hm x.val (by omega)]
  unfold Spec.ind
  refine if_congr ?_ rfl rfl
  exact cmpi_ne_codes _ _

set_option maxHeartbeats 1000000 in
/-- The array of sums the region leaves. -/
theorem miscArr_eq : (dat1 V c).arrAt 7 cfg1.N = miscArr V c := by
  refine (dat1 V c).arrAt_eq_of_covers 7 _ (by decide +kernel) fun t hf y => ?_
  blk_simp
  rw [after1_7, miscBlk]
  idx_vars y
  obtain rfl : y0 = 0 := Subsingleton.elim _ _
  rw [emb1_7]
  canon_tiles x h
  all_goals
    idx_vars x
    obtain rfl : x0 = 0 := Subsingleton.elim _ _
    obtain rfl : x1 = 0 := Subsingleton.elim _ _
    obtain rfl : y2 = x2 := Fin.ext h2
    pointwise!
  · obtain rfl : y1 = 2 := Fin.ext h1
    exact changes_apply _ _ _ _ (fun s => Spec.c0 (bookA V c) (row V c (b1 t) s)) (fun i => code0_apply (holds0 H t i))
      (fun i => code0_apply (holds1 H t i)) (fun i => code0_apply (holds2 H t i)) (fun i => code0_apply (holds3 H t i)) y2
  · obtain rfl : y1 = 1 := Fin.ext h1
    pointwise [colSq]
    simp only [diff1_apply (holds0 H t _), diff1_apply (holds1 H t _), diff1_apply (holds2 H t _), diff1_apply (holds3 H t _)]
    exact (sum_chunks fun s => Spec.d1 (bookA V c) (bookB V c) (row V c (b1 t) s) y2 * Spec.d1 (bookA V c) (bookB V c) (row V c (b1 t) s) y2).symm
  · obtain rfl : y1 = 0 := Fin.ext h1
    pointwise [colSq]
    simp only [diff0_apply (holds0 H t _), diff0_apply (holds1 H t _), diff0_apply (holds2 H t _), diff0_apply (holds3 H t _)]
    exact (sum_chunks fun s => Spec.d0 (bookA V c) (row V c (b1 t) s) y2 * Spec.d0 (bookA V c) (row V c (b1 t) s) y2).symm

end Cert.KernelIdeal.Val

end
-- ==== Proof.KPred.lean ====
/- The predictor region: what one grid point leaves in its block, as a composition of few vector operations. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline

/-- One of the ten products of the first layer, added to the sum so far. -/
def predAdd (acc : FVec Ideal S512x1280 .f32) (z : Vec Ideal S1x512x128 .f32) (w : Vec Ideal S1x128x1280 .bf16) :
    FVec Ideal S512x1280 .f32 :=
  addf acc (matmul dot_S512x128_S128x1280_S512x1280_1_0_0_1_n_n none (shapeCast (α := Ideal .f32) S512x128 z shapeCasts_S1x512x128_S512x128)
    (φ₂ := .bf16) (shapeCast (α := Ideal .bf16) S128x1280 w shapeCasts_S1x128x1280_S128x1280) (constant S512x1280 .f32 0x00000000#32))

/-- The first layer before its bias: the ten products summed from zero. -/
def predAcc (z : Fin 10 → Vec Ideal S1x512x128 .f32) (w : Fin 10 → Vec Ideal S1x128x1280 .bf16) : FVec Ideal S512x1280 .f32 :=
  predAdd (predAdd (predAdd (predAdd (predAdd (predAdd (predAdd (predAdd (predAdd (predAdd
    (broadcast S512x1280 (Scalar.ofBits .f32 0x00000000#32)) (z 0) (w 0)) (z 1) (w 1)) (z 2) (w 2)) (z 3) (w 3)) (z 4) (w 4))
    (z 5) (w 5)) (z 6) (w 6)) (z 7) (w 7)) (z 8) (w 8)) (z 9) (w 9)

/-- The second layer over the first. -/
def predZp (acc : FVec Ideal S512x1280 .f32) (b3 : Vec Ideal S1x1280 .f32) (w4 : Vec Ideal S1280x1280 .bf16)
    (b4 : Vec Ideal S1x1280 .f32) : FVec Ideal S512x1280 .f32 :=
  addf (matmul dot_S512x1280_S1280x1280_S512x1280_1_0_0_1_n_n none
      (maximumf (addf acc (broadcastTo S512x1280 (shapeCast (α := Ideal .f32) S1x1280 b3 shapeCasts_S1x1280_S1x1280) broadcasts_S1x1280_S512x1280))
        (broadcast S512x1280 (Scalar.ofBits .f32 0x00000000#32)))
      (φ₂ := .bf16) (shapeCast (α := Ideal .bf16) S1280x1280 w4 shapeCasts_S1280x1280_S1280x1280) (constant S512x1280 .f32 0x00000000#32))
    (broadcastTo S512x1280 (shapeCast (α := Ideal .f32) S1x1280 b4 shapeCasts_S1x1280_S1x1280) broadcasts_S1x1280_S512x1280)

/-- The row sums of a product of two row blocks, as a column. -/
def rowDot (a b : FVec Ideal S512x64 .f32) : FVec Ideal S512x1 .f32 :=
  shapeCast S512x1 (multiReduction .add [1] S512 (mulf a b) 0x00000000#32 reduces_S512x64_S512 (.inl rfl) rfl) shapeCasts_S512_S512x1

/-- One group's term: the squared difference of the cosine of `a` and `b` from `sc`. -/
def simTerm (sc : FVec Ideal S512x1 .f32) (a b : FVec Ideal S512x64 .f32) : FVec Ideal S512x1 .f32 :=
  let d := subf (divf (rowDot a b)
    (mulf (maximumf (sqrt (rowDot a a)) (broadcast S512x1 (Scalar.ofBits .f32 0x322BCC77#32)))
      (maximumf (sqrt (rowDot b b)) (broadcast S512x1 (Scalar.ofBits .f32 0x322BCC77#32))))) sc
  mulf d d

/-- The columns of one group out of the second layer. -/
def grp (zp : FVec Ideal S512x1280 .f32) (off : Fin 2 → Nat) (h : S512x1280.Slices off S512x64) : FVec Ideal S512x64 .f32 :=
  extractStridedSlice S512x64 off zp h

/-- A block of target rows. -/
def tgt (zt : Vec Ideal S1x512x64 .f32) : FVec Ideal S512x64 .f32 := shapeCast (α := Ideal .f32) S512x64 zt shapeCasts_S1x512x64_S512x64

/-- The twenty groups' terms, summed from zero. -/
def predTotal (zp : FVec Ideal S512x1280 .f32) (sc : FVec Ideal S512x1 .f32) (zt : Fin 20 → Vec Ideal S1x512x64 .f32) :
    FVec Ideal S512x1 .f32 :=
  addf (addf (addf (addf (addf (addf (addf (addf (addf (addf (addf (addf (addf (addf (addf (addf (addf (addf (addf (addf
    (broadcast S512x1 (Scalar.ofBits .f32 0x00000000#32))
    (simTerm sc (tgt (zt 0)) (grp zp ![0, 0] slices_S512x1280_o0_0_S512x64)))
    (simTerm sc (tgt (zt 1)) (grp zp ![0, 64] slices_S512x1280_o0_64_S512x64)))
    (simTerm sc (tgt (zt 2)) (grp zp ![0, 128] slices_S512x1280_o0_128_S512x64)))
    (simTerm sc (tgt (zt 3)) (grp zp ![0, 192] slices_S512x1280_o0_192_S512x64)))
    (simTerm sc (tgt (zt 4)) (grp zp ![0, 256] slices_S512x1280_o0_256_S512x64)))
    (simTerm sc (tgt (zt 5)) (grp zp ![0, 320] slices_S512x1280_o0_320_S512x64)))
    (simTerm sc (tgt (zt 6)) (grp zp ![0, 384] slices_S512x1280_o0_384_S512x64)))
    (simTerm sc (tgt (zt 7)) (grp zp ![0, 448] slices_S512x1280_o0_448_S512x64)))
    (simTerm sc (tgt (zt 8)) (grp zp ![0, 512] slices_S512x1280_o0_512_S512x64)))
    (simTerm sc (tgt (zt 9)) (grp zp ![0, 576] slices_S512x1280_o0_576_S512x64)))
    (simTerm sc (tgt (zt 10)) (grp zp ![0, 640] slices_S512x1280_o0_640_S512x64)))
    (simTerm sc (tgt (zt 11)) (grp zp ![0, 704] slices_S512x1280_o0_704_S512x64)))
    (simTerm sc (tgt (zt 12)) (grp zp ![0, 768] slices_S512x1280_o0_768_S512x64)))
    (simTerm sc (tgt (zt 13)) (grp zp ![0, 832] slices_S512x1280_o0_832_S512x64)))
    (simTerm sc (tgt (zt 14)) (grp zp ![0, 896] slices_S512x1280_o0_896_S512x64)))
    (simTerm sc (tgt (zt 15)) (grp zp ![0, 960] slices_S512x1280_o0_960_S512x64)))
    (simTerm sc (tgt (zt 16)) (grp zp ![0, 1024] slices_S512x1280_o0_1024_S512x64)))
    (simTerm sc (tgt (zt 17)) (grp zp ![0, 1088] slices_S512x1280_o0_1088_S512x64)))
    (simTerm sc (tgt (zt 18)) (grp zp ![0, 1152] slices_S512x1280_o0_1152_S512x64)))
    (simTerm sc (tgt (zt 19)) (grp zp ![0, 1216] slices_S512x1280_o0_1216_S512x64))

/-- Whether two code columns agree, as zero or one. -/
def sameCol (a b : Vec Ideal S1x512x1 .i32) : FVec Ideal S512x1 .f32 :=
  sitofp .f32 (extui 32 (cmpi .eq (shapeCast S512x1 a shapeCasts_S1x512x1_S512x1) (shapeCast S512x1 b shapeCasts_S1x512x1_S512x1))
    natLt_1_32)

/-- Which rows of the block starting at row `v0` are in range, as zero or one. -/
def maskCol (v0 : BitVec 32) : FVec Ideal S512x1 .f32 :=
  sitofp .f32 (extui 32 (cmpi .slt (addi (iota .tc S512x1 32 [0] iota_S512x1_d0_w32) (broadcast S512x1 v0)) (broadcast S512x1 2019#32))
    natLt_1_32)

/-- The block's sum, laid in lane zero of an otherwise zero row. -/
def laneZero (x : FVec Ideal S512x1 .f32) : FVec Ideal S1x1x1x128 .f32 :=
  shapeCast S1x1x1x128 (select (cmpi .eq (iota .tc S1x128 32 [1] iota_S1x128_d1_w32) (broadcast S1x128 0#32))
    (broadcast S1x128 (extractAt ![0, 0, 0] (shapeCast S1x1x1 (multiReduction .add [1, 2] S1
      (shapeCast S1x512x1 x shapeCasts_S512x1_S1x512x1) 0x00000000#32 reduces_S1x512x1_S1 (.inl rfl) rfl) shapeCasts_S1_S1x1x1)
      inpos_S1x1x1_p0_0_0))
    (broadcast S1x128 (Scalar.ofBits .f32 0x00000000#32))) shapeCasts_S1x128_S1x1x1x128

variable (V : ∀ c : Dev nD, (b : Ref sig .tc) → b.ty.Contents (Elt Ideal))

/-- The history rows that tap `r` of grid point `t` reads. -/
def histBlk (x0 : Vec Ideal S1x2064x128 .f32) (i : grid2.Coords) (r : Fin 10) : Vec Ideal S1x512x128 .f32 :=
  View.ld x0 (Rect.unit (k2_off1 i (BitVec.ofNat 32 r.val)) S1x512x128.size (k2_off1_inb i r))

/-- The weights that tap `r` reads. -/
def w3Blk (x3 : Vec Ideal S10x128x1280 .bf16) (r : Fin 10) : Vec Ideal S1x128x1280 .bf16 :=
  ![View.ld x3 (Rect.unit ![0, 0, 0] S1x128x1280.size inb_S10x128x1280_S1x128x1280_0_0_0),
    View.ld x3 (Rect.unit ![1, 0, 0] S1x128x1280.size inb_S10x128x1280_S1x128x1280_1_0_0),
    View.ld x3 (Rect.unit ![2, 0, 0] S1x128x1280.size inb_S10x128x1280_S1x128x1280_2_0_0),
    View.ld x3 (Rect.unit ![3, 0, 0] S1x128x1280.size inb_S10x128x1280_S1x128x1280_3_0_0),
    View.ld x3 (Rect.unit ![4, 0, 0] S1x128x1280.size inb_S10x128x1280_S1x128x1280_4_0_0),
    View.ld x3 (Rect.unit ![5, 0, 0] S1x128x1280.size inb_S10x128x1280_S1x128x1280_5_0_0),
    View.ld x3 (Rect.unit ![6, 0, 0] S1x128x1280.size inb_S10x128x1280_S1x128x1280_6_0_0),
    View.ld x3 (Rect.unit ![7, 0, 0] S1x128x1280.size inb_S10x128x1280_S1x128x1280_7_0_0),
    View.ld x3 (Rect.unit ![8, 0, 0] S1x128x1280.size inb_S10x128x1280_S1x128x1280_8_0_0),
    View.ld x3 (Rect.unit ![9, 0, 0] S1x128x1280.size inb_S10x128x1280_S1x128x1280_9_0_0)] r

/-- The target rows that group `p` of grid point `t` reads. -/
def tgtBlk (x1 : Vec Ideal S1x2080x64 .f32) (i : grid2.Coords) (p : Fin 20) : Vec Ideal S1x512x64 .f32 :=
  View.ld x1 (Rect.unit (k2_off4 i (BitVec.ofNat 32 p.val)) S1x512x64.size (k2_off4_inb i p))

/-- The second layer at grid point `t`. -/
def zpAt (c : Dev nD) (t : Fin cfg2.N) : FVec Ideal S512x1280 .f32 :=
  predZp (predAcc (histBlk (iblk2 V c 0 t) (grid2.coords t)) (w3Blk (iblk2 V c 3 t))) (iblk2 V c 4 t) (iblk2 V c 5 t) (iblk2 V c 6 t)

/-- The target column at grid point `t`. -/
def scAt (c : Dev nD) (t : Fin cfg2.N) : FVec Ideal S512x1 .f32 :=
  sameCol (View.ld (iblk2 V c 2 t) (Rect.unit (k2_off2 (grid2.coords t)) S1x512x1.size (k2_off2_inb (grid2.coords t))))
    (View.ld (iblk2 V c 2 t) (Rect.unit (k2_off3 (grid2.coords t)) S1x512x1.size (k2_off3_inb (grid2.coords t))))

set_option maxHeartbeats 4000000 in
/-- The region's block after grid point `t`, spelt out. -/
theorem outsAt2_eq (c : Dev nD) (t : Fin cfg2.N) :
    outsAt2 (F := Ideal) V c t
      = laneZero (mulf (predTotal (zpAt V c t) (scAt V c t) (tgtBlk (iblk2 V c 1 t) (grid2.coords t)))
          (maskCol (Scalar.muli (BitVec.ofNat 32 (grid2.coords t 1).val) 512#32))) := by
  funext y
  unfold outsAt2
  frame_out
  rfl

end Cert.KernelIdeal.Val

end
-- ==== Proof.KPredRead.lean ====
/- The predictor region's array, entry by entry. -/
module

public import proofs.«01_k».proof.Proof.KPred
public import proofs.«01_k».proof.Proof.KVqRow

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline
open Idealize.ShloMosaic.Pointwise

/-- One group's term at a row: the squared difference of a cosine from the target. -/
theorem simTerm_apply (sc a b) (i : Fin 512) : simTerm sc a b (ix2 i 0)
    = Spec.cosDiff (sc (ix2 i 0)) (fun k => a (ix2 i k)) (fun k => b (ix2 i k))
      * Spec.cosDiff (sc (ix2 i 0)) (fun k => a (ix2 i k)) (fun k => b (ix2 i k)) := by
  pointwise [simTerm, rowDot]
  rfl

/-- The first layer before its bias, at a row and a column: the sum over the ten taps. -/
theorem predAcc_apply (z w) (i : Fin 512) (d : Fin 1280) : predAcc z w (ix2 i d) = ∑ r, ∑ k, z r (ix3 0 i k) * w r (ix3 0 k d) := by
  pointwise [predAcc, predAdd]
  rw [Spec.sum10]

/-- The twenty groups' terms at a row. -/
theorem predTotal_apply (zp sc zt) (i : Fin 512) : predTotal zp sc zt (ix2 i 0) =
    ∑ p : Fin 20, Spec.cosDiff (sc (ix2 i 0)) (fun k => zt p (ix3 0 i k)) (fun k => zp (ix2 i ⟨64 * p.val + k.val, by omega⟩))
      * Spec.cosDiff (sc (ix2 i 0)) (fun k => zt p (ix3 0 i k)) (fun k => zp (ix2 i ⟨64 * p.val + k.val, by omega⟩)) := by
  pointwise [predTotal]
  simp only [simTerm_apply]
  pointwise [grp, tgt]
  rw [Spec.sum20]
  rfl

variable (V : ∀ c : Dev nD, (b : Ref sig .tc) → b.ty.Contents (Elt Ideal)) (c : Dev nD)

/-- Where each window stands at each grid point. -/
theorem win2_index : ∀ t : Fin cfg2.N, win2_0.index t = ![t.val / 4, 0, 0] ∧ win2_1.index t = ![t.val / 4, 0, 0]
    ∧ win2_2.index t = ![t.val / 4, 0, 0] ∧ win2_3.index t = ![0, 0, 0] ∧ win2_4.index t = ![0, 0] ∧ win2_5.index t = ![0, 0]
    ∧ win2_6.index t = ![0, 0] ∧ win2_7.index t = ![t.val / 4, t.val % 4, 0, 0] := by decide +kernel

/-- The second coordinate of a grid point. -/
theorem coords2_1 : ∀ t : Fin cfg2.N, (grid2.coords t 1).val = t.val % 4 := by decide +kernel

/-- There are thirty-two grid points. -/
theorem N2_lt (t : Fin cfg2.N) : t.val < 32 := t.isLt

/-- The batch a grid point works on. -/
def b2 (t : Fin cfg2.N) : Fin 8 := ⟨t.val / 4, by have := N2_lt t; omega⟩
/-- The block of rows a grid point works on. -/
def n2 (t : Fin cfg2.N) : Fin 4 := ⟨t.val % 4, by omega⟩

/-- The region's block of operand 0. -/
theorem iblk2_0_apply (t : Fin cfg2.N) (s : Fin 2064) (k : Fin 128) : iblk2 V c 0 t (ix3 0 s k) = V c main_v8_1 (ix3 (b2 t) s k) := by
  have hb : (b2 t).val = t.val / 4 := rfl
  blk_ext [iblk2, win2_index t]
/-- The region's block of operand 1. -/
theorem iblk2_1_apply (t : Fin cfg2.N) (s : Fin 2080) (k : Fin 64) : iblk2 V c 1 t (ix3 0 s k) = V c main_v8_0 (ix3 (b2 t) s k) := by
  have hb : (b2 t).val = t.val / 4 := rfl
  blk_ext [iblk2, win2_index t]
/-- The region's block of operand 2. -/
theorem iblk2_2_apply (t : Fin cfg2.N) (s : Fin 2080) : iblk2 V c 2 t (ix3 0 s 0) = V c main_v10 (ix3 (b2 t) s 0) := by
  have hb : (b2 t).val = t.val / 4 := rfl
  blk_ext [iblk2, win2_index t]
/-- The region's block of operand 3. -/
theorem iblk2_3_apply (t : Fin cfg2.N) (r : Fin 10) (k : Fin 128) (d : Fin 1280) :
    iblk2 V c 3 t (ix3 r k d) = V c main_v13 (ix3 r k d) := by
  blk_ext [iblk2, win2_index t]
/-- The region's block of operand 4. -/
theorem iblk2_4_apply (t : Fin cfg2.N) (d : Fin 1280) : iblk2 V c 4 t (ix2 0 d) = V c main_v16 (ix2 0 d) := by
  blk_ext [iblk2, win2_index t]
/-- The region's block of operand 5. -/
theorem iblk2_5_apply (t : Fin cfg2.N) (d o : Fin 1280) : iblk2 V c 5 t (ix2 d o) = V c main_v15 (ix2 d o) := by
  blk_ext [iblk2, win2_index t]
/-- The region's block of operand 6. -/
theorem iblk2_6_apply (t : Fin cfg2.N) (d : Fin 1280) : iblk2 V c 6 t (ix2 0 d) = V c main_v17 (ix2 0 d) := by
  blk_ext [iblk2, win2_index t]
/-- Where the region's block lies in its array. -/
theorem emb2_7 (t : Fin cfg2.N) (k : Fin 128) :
    ((View.whole main_v18).slice (win2_7.rect t)).emb (ix4 0 0 0 k) = ix4 (b2 t) (n2 t) 0 k := by
  have hb : (b2 t).val = t.val / 4 := rfl
  have hn : (n2 t).val = t.val % 4 := rfl
  blk_ext [win2_index t]

/-- The row of the sequence that row `i` of block `n` is. -/
def rowOf (n : Fin 4) (i : Fin 512) : Fin 2048 := ⟨512 * n.val + i.val, by omega⟩

/-- The history rows at one offset. -/
theorem histBlk_apply (t : Fin cfg2.N) (r : Fin 10) (i : Fin 512) (k : Fin 128) :
    histBlk (iblk2 V c 0 t) (grid2.coords t) r (ix3 0 i k)
      = V c main_v8_1 (ix3 (b2 t) ⟨(rowOf (n2 t) i).val + r.val, by omega⟩ k) := by
  unfold histBlk
  rw [View.ld_apply, ← iblk2_0_apply V c t]
  have h := k2_off1_eq (grid2.coords t) r
  rw [coords2_1] at h
  refine congrArg _ ?_
  funext a
  apply Fin.ext
  refine (Rect.idx_unit_val ..).trans ((congrArg (· + _) (congrFun h a)).trans ?_)
  fin_cases a
  · simp
  · change 512 * (t.val % 4) + r.val + i.val = 512 * (t.val % 4) + i.val + r.val
    omega
  · simp

/-- The target rows at one offset. -/
theorem tgtBlk_apply (t : Fin cfg2.N) (p : Fin 20) (i : Fin 512) (k : Fin 64) :
    tgtBlk (iblk2 V c 1 t) (grid2.coords t) p (ix3 0 i k)
      = V c main_v8_0 (ix3 (b2 t) ⟨(rowOf (n2 t) i).val + p.val + 10, by omega⟩ k) := by
  unfold tgtBlk
  rw [View.ld_apply, ← iblk2_1_apply V c t]
  have h := k2_off4_eq (grid2.coords t) p
  rw [coords2_1] at h
  refine congrArg _ ?_
  funext a
  apply Fin.ext
  refine (Rect.idx_unit_val ..).trans ((congrArg (· + _) (congrFun h a)).trans ?_)
  fin_cases a
  · simp
  · change 512 * (t.val % 4) + p.val + 10 + i.val = 512 * (t.val % 4) + i.val + p.val + 10
    omega
  · simp

/-- The first layer's weights of one history row. -/
theorem w3Blk_apply (x) (r : Fin 10) (k : Fin 128) (d : Fin 1280) : w3Blk x r (ix3 0 k d) = x (ix3 r k d) := by
  fin_cases r <;> pointwise [w3Blk]

/-- The predictor's output at a row. -/
def predRow (b : Fin 8) (n : Fin 2048) (o : Fin 1280) : EReal :=
  Spec.pred (fun r k => V c main_v8_1 (ix3 b ⟨n.val + r.val, by omega⟩ k)) (fun r k d => V c main_v13 (ix3 r k d))
    (fun d => V c main_v16 (ix2 0 d)) (fun d o => V c main_v15 (ix2 d o)) (fun o => V c main_v17 (ix2 0 o)) o

/-- The predicted row of one window. -/
theorem zpAt_apply (t : Fin cfg2.N) (i : Fin 512) (o : Fin 1280) : zpAt V c t (ix2 i o) = predRow V c (b2 t) (rowOf (n2 t) i) o := by
  unfold zpAt
  pointwise [predZp]
  simp only [predAcc_apply, histBlk_apply, w3Blk_apply, iblk2_3_apply, iblk2_4_apply, iblk2_5_apply, iblk2_6_apply]
  rfl

/-- Whether the first code stays the same ten steps ahead. -/
def sameAt (b : Fin 8) (n : Fin 2048) : EReal :=
  Spec.ind (V c main_v10 (ix3 b ⟨n.val + 10, by omega⟩ 0) = (V c main_v10 (ix3 b ⟨n.val + 11, by omega⟩ 0) : BitVec 32))

/-- A comparison for equality is set exactly on equal words. -/
theorem cmpi_eq_one (a b : BitVec 32) : IntOp.cmpi .eq a b = 1#1 ↔ a = b := by
  by_cases h : a = b
  · simp [IntOp.cmpi, h]
  · simp only [IntOp.cmpi, beq_eq_false_iff_ne.mpr h, h, iff_false]; decide

/-- Whether two code columns agree at a row. -/
theorem sameCol_apply (a b) (i : Fin 512) : sameCol a b (ix2 i 0) = Spec.ind (a (ix3 0 i 0) = (b (ix3 0 i 0) : BitVec 32)) := by
  pointwise [sameCol]
  rw [sitofp_ind]
  exact if_congr (cmpi_eq_one _ _) rfl rfl

/-- A column of codes read from an offset. -/
theorem codeCol_apply (t : Fin cfg2.N) (off : Fin 3 → ℕ) (h : ∀ a, off a + S1x512x1.size a ≤ S1x2080x1.size a) (m : ℕ)
    (e : off = ![0, 512 * (grid2.coords t 1).val + m, 0]) (i : Fin 512) (hm : m ≤ 32) :
    View.ld (iblk2 V c 2 t) (Rect.unit off S1x512x1.size h) (ix3 0 i 0) = V c main_v10 (ix3 (b2 t) ⟨(rowOf (n2 t) i).val + m, by omega⟩ 0) := by
  rw [View.ld_apply, ← iblk2_2_apply V c t]
  rw [coords2_1] at e
  refine congrArg _ ?_
  funext a
  apply Fin.ext
  refine (Rect.idx_unit_val ..).trans ((congrArg (· + _) (congrFun e a)).trans ?_)
  fin_cases a
  · simp
  · change 512 * (t.val % 4) + m + i.val = 512 * (t.val % 4) + i.val + m
    omega
  · simp

/-- The target of one window. -/
theorem scAt_apply (t : Fin cfg2.N) (i : Fin 512) : scAt V c t (ix2 i 0) = sameAt V c (b2 t) (rowOf (n2 t) i) := by
  unfold scAt
  rw [sameCol_apply, codeCol_apply V c t _ _ 10 (k2_off2_eq _) i (by omega), codeCol_apply V c t _ _ 11 (k2_off3_eq _) i (by omega)]
  rfl

/-- A row's loss: the squared differences of its twenty cosines. -/
def lossRow (b : Fin 8) (n : Fin 2048) : EReal :=
  ∑ p : Fin 20, Spec.cosDiff (sameAt V c b n) (fun k => V c main_v8_0 (ix3 b ⟨n.val + p.val + 10, by omega⟩ k))
      (fun k => predRow V c b n ⟨64 * p.val + k.val, by omega⟩)
    * Spec.cosDiff (sameAt V c b n) (fun k => V c main_v8_0 (ix3 b ⟨n.val + p.val + 10, by omega⟩ k))
      (fun k => predRow V c b n ⟨64 * p.val + k.val, by omega⟩)

/-- The mask column at a row. -/
theorem maskCol_apply (n : Fin 4) (i : Fin 512) :
    maskCol (Scalar.muli (BitVec.ofNat 32 n.val) 512#32) (ix2 i 0) = Spec.ind ((rowOf n i).val < 2019) := by
  pointwise [maskCol]
  rw [sitofp_ind]
  refine if_congr ?_ rfl rfl
  have e : IntOp.addi (BitVec.ofNat 32 i.val) (Scalar.muli (BitVec.ofNat 32 n.val) 512#32) = BitVec.ofNat 32 (rowOf n i).val := by
    apply BitVec.eq_of_toNat_eq
    simp [IntOp.addi, Scalar.muli, IntOp.muli, rowOf]
    omega
  rw [e]
  have h : (rowOf n i).val < 2048 := (rowOf n i).isLt
  have hi : (BitVec.ofNat 32 (rowOf n i).val).slt 2019#32 = decide ((rowOf n i).val < 2019) := by
    rw [BitVec.slt, toInt_ofNat _ h]
    have : (2019#32).toInt = 2019 := by decide
    rw [this]
    simp
  simp only [IntOp.cmpi, hi]
  by_cases hl : (rowOf n i).val < 2019 <;> simp [hl]

/-- The predictor region's array: each block's masked sum in lane zero. -/
def lossArr : S8x4x1x128.Idx → EReal := fun j =>
  if (j 3).val = 0 then ∑ i : Fin 512, lossRow V c (j 0) (rowOf (j 1) i) * Spec.ind ((rowOf (j 1) i).val < 2019) else 0

/-- A choice by lane number: lane zero or not. -/
theorem select_lane (k : Fin 128) (x : EReal) :
    Scalar.select (IntOp.cmpi .eq (BitVec.ofNat 32 k.val) 0#32) x 0 = if k.val = 0 then x else 0 := by
  by_cases h : k.val = 0
  · rw [if_pos h, h]; rfl
  · rw [if_neg h]
    have hn : ¬ BitVec.ofNat 32 k.val = 0#32 := fun e => h (by
      have := congrArg BitVec.toNat e
      simp only [BitVec.toNat_ofNat] at this
      omega)
    have : IntOp.cmpi .eq (BitVec.ofNat 32 k.val) 0#32 = 0#1 := by
      simp only [IntOp.cmpi, beq_eq_false_iff_ne.mpr hn]; decide
    rw [this]; rfl

/-- A block's sum in lane zero. -/
theorem laneZero_apply (x) (k : Fin 128) : laneZero x (ix4 0 0 0 k) = if k.val = 0 then ∑ i : Fin 512, x (ix2 i 0) else 0 := by
  pointwise [laneZero]
  simp only [Fin.sum_univ_one]
  exact select_lane k _

/-- What grid point `t` leaves, lane by lane. -/
theorem lossBlk_apply (t : Fin cfg2.N) (k : Fin 128) :
    laneZero (mulf (predTotal (zpAt V c t) (scAt V c t) (tgtBlk (iblk2 V c 1 t) (grid2.coords t)))
      (maskCol (Scalar.muli (BitVec.ofNat 32 (grid2.coords t 1).val) 512#32))) (ix4 0 0 0 k) = lossArr V c (ix4 (b2 t) (n2 t) 0 k) := by
  rw [laneZero_apply]
  have hc : (grid2.coords t 1).val = (n2 t).val := coords2_1 t
  rw [hc]
  refine if_congr Iff.rfl (Finset.sum_congr (M := EReal) rfl fun i _ => ?_) rfl
  pointwise
  rw [predTotal_apply, maskCol_apply]
  simp only [zpAt_apply, scAt_apply, tgtBlk_apply]
  rfl

/-- The array the predictor region leaves. -/
theorem lossArr_eq : (dat2 V c).arrAt 7 cfg2.N = lossArr V c := by
  refine (dat2 V c).arrAt_eq_of_covers 7 _ (by decide +kernel) fun t hf y => ?_
  blk_simp
  rw [after2_7, outsAt2_eq]
  idx_vars y
  obtain rfl : y0 = 0 := Subsingleton.elim _ _
  obtain rfl : y1 = 0 := Subsingleton.elim _ _
  obtain rfl : y2 = 0 := Subsingleton.elim _ _
  rw [emb2_7]
  exact lossBlk_apply V c t y3

end Cert.KernelIdeal.Val

end
-- ==== Proof.KHost.lean ====
/- The kernel program's five results as functions of the arguments: the host operations between the regions, read at an
   index, join the regions' arrays. -/
module

public import proofs.«01_k».proof.Proof.Args
public import proofs.«01_k».proof.Proof.KEncRead
public import proofs.«01_k».proof.Proof.KVqRead
public import proofs.«01_k».proof.Proof.KPredRead
public import Idealize.ShloMosaic.Lib.StableHlo.ReadAt

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.Pipeline
open Idealize.ShloMosaic.Pointwise

variable (m : (ℓ : Loc nD τ sig) → Buf (Elt Ideal) ℓ) (ρ : Dev nD → PrngReg) (c : Dev nD)

/-- The arguments in the launch memory. -/
def args : Spec.Args :=
  Spec.argsOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-! ## The encoder's operands and its array -/

/-- The transposed input. -/
theorem v0_at (b : Fin 8) (s : Fin 2048) (i : Fin 2) :
    V1 m ρ c main_v0 (ix3 b s i) = m ((c : Thread nD τ).loc main_arg0) (ix3 b i s) := by
  after_reads_at
/-- The first layer's weights, by tap. -/
theorem v1_at (k : Fin 7) (i : Fin 2) (d : Fin 256) :
    V1 m ρ c main_v1 (ix3 k i d) = m ((c : Thread nD τ).loc main_arg2) (ix3 d i k) := by
  after_reads_at
/-- The second layer's weights, by tap. -/
theorem v3_at (k : Fin 9) (i : Fin 256) (d : Fin 64) :
    V1 m ρ c main_v3 (ix3 k i d) = m ((c : Thread nD τ).loc main_arg4) (ix3 d i k) := by
  after_reads_at
/-- The first layer's bias. -/
theorem v4_at (d : Fin 256) : V1 m ρ c main_v4 (ix2 0 d) = m ((c : Thread nD τ).loc main_arg3) (ix1 d) := by
  after_reads_at
/-- The second layer's bias. -/
theorem v5_at (d : Fin 64) : V1 m ρ c main_v5 (ix2 0 d) = m ((c : Thread nD τ).loc main_arg5) (ix1 d) := by
  after_reads_at

/-- The encoder region's array. -/
theorem v6_eq : V3 m ρ c main_v6 = encArr (V1 m ρ) c :=
  (W3_of m ρ c main_v6 (by decide)).trans ((W2_arr m ρ c 5).trans (encArr_eq (V1 m ρ) c))

/-- Convolutions of equal arrays. -/
theorem conv_congr {x x' : Fin 2 → Fin 2048 → EReal} {w w' : Fin 256 → Fin 2 → Fin 7 → EReal} {e e' : Fin 256 → EReal}
    {w2 w2' : Fin 64 → Fin 256 → Fin 9 → EReal} {e2 e2' : Fin 64 → EReal} (hx : ∀ i s, x i s = x' i s)
    (hw : ∀ d i k, w d i k = w' d i k) (he : ∀ d, e d = e' d) (hw2 : ∀ o i k, w2 o i k = w2' o i k) (he2 : ∀ o, e2 o = e2' o)
    (k : Fin 64) (s : Fin 2048) :
    Spec.conv2 (fun d => Spec.conv1 x w e d) w2 e2 k s = Spec.conv2 (Spec.conv1 x' w' e') w2' e2' k s := by
  obtain rfl : x = x' := funext fun i => funext (hx i)
  obtain rfl : w = w' := funext fun d => funext fun i => funext (hw d i)
  obtain rfl : e = e' := funext he
  obtain rfl : w2 = w2' := funext fun o => funext fun i => funext (hw2 o i)
  obtain rfl : e2 = e2' := funext he2
  rfl

/-- The quantizer's rows are the encoded rows. -/
theorem row_eq (b : Fin 8) (s : Fin 2048) : row (V3 m ρ) c b s = (args m c).z b s := by
  funext k
  exact (congrFun (v6_eq m ρ c) (ix3 b s k)).trans (conv_congr (fun i s => v0_at m ρ c b s i) (fun d i k => v1_at m ρ c k i d)
    (v4_at m ρ c) (fun o i k => v3_at m ρ c k i o) (v5_at m ρ c) k s)

/-! ## The quantizer's operands and its arrays -/

/-- The code table, unchanged. -/
theorem arg10_eq : V3 m ρ c main_arg10 = m ((c : Thread nD τ).loc main_arg10) := W3_args m ρ c main_arg10 (by decide)
/-- The codebooks, unchanged. -/
theorem arg11_eq : V3 m ρ c main_arg11 = m ((c : Thread nD τ).loc main_arg11) := W3_args m ρ c main_arg11 (by decide)

/-- The transposed codebooks. -/
theorem v7_at (q : Fin 2) (k : Fin 64) (j : Fin 1024) :
    V3 m ρ c main_v7 (ix3 q k j) = m ((c : Thread nD τ).loc main_arg11) (ix3 q j k) := by
  have h : W2 m ρ c (Proc.devRef .tc main_arg11) = m ((c : Thread nD τ).loc main_arg11) := W2_args m ρ c main_arg11 (by decide)
  rw [← h]
  after_reads_at

/-- The first codebook. -/
theorem bookA_eq : bookA (V3 m ρ) c = (args m c).cb 0 := by
  funext j k; exact congrFun (arg11_eq m ρ c) (ix3 0 j k)
/-- The second codebook. -/
theorem bookB_eq : bookB (V3 m ρ) c = (args m c).cb 1 := by
  funext j k; exact congrFun (arg11_eq m ρ c) (ix3 1 j k)
/-- The code table. -/
theorem table_eq : table (V3 m ρ) c = (args m c).t := by
  funext j k; exact congrFun (arg10_eq m ρ c) (ix2 j k)

/-- The tables of the arguments are finite. -/
structure Finite (A : Spec.Args) : Prop where
  fcb : ∀ q j k, A.cb q j k ≠ ⊤ ∧ A.cb q j k ≠ ⊥
  fct : ∀ j k, A.t j k ≠ ⊤ ∧ A.t j k ≠ ⊥

variable {m c} (H : Finite (args m c))
include H

/-- What the quantizer region assumes of its tables. -/
theorem tables : Tables (V3 m ρ) c where
  tr q k j := (v7_at m ρ c q k j).trans (congrFun (arg11_eq m ρ c) (ix3 q j k)).symm
  fcb q j k := by rw [arg11_eq]; exact H.fcb q j k
  fct j k := by rw [arg10_eq]; exact H.fct j k

/-- The quantizer region's rows. -/
theorem v80_eq : V7 m ρ c main_v8_0 = quantArr (V3 m ρ) c :=
  (W7_of m ρ c main_v8_0 (by decide)).trans ((W6_of m ρ c main_v8_0 (by decide)).trans
    ((W5_of m ρ c main_v8_0 (by decide)).trans ((W4_arr m ρ c 4).trans (quantArr_eq (tables ρ H)))))
/-- The quantizer region's history rows. -/
theorem v81_eq : V7 m ρ c main_v8_1 = histArr (V3 m ρ) c :=
  (W7_of m ρ c main_v8_1 (by decide)).trans ((W6_of m ρ c main_v8_1 (by decide)).trans
    ((W5_of m ρ c main_v8_1 (by decide)).trans ((W4_arr m ρ c 5).trans (histArr_eq (tables ρ H)))))
/-- The quantizer region's codes. -/
theorem codes4_eq : W4 m ρ c (Proc.devRef .tc main_v8_2) = codeArr (V3 m ρ) c := (W4_arr m ρ c 6).trans (codeArr_eq (tables ρ H))
/-- The quantizer region's partial sums. -/
theorem misc4_eq : W4 m ρ c (Proc.devRef .tc main_v8_3) = miscArr (V3 m ρ) c := (W4_arr m ρ c 7).trans (miscArr_eq (tables ρ H))
/-- The codes at the end of the program. -/
theorem codes9_eq : W9 m ρ c (Proc.devRef .tc main_v8_2) = codeArr (V3 m ρ) c :=
  (W9_of m ρ c main_v8_2 (by decide)).trans ((W8_of m ρ c main_v8_2 (by decide)).trans
    ((W7_of m ρ c main_v8_2 (by decide)).trans ((W6_of m ρ c main_v8_2 (by decide)).trans
      ((W5_of m ρ c main_v8_2 (by decide)).trans (codes4_eq ρ H)))))
/-- The partial sums after the predictor region. -/
theorem misc8_eq : W8 m ρ c (Proc.devRef .tc main_v8_3) = miscArr (V3 m ρ) c :=
  (W8_of m ρ c main_v8_3 (by decide)).trans
    ((W7_of m ρ c main_v8_3 (by decide)).trans ((W6_of m ρ c main_v8_3 (by decide)).trans
      ((W5_of m ρ c main_v8_3 (by decide)).trans (misc4_eq ρ H))))

/-- The first code's column, padded, at a row. -/
theorem v10_at (b : Fin 8) (y : Fin 2080) (s : Fin 2048) (h : y.val = s.val) :
    V7 m ρ c main_v10 (ix3 b y 0) = BitVec.ofNat 32 ((args m c).code0 b s).val := by
  have h1 : V7 m ρ c main_v10 (ix3 b y 0) = W4 m ρ c (Proc.devRef .tc main_v8_2) (ix3 b s 0) := by
    obtain ⟨y, hy⟩ := y
    obtain rfl : y = s.val := h
    after_reads_at
  rw [h1, codes4_eq ρ H, codeArr_left b s s 0 rfl rfl, row_eq, bookA_eq]
  rfl

omit H in
theorem v13_at (r : Fin 10) (k : Fin 128) (d : Fin 1280) :
    V7 m ρ c main_v13 (ix3 r k d) = (args m c).w3 d ⟨128 * r.val + k.val, by omega⟩ := by
  have h : W6 m ρ c (Proc.devRef .tc main_arg6) = m ((c : Thread nD τ).loc main_arg6) := W6_args m ρ c main_arg6 (by decide)
  have h1 : V7 m ρ c main_v13 (ix3 r k d) = W6 m ρ c (Proc.devRef .tc main_arg6) (ix2 d ⟨r.val * 128 + k.val, by omega⟩) := by
    after_reads_at
  rw [h1, h]
  change _ = m ((c : Thread nD τ).loc main_arg6) (ix2 d ⟨128 * r.val + k.val, by omega⟩)
  exact congrArg (fun i => m ((c : Thread nD τ).loc main_arg6) (ix2 d i)) (Fin.ext (by simp only; omega))
omit H in
theorem v15_at (x o : Fin 1280) : V7 m ρ c main_v15 (ix2 x o) = (args m c).w4 o x := by
  have h : W6 m ρ c (Proc.devRef .tc main_arg8) = m ((c : Thread nD τ).loc main_arg8) := W6_args m ρ c main_arg8 (by decide)
  change _ = m ((c : Thread nD τ).loc main_arg8) (ix2 o x)
  rw [← h]
  after_reads_at
omit H in
theorem v16_at (d : Fin 1280) : V7 m ρ c main_v16 (ix2 0 d) = (args m c).e3 d := by
  have h : W6 m ρ c (Proc.devRef .tc main_arg7) = m ((c : Thread nD τ).loc main_arg7) := W6_args m ρ c main_arg7 (by decide)
  change _ = m ((c : Thread nD τ).loc main_arg7) (ix1 d)
  rw [← h]
  after_reads_at
omit H in
theorem v17_at (d : Fin 1280) : V7 m ρ c main_v17 (ix2 0 d) = (args m c).e4 d := by
  have h : W6 m ρ c (Proc.devRef .tc main_arg9) = m ((c : Thread nD τ).loc main_arg9) := W6_args m ρ c main_arg9 (by decide)
  change _ = m ((c : Thread nD τ).loc main_arg9) (ix1 d)
  rw [← h]
  after_reads_at

/-! ## The predictor's rows -/

/-- A padded row inside the sequence is a quantized row. -/
theorem quant_at (b : Fin 8) (y : Fin 2080) (k : Fin 64) (s : Fin 2048) (h : y.val = s.val) :
    V7 m ρ c main_v8_0 (ix3 b y k) = (args m c).q b s k := by
  rw [v80_eq ρ H, quantArr_row b y k s h, row_eq, bookA_eq, bookB_eq]
  rfl

/-- A padded history row inside the sequence is a history row. -/
theorem hist_at (b : Fin 8) (y : Fin 2064) (k : Fin 128) (s : Fin 2048) (h : y.val = s.val) :
    V7 m ρ c main_v8_1 (ix3 b y k) = (args m c).hist b s k := by
  rw [v81_eq ρ H]
  unfold Spec.Args.hist
  by_cases hk : k.val < 64
  · rw [histArr_left b y k s ⟨k.val, hk⟩ h rfl, dif_pos hk, row_eq, bookA_eq, bookB_eq]
    rfl
  · rw [histArr_right b y k s ⟨k.val - 64, by omega⟩ h (by simp only; omega), dif_neg hk, row_eq, bookA_eq, table_eq]
    rfl

omit H in
/-- Predictor outputs of equal arrays. -/
theorem pred_congr {h h' : Fin 10 → Fin 128 → EReal} {w w' : Fin 10 → Fin 128 → Fin 1280 → EReal} {e e' : Fin 1280 → EReal}
    {w2 w2' : Fin 1280 → Fin 1280 → EReal} {e2 e2' : Fin 1280 → EReal} (hh : ∀ r k, h r k = h' r k)
    (hw : ∀ r k d, w r k d = w' r k d) (he : ∀ d, e d = e' d) (hw2 : ∀ d o, w2 d o = w2' d o) (he2 : ∀ o, e2 o = e2' o)
    (o : Fin 1280) : Spec.pred h w e w2 e2 o = Spec.pred h' w' e' w2' e2' o := by
  obtain rfl : h = h' := funext fun i => funext (hh i)
  obtain rfl : w = w' := funext fun d => funext fun i => funext (hw d i)
  obtain rfl : e = e' := funext he
  obtain rfl : w2 = w2' := funext fun o => funext (hw2 o)
  obtain rfl : e2 = e2' := funext he2
  rfl

/-- The predictor region's row of outputs. -/
theorem predRow_eq (b : Fin 8) (n : Fin 2019) (s : Fin 2048) (h : s.val = n.val) (o : Fin 1280) :
    predRow (V7 m ρ) c b s o = (args m c).out b n o := by
  obtain ⟨s, hs⟩ := s
  obtain rfl : s = n.val := h
  exact pred_congr (fun r k => hist_at ρ H b ⟨n.val + r.val, by omega⟩ k ⟨n.val + r.val, by omega⟩ rfl) (v13_at ρ) (v16_at ρ)
    (v15_at ρ) (v17_at ρ) o

omit H in
/-- Codes are equal exactly where their words are. -/
theorem code_inj (i j : Fin 1024) : BitVec.ofNat 32 i.val = BitVec.ofNat 32 j.val ↔ i = j := by
  refine ⟨fun h => Fin.ext ?_, fun h => by rw [h]⟩
  have := congrArg BitVec.toNat h
  simp only [BitVec.toNat_ofNat] at this
  omega

omit H in
/-- The number of an equality of codes, read off their words. -/
theorem ind_congr {a b : BitVec 32} {i j : Fin 1024} (ha : a = BitVec.ofNat 32 i.val) (hb : b = BitVec.ofNat 32 j.val) :
    Spec.ind (a = b) = Spec.ind (i = j) := by
  subst ha hb
  simp only [code_inj]

/-- The predictor region's target. -/
theorem sameAt_eq (b : Fin 8) (n : Fin 2019) (s : Fin 2048) (h : s.val = n.val) :
    sameAt (V7 m ρ) c b s = (args m c).same b n := by
  obtain ⟨s, hs⟩ := s
  obtain rfl : s = n.val := h
  have h10 := v10_at ρ H b ⟨n.val + 10, by omega⟩ ⟨n.val + 10, by omega⟩ rfl
  have h11 := v10_at ρ H b ⟨n.val + 11, by omega⟩ ⟨n.val + 11, by omega⟩ rfl
  exact ind_congr h10 h11

omit H in
/-- The cosine of equal rows. -/
theorem cos_congr {s s' : EReal} {u u' v v' : Fin 64 → EReal} (hs : s = s') (hu : ∀ k, u k = u' k) (hv : ∀ k, v k = v' k) :
    Spec.cosDiff s u v = Spec.cosDiff s' u' v' := by
  rw [hs, funext hu, funext hv]

/-- The predictor region's sum of squares of one window. -/
theorem lossRow_eq (b : Fin 8) (n : Fin 2019) (s : Fin 2048) (h : s.val = n.val) :
    lossRow (V7 m ρ) c b s = ∑ p, (args m c).sim b n p * (args m c).sim b n p := by
  have hs := sameAt_eq ρ H b n s h
  have hp := predRow_eq ρ H b n s h
  obtain ⟨s, hs'⟩ := s
  obtain rfl : s = n.val := h
  have hq (p : Fin 20) (k : Fin 64) := quant_at ρ H b ⟨n.val + p.val + 10, by omega⟩ k ⟨n.val + p.val + 10, by omega⟩ rfl
  unfold lossRow
  refine Finset.sum_congr rfl fun p _ => ?_
  have e := cos_congr hs (hq p) fun k => hp ⟨64 * p.val + k.val, by omega⟩
  exact congrArg₂ (fun x y : EReal => x * y) e e

/-! ## The sums -/

omit H in
/-- A sum over rows in four blocks of 512, masked beyond row 2018, is the sum over the rows before it. -/
theorem sum_masked (f : Fin 2048 → EReal) :
    ∑ n : Fin 4, ∑ i : Fin 512, f (rowOf n i) * Spec.ind ((rowOf n i).val < 2019)
      = ∑ n : Fin 2019, f ⟨n.val, by omega⟩ := by
  have h1 : ∑ s : Fin 2048, f s * Spec.ind (s.val < 2019)
      = ∑ n : Fin 4, ∑ i : Fin 512, f (rowOf n i) * Spec.ind ((rowOf n i).val < 2019) := by
    rw [← Fintype.sum_prod_type', ← (finProdFinEquiv (m := 4) (n := 512)).sum_comp]
    refine Finset.sum_congr rfl fun p _ => ?_
    have e : finProdFinEquiv p = rowOf p.1 p.2 := Fin.ext (by simp [finProdFinEquiv, rowOf]; omega)
    rw [e]
  rw [← h1]
  have h2 := Fin.sum_univ_add (a := 2019) (b := 29) (fun s : Fin 2048 => f s * Spec.ind (s.val < 2019))
  refine h2.trans ?_
  have hz : ∑ i : Fin 29, f (Fin.natAdd 2019 i) * Spec.ind ((Fin.natAdd 2019 i).val < 2019) = 0 :=
    Finset.sum_eq_zero fun i _ => by
      have : ¬ (Fin.natAdd 2019 i).val < 2019 := by simp
      rw [Spec.ind, if_neg this, mul_zero]
  rw [hz, add_zero]
  refine Finset.sum_congr rfl fun i _ => ?_
  have : (Fin.castAdd 29 i).val < 2019 := by simp
  rw [Spec.ind, if_pos this, mul_one]
  rfl

omit H in
/-- A sum over lanes that is zero but in lane zero. -/
theorem sum_lane {n : ℕ} (x : EReal) : ∑ k : Fin (n + 1), (if k.val = 0 then x else 0) = x := by
  rw [Fin.sum_univ_succ]
  simp

/-- The sum of the predictor region's array is the sum over all windows. -/
theorem v18_sum {x : S8x4x1x128.Idx → EReal} (hx : x = W8 m ρ c (Proc.devRef .tc main_v18)) :
    ∑ b : Fin 8, ∑ n : Fin 4, ∑ y : Fin 1, ∑ k : Fin 128, x (ix4 b n y k) = ∑ b, ∑ n, ∑ p, (args m c).sim b n p * (args m c).sim b n p := by
  have h : W8 m ρ c (Proc.devRef .tc main_v18) = lossArr (V7 m ρ) c := (W8_arr m ρ c 7).trans (lossArr_eq (V7 m ρ) c)
  rw [hx.trans h]
  refine Finset.sum_congr rfl fun b _ => ?_
  refine (Finset.sum_congr rfl fun n _ => ?_).trans ((sum_masked (fun s => lossRow (V7 m ρ) c b s)).trans ?_)
  · rw [Fin.sum_univ_one]
    exact sum_lane (n := 127) _
  · exact Finset.sum_congr rfl fun n _ => lossRow_eq ρ H b n _ rfl

/-- The sum of the first partial sums. -/
theorem misc_sum0 {x : S8x3x64.Idx → EReal} (hx : x = W8 m ρ c (Proc.devRef .tc main_v8_3)) :
    ∑ b : Fin 8, ∑ k : Fin 64, x (ix3 b 0 k) = ∑ b, ∑ s, ∑ k, Spec.d0 ((args m c).cb 0) ((args m c).z b s) k * Spec.d0 ((args m c).cb 0) ((args m c).z b s) k := by
  rw [hx.trans (misc8_eq ρ H)]
  refine Finset.sum_congr rfl fun b _ => ?_
  refine Eq.trans ?_ Finset.sum_comm
  refine Finset.sum_congr rfl fun k _ => ?_
  refine (if_pos rfl).trans ?_
  change ∑ s, Spec.d0 (bookA (V3 m ρ) c) (row (V3 m ρ) c b s) k * Spec.d0 (bookA (V3 m ρ) c) (row (V3 m ρ) c b s) k = _
  simp only [row_eq, bookA_eq]
/-- The sum of the second partial sums. -/
theorem misc_sum1 {x : S8x3x64.Idx → EReal} (hx : x = W8 m ρ c (Proc.devRef .tc main_v8_3)) :
    ∑ b : Fin 8, ∑ k : Fin 64, x (ix3 b 1 k) = ∑ b, ∑ s, ∑ k, Spec.d1 ((args m c).cb 0) ((args m c).cb 1) ((args m c).z b s) k
      * Spec.d1 ((args m c).cb 0) ((args m c).cb 1) ((args m c).z b s) k := by
  rw [hx.trans (misc8_eq ρ H)]
  refine Finset.sum_congr rfl fun b _ => ?_
  refine Eq.trans ?_ Finset.sum_comm
  refine Finset.sum_congr rfl fun k _ => ?_
  refine (if_neg (by decide : ¬ (1 : Fin 3).val = 0)).trans ((if_pos rfl).trans ?_)
  change ∑ s, Spec.d1 (bookA (V3 m ρ) c) (bookB (V3 m ρ) c) (row (V3 m ρ) c b s) k
    * Spec.d1 (bookA (V3 m ρ) c) (bookB (V3 m ρ) c) (row (V3 m ρ) c b s) k = _
  simp only [row_eq, bookA_eq, bookB_eq]
/-- The count of changes of code. -/
theorem misc_sum2 {x : S8x3x64.Idx → EReal} (hx : x = W8 m ρ c (Proc.devRef .tc main_v8_3)) :
    ∑ b : Fin 8, ∑ k : Fin 64, x (ix3 b 2 k) = ∑ b, ∑ n : Fin 2047, Spec.ind ((args m c).code0 b ⟨1 + n.val, by omega⟩ ≠ (args m c).code0 b ⟨n.val, by omega⟩) := by
  rw [hx.trans (misc8_eq ρ H)]
  refine Finset.sum_congr rfl fun b _ => ?_
  refine (Finset.sum_congr rfl fun k _ => (if_neg (by decide : ¬ (2 : Fin 3).val = 0)).trans
    (if_neg (by decide : ¬ (2 : Fin 3).val = 1))).trans ((sum_lane (n := 63) _).trans ?_)
  change ∑ n : Fin 2047, Spec.ind (Spec.c0 (bookA (V3 m ρ) c) (row (V3 m ρ) c b ⟨1 + n.val, by omega⟩)
    ≠ Spec.c0 (bookA (V3 m ρ) c) (row (V3 m ρ) c b ⟨n.val, by omega⟩)) = _
  simp only [row_eq, bookA_eq]
  rfl

omit H in
/-- The sum of all entries of an array of rank four. -/
theorem sum_all4 (x : S8x4x1x128.Idx → EReal) (j : S_.Idx) : Ideal.hostReduceAdd reducesTo_S8x4x1x128_S_d0_1_2_3 x 0 j
    = ∑ b : Fin 8, ∑ n : Fin 4, ∑ y : Fin 1, ∑ k : Fin 128, x (ix4 b n y k) := by
  unfold Ideal.hostReduceAdd
  rw [zero_add, Finset.filter_true_of_mem fun i _ => Subsingleton.elim _ _]
  exact sum_idx4 x

/-! ## The results -/

/-- The codes. -/
theorem codes_eq : W9 m ρ c (Proc.devRef .tc main_v8_2) = fun j : S8x2048x2.Idx =>
    if (j 2).val = 0 then BitVec.ofNat 32 ((args m c).code0 (j 0) (j 1)).val
    else BitVec.ofNat 32 ((args m c).code1 (j 0) (j 1)).val := by
  have h0 (b : Fin 8) (s : Fin 2048) : BitVec.ofNat 32 (Spec.c0 (bookA (V3 m ρ) c) (row (V3 m ρ) c b s)).val
      = BitVec.ofNat 32 ((args m c).code0 b s).val := by rw [row_eq, bookA_eq]; rfl
  have h1 (b : Fin 8) (s : Fin 2048) : BitVec.ofNat 32 (Spec.c1 (bookA (V3 m ρ) c) (bookB (V3 m ρ) c) (row (V3 m ρ) c b s)).val
      = BitVec.ofNat 32 ((args m c).code1 b s).val := by rw [row_eq, bookA_eq, bookB_eq]; rfl
  exact (codes9_eq ρ H).trans (funext fun j => if_congr Iff.rfl (h0 (j 0) (j 1)) (h1 (j 0) (j 1)))

/-- The group loss. -/
theorem group_eq : W9 m ρ c (Proc.devRef .tc main_v20) = fun _ : S_.Idx => (args m c).group := by
  funext j
  obtain rfl : j = ix0 := Subsingleton.elim (α := S_.Idx) _ _
  after_reads_at
  rw [sum_all4, v18_sum ρ H rfl]
  rfl

/-- The quantization loss. -/
theorem vq_eq : W9 m ρ c (Proc.devRef .tc main_v30) = fun _ : S_.Idx => (args m c).vq := by
  funext j
  obtain rfl : j = ix0 := Subsingleton.elim (α := S_.Idx) _ _
  after_reads_at
  rw [misc_sum0 ρ H rfl, misc_sum1 ρ H rfl]
  rfl

/-- The smoothness loss. -/
theorem smooth_eq : W9 m ρ c (Proc.devRef .tc main_v34) = fun _ : S_.Idx => (args m c).smooth := by
  funext j
  obtain rfl : j = ix0 := Subsingleton.elim (α := S_.Idx) _ _
  after_reads_at
  rw [misc_sum2 ρ H rfl]
  rfl

/-- The loss. -/
theorem loss_eq : W9 m ρ c (Proc.devRef .tc main_v39) = fun _ : S_.Idx => (args m c).loss := by
  funext j
  obtain rfl : j = ix0 := Subsingleton.elim (α := S_.Idx) _ _
  after_reads_at
  rw [sum_all4, v18_sum ρ H rfl, misc_sum0 ρ H rfl, misc_sum1 ρ H rfl, misc_sum2 ρ H rfl]
  unfold Spec.Args.loss Spec.Args.group Spec.Args.vq Spec.Args.vq0 Spec.Args.vq1 Spec.Args.smooth
  rw [Ideal.ofBits_one_f32, mul_one]

end Cert.KernelIdeal.Val

end
-- ==== Proof.Tables.lean ====
/- The precondition read: the code table and the codebooks hold finite values. -/
module

public import proofs.«01_k».proof.Defs
public import proofs.«01_k».proof.Proof.KHost
public import proofs.«01_k».proof.Proof.Gen.Pre_finite_tables

@[expose] public section

set_option maxRecDepth 16384

noncomputable section

namespace Cert.Pre_finite_tables.Val

open Cert.Pre_finite_tables Cert.Pre_finite_tables.Gen Idealize.ShloMosaic Idealize.ShloMosaic.Pointwise

/-- Both bits of a set conjunction are set. -/
theorem and_one (a b : BitVec 1) (h : IntOp.andi a b = 1#1) : a = 1#1 ∧ b = 1#1 := by
  revert a b; decide

/-- A conjunction folded over a list is one only where every entry is. -/
theorem foldl_one {ι : Type} (g : ι → BitVec 1) (l : List ι) (a : BitVec 1) (h : l.foldl (fun r n => IntOp.andi r (g n)) a = 1#1) :
    a = 1#1 ∧ ∀ n ∈ l, g n = 1#1 := by
  induction l generalizing a with
  | nil => exact ⟨h, fun n hn => absurd hn List.not_mem_nil⟩
  | cons n l ih =>
    obtain ⟨h1, h2⟩ := ih _ h
    obtain ⟨h3, h4⟩ := and_one _ _ h1
    refine ⟨h3, fun k hk => ?_⟩
    rcases List.mem_cons.mp hk with rfl | hk
    · exact h4
    · exact h2 k hk

/-- A conjunction over every axis is one only where every entry is. -/
theorem reduce_one {s : Shape} {axes : List (Fin s.rank)} (x : s.Idx → BitVec 1) (init : S_.Idx → BitVec 1) (h : s.ReducesTo axes S_)
    (hu : 0 < S_.numel) (e : Host.reduce IntOp.andi x init h hu ix0 = 1#1) (i : s.Idx) : x i = 1#1 := by
  have := (foldl_one _ _ _ e).2 (s.rowMajor i) (List.mem_filter.mpr ⟨List.mem_finRange _, by
    simpa using Subsingleton.elim (α := S_.Idx) _ _⟩)
  rwa [Equiv.symm_apply_apply] at this

/-- A value whose magnitude is below infinity is finite. -/
theorem finite_of_lt (a : EReal) (h : Ideal.cmp .olt (max a (-a)) (Ideal.ofBits .f32 0x7F800000#32) = 1#1) : a ≠ ⊤ ∧ a ≠ ⊥ := by
  have hinf : Ideal.ofBits .f32 0x7F800000#32 = ⊤ := by simp [Ideal.ofBits, Ideal.ieee]
  rw [hinf] at h
  have hlt : max a (-a) < ⊤ := by
    by_contra hn
    simp [Ideal.cmp, hn] at h
  obtain ⟨h1, h2⟩ := max_lt_iff.mp hlt
  refine ⟨h1.ne, ?_⟩
  rintro rfl
  simp at h2

/-- Under the precondition every entry of the code table and of the codebooks is finite. -/
theorem finite_tables (a0 : FVec Ideal S8x2x2048 .f32) (a1 : FVec Ideal S8x2048 .f32) (a2 : FVec Ideal S256x2x7 .f32) (a3 : FVec Ideal S256 .f32)
    (a4 : FVec Ideal S64x256x9 .f32) (a5 : FVec Ideal S64 .f32) (a6 : FVec Ideal S1280x1280 .f32) (a7 : FVec Ideal S1280 .f32)
    (a8 : FVec Ideal S1280x1280 .f32) (a9 : FVec Ideal S1280 .f32) (t : FVec Ideal S1024x64 .f32) (cb : FVec Ideal S2x1024x64 .f32)
    (h : fn (F := Ideal) a0 a1 a2 a3 a4 a5 a6 a7 a8 a9 t cb = fun _ => 1#1) :
    (∀ i, (t i : EReal) ≠ ⊤ ∧ (t i : EReal) ≠ ⊥) ∧ ∀ i, (cb i : EReal) ≠ ⊤ ∧ (cb i : EReal) ≠ ⊥ := by
  obtain ⟨h1, h2⟩ := and_one _ _ (congrFun h ix0)
  exact ⟨fun i => finite_of_lt _ (reduce_one _ _ _ _ h1 i), fun i => finite_of_lt _ (reduce_one _ _ _ _ h2 i)⟩

end Cert.Pre_finite_tables.Val

namespace Cert.KernelIdeal.Val

open Cert.KernelIdeal Idealize.ShloMosaic Idealize.ShloMosaic.TcCoe Idealize.SL.Sem Idealize.ShloMosaic.Pointwise

/-- The precondition, of the arguments as read from memory. -/
theorem finite_args (m : (ℓ : Loc nD τ sig) → Buf (Elt Ideal) ℓ) (h : Cert.Pre_KernelIdeal_finite_tables m) (c : Dev nD) :
    Finite (args m c) := by
  obtain ⟨h1, h2⟩ := Cert.Pre_finite_tables.Val.finite_tables _ _ _ _ _ _ _ _ _ _ _ _ (h c)
  exact ⟨fun q j k => h2 (ix3 q j k), fun j k => h1 (ix2 j k)⟩

end Cert.KernelIdeal.Val

end
-- ==== Proof.RefOps.lean ====
/- The reference program as a list of its host operations. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v164`, named. It packs its operands into a list of dependent pairs
    whose shapes a later argument's type mentions, so `simp` cannot rewrite an operand where it stands; applied by
    name, the operands are plain arguments, which the window lemmas below rewrite before the name unfolds. -/
def fn_main_v164 : (⟨S8x2048x1, .i32⟩ : BufTy).Contents (Elt F) → (⟨S8x2048x1, .i32⟩ : BufTy).Contents (Elt F) → (⟨S8x2048x2, .i32⟩ : BufTy).Contents (Elt F) :=
  (fun a b => concatenate S8x2048x2 2 [⟨S8x2048x1, a⟩, ⟨S8x2048x1, b⟩] concatenates_S8x2048x1_S8x2048x1_S8x2048x2_d2)

/-- The function of the operation that writes `main_v167`, named. It packs its operands into a list of dependent pairs
    whose shapes a later argument's type mentions, so `simp` cannot rewrite an operand where it stands; applied by
    name, the operands are plain arguments, which the window lemmas below rewrite before the name unfolds. -/
def fn_main_v167 : (⟨S1, .f32⟩ : BufTy).Contents (Elt F) → (⟨S1, .f32⟩ : BufTy).Contents (Elt F) → (⟨S2, .f32⟩ : BufTy).Contents (Elt F) :=
  (fun a b => concatenate S2 0 [⟨S1, a⟩, ⟨S1, b⟩] concatenates_S1_S1_S2_d0)

/-- The function of the operation that writes `main_v173`, named. It packs its operands into a list of dependent pairs
    whose shapes a later argument's type mentions, so `simp` cannot rewrite an operand where it stands; applied by
    name, the operands are plain arguments, which the window lemmas below rewrite before the name unfolds. -/
def fn_main_v173 : (⟨S8x2048x64, .f32⟩ : BufTy).Contents (Elt F) → (⟨S8x2048x64, .f32⟩ : BufTy).Contents (Elt F) → (⟨S8x2048x128, .f32⟩ : BufTy).Contents (Elt F) :=
  (fun a b => concatenate S8x2048x128 2 [⟨S8x2048x64, a⟩, ⟨S8x2048x64, b⟩] concatenates_S8x2048x64_S8x2048x64_S8x2048x128_d2)

/-- The function of the operation that writes `main_v194`, named. It packs its operands into a list of dependent pairs
    whose shapes a later argument's type mentions, so `simp` cannot rewrite an operand where it stands; applied by
    name, the operands are plain arguments, which the window lemmas below rewrite before the name unfolds. -/
def fn_main_v194 : (main_v184 : Ref sig .tc).ty.Contents (Elt F) → (main_v185 : Ref sig .tc).ty.Contents (Elt F) → (main_v186 : Ref sig .tc).ty.Contents (Elt F) → (main_v187 : Ref sig .tc).ty.Contents (Elt F) → (main_v188 : Ref sig .tc).ty.Contents (Elt F) → (main_v189 : Ref sig .tc).ty.Contents (Elt F) → (main_v190 : Ref sig .tc).ty.Contents (Elt F) → (main_v191 : Ref sig .tc).ty.Contents (Elt F) → (main_v192 : Ref sig .tc).ty.Contents (Elt F) → (main_v193 : Ref sig .tc).ty.Contents (Elt F) → (main_v194 : Ref sig .tc).ty.Contents (Elt F) :=
  (fun u0 u1 u2 u3 u4 u5 u6 u7 u8 u9 => (concatenate S8x2019x10x128 2 [⟨S8x2019x1x128, (u0 : (⟨S8x2019x1x128, .f32⟩ : BufTy).Contents (Elt F))⟩, ⟨S8x2019x1x128, (u1 : (⟨S8x2019x1x128, .f32⟩ : BufTy).Contents (Elt F))⟩, ⟨S8x2019x1x128, (u2 : (⟨S8x2019x1x128, .f32⟩ : BufTy).Contents (Elt F))⟩, ⟨S8x2019x1x128, (u3 : (⟨S8x2019x1x128, .f32⟩ : BufTy).Contents (Elt F))⟩, ⟨S8x2019x1x128, (u4 : (⟨S8x2019x1x128, .f32⟩ : BufTy).Contents (Elt F))⟩, ⟨S8x2019x1x128, (u5 : (⟨S8x2019x1x128, .f32⟩ : BufTy).Contents (Elt F))⟩, ⟨S8x2019x1x128, (u6 : (⟨S8x2019x1x128, .f32⟩ : BufTy).Contents (Elt F))⟩, ⟨S8x2019x1x128, (u7 : (⟨S8x2019x1x128, .f32⟩ : BufTy).Contents (Elt F))⟩, ⟨S8x2019x1x128, (u8 : (⟨S8x2019x1x128, .f32⟩ : BufTy).Contents (Elt F))⟩, ⟨S8x2019x1x128, (u9 : (⟨S8x2019x1x128, .f32⟩ : BufTy).Contents (Elt F))⟩] concatenates_S8x2019x1x128_S8x2019x1x128_S8x2019x1x128_S8x2019x1x128_S8x2019x1x128_S8x2019x1x128_S8x2019x1x128_S8x2019x1x128_S8x2019x1x128_S8x2019x1x128_S8x2019x10x128_d2 : (⟨S8x2019x10x128, .f32⟩ : BufTy).Contents (Elt F)))

/-- The function of the operation that writes `main_v236`, named. It packs its operands into a list of dependent pairs
    whose shapes a later argument's type mentions, so `simp` cannot rewrite an operand where it stands; applied by
    name, the operands are plain arguments, which the window lemmas below rewrite before the name unfolds. -/
def fn_main_v236 : (main_v216 : Ref sig .tc).ty.Contents (Elt F) → (main_v217 : Ref sig .tc).ty.Contents (Elt F) → (main_v218 : Ref sig .tc).ty.Contents (Elt F) → (main_v219 : Ref sig .tc).ty.Contents (Elt F) → (main_v220 : Ref sig .tc).ty.Contents (Elt F) → (main_v221 : Ref sig .tc).ty.Contents (Elt F) → (main_v222 : Ref sig .tc).ty.Contents (Elt F) → (main_v223 : Ref sig .tc).ty.Contents (Elt F) → (main_v224 : Ref sig .tc).ty.Contents (Elt F) → (main_v225 : Ref sig .tc).ty.Contents (Elt F) → (main_v226 : Ref sig .tc).ty.Contents (Elt F) → (main_v227 : Ref sig .tc).ty.Contents (Elt F) → (main_v228 : Ref sig .tc).ty.Contents (Elt F) → (main_v229 : Ref sig .tc).ty.Contents (Elt F) → (main_v230 : Ref sig .tc).ty.Contents (Elt F) → (main_v231 : Ref sig .tc).ty.Contents (Elt F) → (main_v236 : Ref sig .tc).ty.Contents (Elt F) :=
  (fun u0 u1 u2 u3 u4 u5 u6 u7 u8 u9 u10 u11 u12 u13 u14 u15 => (concatenate S8x2019x16x64 2 [⟨S8x2019x1x64, (u0 : (⟨S8x2019x1x64, .f32⟩ : BufTy).Contents (Elt F))⟩, ⟨S8x2019x1x64, (u1 : (⟨S8x2019x1x64, .f32⟩ : BufTy).Contents (Elt F))⟩, ⟨S8x2019x1x64, (u2 : (⟨S8x2019x1x64, .f32⟩ : BufTy).Contents (Elt F))⟩, ⟨S8x2019x1x64, (u3 : (⟨S8x2019x1x64, .f32⟩ : BufTy).Contents (Elt F))⟩, ⟨S8x2019x1x64, (u4 : (⟨S8x2019x1x64, .f32⟩ : BufTy).Contents (Elt F))⟩, ⟨S8x2019x1x64, (u5 : (⟨S8x2019x1x64, .f32⟩ : BufTy).Contents (Elt F))⟩, ⟨S8x2019x1x64, (u6 : (⟨S8x2019x1x64, .f32⟩ : BufTy).Contents (Elt F))⟩, ⟨S8x2019x1x64, (u7 : (⟨S8x2019x1x64, .f32⟩ : BufTy).Contents (Elt F))⟩, ⟨S8x2019x1x64, (u8 : (⟨S8x2019x1x64, .f32⟩ : BufTy).Contents (Elt F))⟩, ⟨S8x2019x1x64, (u9 : (⟨S8x2019x1x64, .f32⟩ : BufTy).Contents (Elt F))⟩, ⟨S8x2019x1x64, (u10 : (⟨S8x2019x1x64, .f32⟩ : BufTy).Contents (Elt F))⟩, ⟨S8x2019x1x64, (u11 : (⟨S8x2019x1x64, .f32⟩ : BufTy).Contents (Elt F))⟩, ⟨S8x2019x1x64, (u12 : (⟨S8x2019x1x64, .f32⟩ : BufTy).Contents (Elt F))⟩, ⟨S8x2019x1x64, (u13 : (⟨S8x2019x1x64, .f32⟩ : BufTy).Contents (Elt F))⟩, ⟨S8x2019x1x64, (u14 : (⟨S8x2019x1x64, .f32⟩ : BufTy).Contents (Elt F))⟩, ⟨S8x2019x1x64, (u15 : (⟨S8x2019x1x64, .f32⟩ : BufTy).Contents (Elt F))⟩] concatenates_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x16x64_d2 : (⟨S8x2019x16x64, .f32⟩ : BufTy).Contents (Elt F)))

/-- The function of the operation that writes `main_v237`, named. It packs its operands into a list of dependent pairs
    whose shapes a later argument's type mentions, so `simp` cannot rewrite an operand where it stands; applied by
    name, the operands are plain arguments, which the window lemmas below rewrite before the name unfolds. -/
def fn_main_v237 : (main_v232 : Ref sig .tc).ty.Contents (Elt F) → (main_v233 : Ref sig .tc).ty.Contents (Elt F) → (main_v234 : Ref sig .tc).ty.Contents (Elt F) → (main_v235 : Ref sig .tc).ty.Contents (Elt F) → (main_v237 : Ref sig .tc).ty.Contents (Elt F) :=
  (fun u0 u1 u2 u3 => (concatenate S8x2019x4x64 2 [⟨S8x2019x1x64, (u0 : (⟨S8x2019x1x64, .f32⟩ : BufTy).Contents (Elt F))⟩, ⟨S8x2019x1x64, (u1 : (⟨S8x2019x1x64, .f32⟩ : BufTy).Contents (Elt F))⟩, ⟨S8x2019x1x64, (u2 : (⟨S8x2019x1x64, .f32⟩ : BufTy).Contents (Elt F))⟩, ⟨S8x2019x1x64, (u3 : (⟨S8x2019x1x64, .f32⟩ : BufTy).Contents (Elt F))⟩] concatenates_S8x2019x1x64_S8x2019x1x64_S8x2019x1x64_S8x2019x1x64_S8x2019x4x64_d2 : (⟨S8x2019x4x64, .f32⟩ : BufTy).Contents (Elt F)))

/-- The function of the operation that writes `main_v238`, named. It packs its operands into a list of dependent pairs
    whose shapes a later argument's type mentions, so `simp` cannot rewrite an operand where it stands; applied by
    name, the operands are plain arguments, which the window lemmas below rewrite before the name unfolds. -/
def fn_main_v238 : (⟨S8x2019x16x64, .f32⟩ : BufTy).Contents (Elt F) → (⟨S8x2019x4x64, .f32⟩ : BufTy).Contents (Elt F) → (⟨S8x2019x20x64, .f32⟩ : BufTy).Contents (Elt F) :=
  (fun a b => concatenate S8x2019x20x64 2 [⟨S8x2019x16x64, a⟩, ⟨S8x2019x4x64, b⟩] concatenates_S8x2019x16x64_S8x2019x4x64_S8x2019x20x64_d2)

/-- @main's operations 1 … 30 of 335 (window `main_part0`). -/
abbrev ops_part0_0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x2x2048, .f32⟩) main_arg0) (TRef.of (T := ⟨S_, .f32⟩) main_call0_v0) (TRef.of (T := ⟨S8x2x2054, .f32⟩) main_v0) (fun x v => pad S8x2x2054 ![0, 0, 3] ![0, 0, 3] ![0, 0, 0] x v pads_S8x2x2048_S8x2x2054_000_000_330 h_S_),
    nullary main_cst (constant S_ .f32 0x00000000#32),
    unary main_cst main_v1 (broadcastInDim S8x256x2048 ![] bcast_S_S8x256x2048 : (⟨S_, .f32⟩ : BufTy).Contents (Elt F) → (⟨S8x256x2048, .f32⟩ : BufTy).Contents (Elt F)),
    unary main_v0 main_v2 ((extractStridedSlice S8x2x2048 ![0, 0, 0] · slices_S8x2x2054_S8x2x2048_0_0_0) : (⟨S8x2x2054, .f32⟩ : BufTy).Contents (Elt F) → (⟨S8x2x2048, .f32⟩ : BufTy).Contents (Elt F)),
    unary main_arg2 main_v3 ((extractStridedSlice S256x2x1 ![0, 0, 0] · slices_S256x2x7_S256x2x1_0_0_0) : (⟨S256x2x7, .f32⟩ : BufTy).Contents (Elt F) → (⟨S256x2x1, .f32⟩ : BufTy).Contents (Elt F)),
    reshape main_v3 main_v4 (rfl : (.f32 : EltTy) = .f32) shapeCasts_S256x2x1_S256x2,
    binary main_v4 main_v2 main_v5 ((fun l r => Host.dotGeneral dot_S256x2_S8x2x2048_S256x8x2048_1_1_0_02_n_n none l r) : (⟨S256x2, .f32⟩ : BufTy).Contents (Elt F) → (⟨S8x2x2048, .f32⟩ : BufTy).Contents (Elt F) → (⟨S256x8x2048, .f32⟩ : BufTy).Contents (Elt F)),
    unary main_v5 main_v6 ((transpose S8x256x2048 [1, 0, 2] · transposes_S256x8x2048_S8x256x2048_1_0_2) : (⟨S256x8x2048, .f32⟩ : BufTy).Contents (Elt F) → (⟨S8x256x2048, .f32⟩ : BufTy).Contents (Elt F)),
    binary main_v1 main_v6 main_v7 (addf : (⟨S8x256x2048, .f32⟩ : BufTy).Contents (Elt F) → (⟨S8x256x2048, .f32⟩ : BufTy).Contents (Elt F) → (⟨S8x256x2048, .f32⟩ : BufTy).Contents (Elt F)),
    unary main_v0 main_v8 ((extractStridedSlice S8x2x2048 ![0, 0, 1] · slices_S8x2x2054_S8x2x2048_0_0_1) : (⟨S8x2x2054, .f32⟩ : BufTy).Contents (Elt F) → (⟨S8x2x2048, .f32⟩ : BufTy).Contents (Elt F)),
    unary main_arg2 main_v9 ((extractStridedSlice S256x2x1 ![0, 0, 1] · slices_S256x2x7_S256x2x1_0_0_1) : (⟨S256x2x7, .f32⟩ : BufTy).Contents (Elt F) → (⟨S256x2x1, .f32⟩ : BufTy).Contents (Elt F)),
    reshape main_v9 main_v10 (rfl : (.f32 : EltTy) = .f32) shapeCasts_S256x2x1_S256x2,
    binary main_v10 main_v8 main_v11 ((fun l r => Host.dotGeneral dot_S256x2_S8x2x2048_S256x8x2048_1_1_0_02_n_n none l r) : (⟨S256x2, .f32⟩ : BufTy).Contents (Elt F) → (⟨S8x2x2048, .f32⟩ : BufTy).Contents (Elt F) → (⟨S256x8x2048, .f32⟩ : BufTy).Contents (Elt F)),
    unary main_v11 main_v12 ((transpose S8x256x2048 [1, 0, 2] · transposes_S256x8x2048_S8x256x2048_1_0_2) : (⟨S256x8x2048, .f32⟩ : BufTy).Contents (Elt F) → (⟨S8x256x2048, .f32⟩ : BufTy).Contents (Elt F)),
    binary main_v7 main_v12 main_v13 (addf : (⟨S8x256x2048, .f32⟩ : BufTy).Contents (Elt F) → (⟨S8x256x2048, .f32⟩ : BufTy).Contents (Elt F) → (⟨S8x256x2048, .f32⟩ : BufTy).Contents (Elt F)),
    unary main_v0 main_v14 ((extractStridedSlice S8x2x2048 ![0, 0, 2] · slices_S8x2x2054_S8x2x2048_0_0_2) : (⟨S8x2x2054, .f32⟩ : BufTy).Contents (Elt F) → (⟨S8x2x2048, .f32⟩ : BufTy).Contents (Elt F)),
    unary main_arg2 main_v15 ((extractStridedSlice S256x2x1 ![0, 0, 2] · slices_S256x2x7_S256x2x1_0_0_2) : (⟨S256x2x7, .f32⟩ : BufTy).Contents (Elt F) → (⟨S256x2x1, .f32⟩ : BufTy).Contents (Elt F)),
    reshape main_v15 main_v16 (rfl : (.f32 : EltTy) = .f32) shapeCasts_S256x2x1_S256x2,
    binary main_v16 main_v14 main_v17 ((fun l r => Host.dotGeneral dot_S256x2_S8x2x2048_S256x8x2048_1_1_0_02_n_n none l r) : (⟨S256x2, .f32⟩ : BufTy).Contents (Elt F) → (⟨S8x2x2048, .f32⟩ : BufTy).Contents (Elt F) → (⟨S256x8x2048, .f32⟩ : BufTy).Contents (Elt F)),
    unary main_v17 main_v18 ((transpose S8x256x2048 [1, 0, 2] · transposes_S256x8x2048_S8x256x2048_1_0_2) : (⟨S256x8x2048, .f32⟩ : BufTy).Contents (Elt F) → (⟨S8x256x2048, .f32⟩ : BufTy).Contents (Elt F)),
    binary main_v13 main_v18 main_v19 (addf : (⟨S8x256x2048, .f32⟩ : BufTy).Contents (Elt F) → (⟨S8x256x2048, .f32⟩ : BufTy).Contents (Elt F) → (⟨S8x256x2048, .f32⟩ : BufTy).Contents (Elt F)),
    unary main_v0 main_v20 ((extractStridedSlice S8x2x2048 ![0, 0, 3] · slices_S8x2x2054_S8x2x2048_0_0_3) : (⟨S8x2x2054, .f32⟩ : BufTy).Contents (Elt F) → (⟨S8x2x2048, .f32⟩ : BufTy).Contents (Elt F)),
    unary main_arg2 main_v21 ((extractStridedSlice S256x2x1 ![0, 0, 3] · slices_S256x2x7_S256x2x1_0_0_3) : (⟨S256x2x7, .f32⟩ : BufTy).Contents (Elt F) → (⟨S256x2x1, .f32⟩ : BufTy).Contents (Elt F)),
    reshape main_v21 main_v22 (rfl : (.f32 : EltTy) = .f32) shapeCasts_S256x2x1_S256x2,
    binary main_v22 main_v20 main_v23 ((fun l r => Host.dotGeneral dot_S256x2_S8x2x2048_S256x8x2048_1_1_0_02_n_n none l r) : (⟨S256x2, .f32⟩ : BufTy).Contents (Elt F) → (⟨S8x2x2048, .f32⟩ : BufTy).Contents (Elt F) → (⟨S256x8x2048, .f32⟩ : BufTy).Contents (Elt F)),
    unary main_v23 main_v24 ((transpose S8x256x2048 [1, 0, 2] · transposes_S256x8x2048_S8x256x2048_1_0_2) : (⟨S256x8x2048, .f32⟩ : BufTy).Contents (Elt F) → (⟨S8x256x2048, .f32⟩ : BufTy).Contents (Elt F)),
    binary main_v19 main_v24 main_v25 (addf : (⟨S8x256x2048, .f32⟩ : BufTy).Contents (Elt F) → (⟨S8x256x2048, .f32⟩ : BufTy).Contents (Elt F) → (⟨S8x256x2048, .f32⟩ : BufTy).Contents (Elt F)),
    unary main_v0 main_v26 ((extractStridedSlice S8x2x2048 ![0, 0, 4] · slices_S8x2x2054_S8x2x2048_0_0_4) : (⟨S8x2x2054, .f32⟩ : BufTy).Contents (Elt F) → (⟨S8x2x2048, .f32⟩ : BufTy).Contents (Elt F)) ]

/-- @main's operations 31 … 60 of 335 (window `main_part0`). -/
abbrev ops_part0_1 : List (HloOp τ sig (Elt F)) :=
  [ unary main_arg2 main_v27 ((extractStridedSlice S256x2x1 ![0, 0, 4] · slices_S256x2x7_S256x2x1_0_0_4) : (⟨S256x2x7, .f32⟩ : BufTy).Contents (Elt F) → (⟨S256x2x1, .f32⟩ : BufTy).Contents (Elt F)),
    reshape main_v27 main_v28 (rfl : (.f32 : EltTy) = .f32) shapeCasts_S256x2x1_S256x2,
    binary main_v28 main_v26 main_v29 ((fun l r => Host.dotGeneral dot_S256x2_S8x2x2048_S256x8x2048_1_1_0_02_n_n none l r) : (⟨S256x2, .f32⟩ : BufTy).Contents (Elt F) → (⟨S8x2x2048, .f32⟩ : BufTy).Contents (Elt F) → (⟨S256x8x2048, .f32⟩ : BufTy).Contents (Elt F)),
    unary main_v29 main_v30 ((transpose S8x256x2048 [1, 0, 2] · transposes_S256x8x2048_S8x256x2048_1_0_2) : (⟨S256x8x2048, .f32⟩ : BufTy).Contents (Elt F) → (⟨S8x256x2048, .f32⟩ : BufTy).Contents (Elt F)),
    binary main_v25 main_v30 main_v31 (addf : (⟨S8x256x2048, .f32⟩ : BufTy).Contents (Elt F) → (⟨S8x256x2048, .f32⟩ : BufTy).Contents (Elt F) → (⟨S8x256x2048, .f32⟩ : BufTy).Contents (Elt F)),
    unary main_v0 main_v32 ((extractStridedSlice S8x2x2048 ![0, 0, 5] · slices_S8x2x2054_S8x2x2048_0_0_5) : (⟨S8x2x2054, .f32⟩ : BufTy).Contents (Elt F) → (⟨S8x2x2048, .f32⟩ : BufTy).Contents (Elt F)),
    unary main_arg2 main_v33 ((extractStridedSlice S256x2x1 ![0, 0, 5] · slices_S256x2x7_S256x2x1_0_0_5) : (⟨S256x2x7, .f32⟩ : BufTy).Contents (Elt F) → (⟨S256x2x1, .f32⟩ : BufTy).Contents (Elt F)),
    reshape main_v33 main_v34 (rfl : (.f32 : EltTy) = .f32) shapeCasts_S256x2x1_S256x2,
    binary main_v34 main_v32 main_v35 ((fun l r => Host.dotGeneral dot_S256x2_S8x2x2048_S256x8x2048_1_1_0_02_n_n none l r) : (⟨S256x2, .f32⟩ : BufTy).Contents (Elt F) → (⟨S8x2x2048, .f32⟩ : BufTy).Contents (Elt F) → (⟨S256x8x2048, .f32⟩ : BufTy).Contents (Elt F)),
    unary main_v35 main_v36 ((transpose S8x256x2048 [1, 0, 2] · transposes_S256x8x2048_S8x256x2048_1_0_2) : (⟨S256x8x2048, .f32⟩ : BufTy).Contents (Elt F) → (⟨S8x256x2048, .f32⟩ : BufTy).Contents (Elt F)),
    binary main_v31 main_v36 main_v37 (addf : (⟨S8x256x2048, .f32⟩ : BufTy).Contents (Elt F) → (⟨S8x256x2048, .f32⟩ : BufTy).Contents (Elt F) → (⟨S8x256x2048, .f32⟩ : BufTy).Contents (Elt F)),
    unary main_v0 main_v38 ((extractStridedSlice S8x2x2048 ![0, 0, 6] · slices_S8x2x2054_S8x2x2048_0_0_6) : (⟨S8x2x2054, .f32⟩ : BufTy).Contents (Elt F) → (⟨S8x2x2048, .f32⟩ : BufTy).Contents (Elt F)),
    unary main_arg2 main_v39 ((extractStridedSlice S256x2x1 ![0, 0, 6] · slices_S256x2x7_S256x2x1_0_0_6) : (⟨S256x2x7, .f32⟩ : BufTy).Contents (Elt F) → (⟨S256x2x1, .f32⟩ : BufTy).Contents (Elt F)),
    reshape main_v39 main_v40 (rfl : (.f32 : EltTy) = .f32) shapeCasts_S256x2x1_S256x2,
    binary main_v40 main_v38 main_v41 ((fun l r => Host.dotGeneral dot_S256x2_S8x2x2048_S256x8x2048_1_1_0_02_n_n none l r) : (⟨S256x2, .f32⟩ : BufTy).Contents (Elt F) → (⟨S8x2x2048, .f32⟩ : BufTy).Contents (Elt F) → (⟨S256x8x2048, .f32⟩ : BufTy).Contents (Elt F)),
    unary main_v41 main_v42 ((transpose S8x256x2048 [1, 0, 2] · transposes_S256x8x2048_S8x256x2048_1_0_2) : (⟨S256x8x2048, .f32⟩ : BufTy).Contents (Elt F) → (⟨S8x256x2048, .f32⟩ : BufTy).Contents (Elt F)),
    binary main_v37 main_v42 main_v43 (addf : (⟨S8x256x2048, .f32⟩ : BufTy).Contents (Elt F) → (⟨S8x256x2048, .f32⟩ : BufTy).Contents (Elt F) → (⟨S8x256x2048, .f32⟩ : BufTy).Contents (Elt F)),
    unary main_arg3 main_v44 (broadcastInDim S1x256x1 ![1] bcast_S256_S1x256x1_1 : (⟨S256, .f32⟩ : BufTy).Contents (Elt F) → (⟨S1x256x1, .f32⟩ : BufTy).Contents (Elt F)),
    unary main_v44 main_v45 (broadcastInDim S8x256x2048 ![0, 1, 2] bcast_S1x256x1_S8x256x2048_0_1_2 : (⟨S1x256x1, .f32⟩ : BufTy).Contents (Elt F) → (⟨S8x256x2048, .f32⟩ : BufTy).Contents (Elt F)),
    binary main_v43 main_v45 main_v46 (addf : (⟨S8x256x2048, .f32⟩ : BufTy).Contents (Elt F) → (⟨S8x256x2048, .f32⟩ : BufTy).Contents (Elt F) → (⟨S8x256x2048, .f32⟩ : BufTy).Contents (Elt F)),
    nullary main_cst_0 (constant S_ .f32 0x00000000#32),
    unary main_cst_0 main_v47 (broadcastInDim S8x256x2048 ![] bcast_S_S8x256x2048 : (⟨S_, .f32⟩ : BufTy).Contents (Elt F) → (⟨S8x256x2048, .f32⟩ : BufTy).Contents (Elt F)),
    binary main_v46 main_v47 main_v48 (maximumf : (⟨S8x256x2048, .f32⟩ : BufTy).Contents (Elt F) → (⟨S8x256x2048, .f32⟩ : BufTy).Contents (Elt F) → (⟨S8x256x2048, .f32⟩ : BufTy).Contents (Elt F)),
    nullary main_c_1 (constantI S_ 32 0#32),
    TRef.unary (TRef.of (T := ⟨S_, .i32⟩) main_c_1) (TRef.of (T := ⟨S_, .f32⟩) main_call1_v0) (sitofp .f32),
    TRef.binary (TRef.of (T := ⟨S8x256x2048, .f32⟩) main_v48) (TRef.of (T := ⟨S_, .f32⟩) main_call1_v0) (TRef.of (T := ⟨S8x256x2056, .f32⟩) main_v49) (fun x v => pad S8x256x2056 ![0, 0, 4] ![0, 0, 4] ![0, 0, 0] x v pads_S8x256x2048_S8x256x2056_000_000_440 h_S_),
    nullary main_cst_2 (constant S_ .f32 0x00000000#32),
    unary main_cst_2 main_v50 (broadcastInDim S8x64x2048 ![] bcast_S_S8x64x2048 : (⟨S_, .f32⟩ : BufTy).Contents (Elt F) → (⟨S8x64x2048, .f32⟩ : BufTy).Contents (Elt F)),
    unary main_v49 main_v51 ((extractStridedSlice S8x256x2048 ![0, 0, 0] · slices_S8x256x2056_S8x256x2048_0_0_0) : (⟨S8x256x2056, .f32⟩ : BufTy).Contents (Elt F) → (⟨S8x256x2048, .f32⟩ : BufTy).Contents (Elt F)),
    unary main_arg4 main_v52 ((extractStridedSlice S64x256x1 ![0, 0, 0] · slices_S64x256x9_S64x256x1_0_0_0) : (⟨S64x256x9, .f32⟩ : BufTy).Contents (Elt F) → (⟨S64x256x1, .f32⟩ : BufTy).Contents (Elt F)) ]

/-- @main's operations 61 … 62 of 335 (window `main_part0`). -/
abbrev ops_part0_2 : List (HloOp τ sig (Elt F)) :=
  [ reshape main_v52 main_v53 (rfl : (.f32 : EltTy) = .f32) shapeCasts_S64x256x1_S64x256,
    binary main_v53 main_v51 main_v54 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 122 of 335 (window `main_part1`). -/
abbrev ops_part1 : List (HloOp τ sig (Elt F)) :=
  [ unary main_v54 main_v55 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v50 main_v55 main_v56 (addf : (⟨S8x64x2048, .f32⟩ : BufTy).Contents (Elt F) → (⟨S8x64x2048, .f32⟩ : BufTy).Contents (Elt F) → (⟨S8x64x2048, .f32⟩ : BufTy).Contents (Elt F)),
    unary main_v49 main_v57 ((extractStridedSlice S8x256x2048 ![0, 0, 1] · slices_S8x256x2056_S8x256x2048_0_0_1) : (⟨S8x256x2056, .f32⟩ : BufTy).Contents (Elt F) → (⟨S8x256x2048, .f32⟩ : BufTy).Contents (Elt F)),
    unary main_arg4 main_v58 ((extractStridedSlice S64x256x1 ![0, 0, 1] · slices_S64x256x9_S64x256x1_0_0_1) : (⟨S64x256x9, .f32⟩ : BufTy).Contents (Elt F) → (⟨S64x256x1, .f32⟩ : BufTy).Contents (Elt F)),
    reshape main_v58 main_v59 (rfl : (.f32 : EltTy) = .f32) shapeCasts_S64x256x1_S64x256,
    binary main_v59 main_v57 main_v60 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v60 main_v61 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v56 main_v61 main_v62 (addf : (⟨S8x64x2048, .f32⟩ : BufTy).Contents (Elt F) → (⟨S8x64x2048, .f32⟩ : BufTy).Contents (Elt F) → (⟨S8x64x2048, .f32⟩ : BufTy).Contents (Elt F)),
    unary main_v49 main_v63 ((extractStridedSlice S8x256x2048 ![0, 0, 2] · slices_S8x256x2056_S8x256x2048_0_0_2) : (⟨S8x256x2056, .f32⟩ : BufTy).Contents (Elt F) → (⟨S8x256x2048, .f32⟩ : BufTy).Contents (Elt F)),
    unary main_arg4 main_v64 ((extractStridedSlice S64x256x1 ![0, 0, 2] · slices_S64x256x9_S64x256x1_0_0_2) : (⟨S64x256x9, .f32⟩ : BufTy).Contents (Elt F) → (⟨S64x256x1, .f32⟩ : BufTy).Contents (Elt F)),
    reshape main_v64 main_v65 (rfl : (.f32 : EltTy) = .f32) shapeCasts_S64x256x1_S64x256,
    binary main_v65 main_v63 main_v66 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v66 main_v67 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v62 main_v67 main_v68 (addf : (⟨S8x64x2048, .f32⟩ : BufTy).Contents (Elt F) → (⟨S8x64x2048, .f32⟩ : BufTy).Contents (Elt F) → (⟨S8x64x2048, .f32⟩ : BufTy).Contents (Elt F)),
    unary main_v49 main_v69 ((extractStridedSlice S8x256x2048 ![0, 0, 3] · slices_S8x256x2056_S8x256x2048_0_0_3) : (⟨S8x256x2056, .f32⟩ : BufTy).Contents (Elt F) → (⟨S8x256x2048, .f32⟩ : BufTy).Contents (Elt F)),
    unary main_arg4 main_v70 ((extractStridedSlice S64x256x1 ![0, 0, 3] · slices_S64x256x9_S64x256x1_0_0_3) : (⟨S64x256x9, .f32⟩ : BufTy).Contents (Elt F) → (⟨S64x256x1, .f32⟩ : BufTy).Contents (Elt F)),
    reshape main_v70 main_v71 (rfl : (.f32 : EltTy) = .f32) shapeCasts_S64x256x1_S64x256,
    binary main_v71 main_v69 main_v72 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v72 main_v73 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v68 main_v73 main_v74 (addf : (⟨S8x64x2048, .f32⟩ : BufTy).Contents (Elt F) → (⟨S8x64x2048, .f32⟩ : BufTy).Contents (Elt F) → (⟨S8x64x2048, .f32⟩ : BufTy).Contents (Elt F)),
    unary main_v49 main_v75 ((extractStridedSlice S8x256x2048 ![0, 0, 4] · slices_S8x256x2056_S8x256x2048_0_0_4) : (⟨S8x256x2056, .f32⟩ : BufTy).Contents (Elt F) → (⟨S8x256x2048, .f32⟩ : BufTy).Contents (Elt F)),
    unary main_arg4 main_v76 ((extractStridedSlice S64x256x1 ![0, 0, 4] · slices_S64x256x9_S64x256x1_0_0_4) : (⟨S64x256x9, .f32⟩ : BufTy).Contents (Elt F) → (⟨S64x256x1, .f32⟩ : BufTy).Contents (Elt F)),
    reshape main_v76 main_v77 (rfl : (.f32 : EltTy) = .f32) shapeCasts_S64x256x1_S64x256,
    binary main_v77 main_v75 main_v78 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v78 main_v79 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v74 main_v79 main_v80 (addf : (⟨S8x64x2048, .f32⟩ : BufTy).Contents (Elt F) → (⟨S8x64x2048, .f32⟩ : BufTy).Contents (Elt F) → (⟨S8x64x2048, .f32⟩ : BufTy).Contents (Elt F)),
    unary main_v49 main_v81 ((extractStridedSlice S8x256x2048 ![0, 0, 5] · slices_S8x256x2056_S8x256x2048_0_0_5) : (⟨S8x256x2056, .f32⟩ : BufTy).Contents (Elt F) → (⟨S8x256x2048, .f32⟩ : BufTy).Contents (Elt F)),
    unary main_arg4 main_v82 ((extractStridedSlice S64x256x1 ![0, 0, 5] · slices_S64x256x9_S64x256x1_0_0_5) : (⟨S64x256x9, .f32⟩ : BufTy).Contents (Elt F) → (⟨S64x256x1, .f32⟩ : BufTy).Contents (Elt F)),
    reshape main_v82 main_v83 (rfl : (.f32 : EltTy) = .f32) shapeCasts_S64x256x1_S64x256,
    binary main_v83 main_v81 main_v84 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v84 main_v85 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v80 main_v85 main_v86 (addf : (⟨S8x64x2048, .f32⟩ : BufTy).Contents (Elt F) → (⟨S8x64x2048, .f32⟩ : BufTy).Contents (Elt F) → (⟨S8x64x2048, .f32⟩ : BufTy).Contents (Elt F)),
    unary main_v49 main_v87 ((extractStridedSlice S8x256x2048 ![0, 0, 6] · slices_S8x256x2056_S8x256x2048_0_0_6) : (⟨S8x256x2056, .f32⟩ : BufTy).Contents (Elt F) → (⟨S8x256x2048, .f32⟩ : BufTy).Contents (Elt F)),
    unary main_arg4 main_v88 ((extractStridedSlice S64x256x1 ![0, 0, 6] · slices_S64x256x9_S64x256x1_0_0_6) : (⟨S64x256x9, .f32⟩ : BufTy).Contents (Elt F) → (⟨S64x256x1, .f32⟩ : BufTy).Contents (Elt F)),
    reshape main_v88 main_v89 (rfl : (.f32 : EltTy) = .f32) shapeCasts_S64x256x1_S64x256,
    binary main_v89 main_v87 main_v90 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v90 main_v91 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v86 main_v91 main_v92 (addf : (⟨S8x64x2048, .f32⟩ : BufTy).Contents (Elt F) → (⟨S8x64x2048, .f32⟩ : BufTy).Contents (Elt F) → (⟨S8x64x2048, .f32⟩ : BufTy).Contents (Elt F)),
    unary main_v49 main_v93 ((extractStridedSlice S8x256x2048 ![0, 0, 7] · slices_S8x256x2056_S8x256x2048_0_0_7) : (⟨S8x256x2056, .f32⟩ : BufTy).Contents (Elt F) → (⟨S8x256x2048, .f32⟩ : BufTy).Contents (Elt F)),
    unary main_arg4 main_v94 ((extractStridedSlice S64x256x1 ![0, 0, 7] · slices_S64x256x9_S64x256x1_0_0_7) : (⟨S64x256x9, .f32⟩ : BufTy).Contents (Elt F) → (⟨S64x256x1, .f32⟩ : BufTy).Contents (Elt F)),
    reshape main_v94 main_v95 (rfl : (.f32 : EltTy) = .f32) shapeCasts_S64x256x1_S64x256,
    binary main_v95 main_v93 main_v96 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v96 main_v97 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v92 main_v97 main_v98 (addf : (⟨S8x64x2048, .f32⟩ : BufTy).Contents (Elt F) → (⟨S8x64x2048, .f32⟩ : BufTy).Contents (Elt F) → (⟨S8x64x2048, .f32⟩ : BufTy).Contents (Elt F)),
    unary main_v49 main_v99 ((extractStridedSlice S8x256x2048 ![0, 0, 8] · slices_S8x256x2056_S8x256x2048_0_0_8) : (⟨S8x256x2056, .f32⟩ : BufTy).Contents (Elt F) → (⟨S8x256x2048, .f32⟩ : BufTy).Contents (Elt F)),
    unary main_arg4 main_v100 ((extractStridedSlice S64x256x1 ![0, 0, 8] · slices_S64x256x9_S64x256x1_0_0_8) : (⟨S64x256x9, .f32⟩ : BufTy).Contents (Elt F) → (⟨S64x256x1, .f32⟩ : BufTy).Contents (Elt F)),
    reshape main_v100 main_v101 (rfl : (.f32 : EltTy) = .f32) shapeCasts_S64x256x1_S64x256,
    binary main_v101 main_v99 main_v102 ((fun l r => Host.dotGeneral dot_S64x256_S8x256x2048_S64x8x2048_1_1_0_02_n_n none l r) : (⟨S64x256, .f32⟩ : BufTy).Contents (Elt F) → (⟨S8x256x2048, .f32⟩ : BufTy).Contents (Elt F) → (⟨S64x8x2048, .f32⟩ : BufTy).Contents (Elt F)),
    unary main_v102 main_v103 ((transpose S8x64x2048 [1, 0, 2] · transposes_S64x8x2048_S8x64x2048_1_0_2) : (⟨S64x8x2048, .f32⟩ : BufTy).Contents (Elt F) → (⟨S8x64x2048, .f32⟩ : BufTy).Contents (Elt F)),
    binary main_v98 main_v103 main_v104 (addf : (⟨S8x64x2048, .f32⟩ : BufTy).Contents (Elt F) → (⟨S8x64x2048, .f32⟩ : BufTy).Contents (Elt F) → (⟨S8x64x2048, .f32⟩ : BufTy).Contents (Elt F)),
    unary main_arg5 main_v105 (broadcastInDim S1x64x1 ![1] bcast_S64_S1x64x1_1 : (⟨S64, .f32⟩ : BufTy).Contents (Elt F) → (⟨S1x64x1, .f32⟩ : BufTy).Contents (Elt F)),
    unary main_v105 main_v106 (broadcastInDim S8x64x2048 ![0, 1, 2] bcast_S1x64x1_S8x64x2048_0_1_2 : (⟨S1x64x1, .f32⟩ : BufTy).Contents (Elt F) → (⟨S8x64x2048, .f32⟩ : BufTy).Contents (Elt F)),
    binary main_v104 main_v106 main_v107 (addf : (⟨S8x64x2048, .f32⟩ : BufTy).Contents (Elt F) → (⟨S8x64x2048, .f32⟩ : BufTy).Contents (Elt F) → (⟨S8x64x2048, .f32⟩ : BufTy).Contents (Elt F)),
    unary main_v107 main_v108 ((transpose S8x2048x64 [0, 2, 1] · transposes_S8x64x2048_S8x2048x64_0_2_1) : (⟨S8x64x2048, .f32⟩ : BufTy).Contents (Elt F) → (⟨S8x2048x64, .f32⟩ : BufTy).Contents (Elt F)),
    nullary main_cst_3 (constant S_ .f32 0x00000000#32),
    unary main_cst_3 main_v109 (broadcastInDim S8x2048x64 ![] bcast_S_S8x2048x64 : (⟨S_, .f32⟩ : BufTy).Contents (Elt F) → (⟨S8x2048x64, .f32⟩ : BufTy).Contents (Elt F)),
    unary main_arg11 main_v110 ((extractStridedSlice S1x1024x64 ![0, 0, 0] · slices_S2x1024x64_S1x1024x64_0_0_0) : (⟨S2x1024x64, .f32⟩ : BufTy).Contents (Elt F) → (⟨S1x1024x64, .f32⟩ : BufTy).Contents (Elt F)),
    reshape main_v110 main_v111 (rfl : (.f32 : EltTy) = .f32) shapeCasts_S1x1024x64_S1024x64,
    binary main_v108 main_v108 main_v112 (mulf : (⟨S8x2048x64, .f32⟩ : BufTy).Contents (Elt F) → (⟨S8x2048x64, .f32⟩ : BufTy).Contents (Elt F) → (⟨S8x2048x64, .f32⟩ : BufTy).Contents (Elt F)),
    nullary main_cst_4 (constant S_ .f32 0x00000000#32) ]

/-- @main's operations 123 … 152 of 335 (window `main_part2`). -/
abbrev ops_part2_0 : List (HloOp τ sig (Elt F)) :=
  [ binary main_v112 main_cst_4 main_v113 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v113 main_v114 (broadcastInDim S8x2048x1 ![0, 1] bcast_S8x2048_S8x2048x1_0_1 : (⟨S8x2048, .f32⟩ : BufTy).Contents (Elt F) → (⟨S8x2048x1, .f32⟩ : BufTy).Contents (Elt F)),
    unary main_v111 main_v115 ((transpose S64x1024 [1, 0] · transposes_S1024x64_S64x1024_1_0) : (⟨S1024x64, .f32⟩ : BufTy).Contents (Elt F) → (⟨S64x1024, .f32⟩ : BufTy).Contents (Elt F)),
    binary main_v108 main_v115 main_v116 ((fun l r => Host.dotGeneral dot_S8x2048x64_S64x1024_S8x2048x1024_2_0_01_1_n_n none l r) : (⟨S8x2048x64, .f32⟩ : BufTy).Contents (Elt F) → (⟨S64x1024, .f32⟩ : BufTy).Contents (Elt F) → (⟨S8x2048x1024, .f32⟩ : BufTy).Contents (Elt F)),
    nullary main_cst_5 (constant S_ .f32 0x40000000#32),
    unary main_cst_5 main_v117 (broadcastInDim S8x2048x1024 ![] bcast_S_S8x2048x1024 : (⟨S_, .f32⟩ : BufTy).Contents (Elt F) → (⟨S8x2048x1024, .f32⟩ : BufTy).Contents (Elt F)),
    binary main_v117 main_v116 main_v118 (mulf : (⟨S8x2048x1024, .f32⟩ : BufTy).Contents (Elt F) → (⟨S8x2048x1024, .f32⟩ : BufTy).Contents (Elt F) → (⟨S8x2048x1024, .f32⟩ : BufTy).Contents (Elt F)),
    unary main_v114 main_v119 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v119 main_v118 main_v120 (subf : (⟨S8x2048x1024, .f32⟩ : BufTy).Contents (Elt F) → (⟨S8x2048x1024, .f32⟩ : BufTy).Contents (Elt F) → (⟨S8x2048x1024, .f32⟩ : BufTy).Contents (Elt F)),
    binary main_v111 main_v111 main_v121 (mulf : (⟨S1024x64, .f32⟩ : BufTy).Contents (Elt F) → (⟨S1024x64, .f32⟩ : BufTy).Contents (Elt F) → (⟨S1024x64, .f32⟩ : BufTy).Contents (Elt F)),
    nullary main_cst_6 (constant S_ .f32 0x00000000#32),
    binary main_v121 main_cst_6 main_v122 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v122 main_v123 (broadcastInDim S1x1x1024 ![2] bcast_S1024_S1x1x1024_2 : (⟨S1024, .f32⟩ : BufTy).Contents (Elt F) → (⟨S1x1x1024, .f32⟩ : BufTy).Contents (Elt F)),
    unary main_v123 main_v124 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v120 main_v124 main_v125 (addf : (⟨S8x2048x1024, .f32⟩ : BufTy).Contents (Elt F) → (⟨S8x2048x1024, .f32⟩ : BufTy).Contents (Elt F) → (⟨S8x2048x1024, .f32⟩ : BufTy).Contents (Elt F)),
    TRef.nullary (TRef.of (T := ⟨S8x2048x1024, .i32⟩) main_call2_v0) (iotaInDim S8x2048x1024 32 2),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S8x2048x1024, .f32⟩) main_v125) (TRef.of (T := ⟨S8x2048x1024, .i32⟩) main_call2_v0) (TRef.of (T := ⟨S_, .f32⟩) main_call2_cst) (TRef.of (T := ⟨S_, .i32⟩) main_call2_c) (TRef.of (T := ⟨S8x2048, .f32⟩) main_call2_v1_0) (fun x y u v j => (Host.argReduce reducer_argmin_f32_i32 x y u v reducesTo_S8x2048x1024_S8x2048_d2 h_S_ j).1),
    TRef.quaternary (TRef.of (T := ⟨S8x2048x1024, .f32⟩) main_v125) (TRef.of (T := ⟨S8x2048x1024, .i32⟩) main_call2_v0) (TRef.of (T := ⟨S_, .f32⟩) main_call2_cst) (TRef.of (T := ⟨S_, .i32⟩) main_call2_c) (TRef.of (T := ⟨S8x2048, .i32⟩) main_v126) (fun x y u v j => (Host.argReduce reducer_argmin_f32_i32 x y u v reducesTo_S8x2048x1024_S8x2048_d2 h_S_ j).2),
    TRef.unary (TRef.of (T := ⟨S8x2048, .i32⟩) main_v126) (TRef.of (T := ⟨S8x2048x1, .i32⟩) main_call3_v0) (broadcastInDim S8x2048x1 ![0, 1] bcast_S8x2048_S8x2048x1_0_1),
    TRef.binary (TRef.of (T := ⟨S1024x64, .f32⟩) main_v111) (TRef.of (T := ⟨S8x2048x1, .i32⟩) main_call3_v0) (TRef.of (T := ⟨S8x2048x64, .f32⟩) main_v127) (fun x i => Host.gather gather_S1024x64_S8x2048x1_S8x2048x64_2_0_n_n_0_2_164 x i),
    binary main_v127 main_v108 main_v128 (subf : (⟨S8x2048x64, .f32⟩ : BufTy).Contents (Elt F) → (⟨S8x2048x64, .f32⟩ : BufTy).Contents (Elt F) → (⟨S8x2048x64, .f32⟩ : BufTy).Contents (Elt F)),
    binary main_v108 main_v128 main_v129 (addf : (⟨S8x2048x64, .f32⟩ : BufTy).Contents (Elt F) → (⟨S8x2048x64, .f32⟩ : BufTy).Contents (Elt F) → (⟨S8x2048x64, .f32⟩ : BufTy).Contents (Elt F)),
    binary main_v127 main_v108 main_v130 (subf : (⟨S8x2048x64, .f32⟩ : BufTy).Contents (Elt F) → (⟨S8x2048x64, .f32⟩ : BufTy).Contents (Elt F) → (⟨S8x2048x64, .f32⟩ : BufTy).Contents (Elt F)),
    binary main_v130 main_v130 main_v131 (mulf : (⟨S8x2048x64, .f32⟩ : BufTy).Contents (Elt F) → (⟨S8x2048x64, .f32⟩ : BufTy).Contents (Elt F) → (⟨S8x2048x64, .f32⟩ : BufTy).Contents (Elt F)),
    nullary main_cst_7 (constant S_ .f32 0x00000000#32),
    binary main_v131 main_cst_7 main_v132 ((fun x v => Host.reduceAdd x v reducesTo_S8x2048x64_S_d0_1_2 h_S_) : (⟨S8x2048x64, .f32⟩ : BufTy).Contents (Elt F) → (⟨S_, .f32⟩ : BufTy).Contents (Elt F) → (⟨S_, .f32⟩ : BufTy).Contents (Elt F)),
    nullary main_cst_8 (constant S_ .f32 0x49800000#32),
    binary main_v132 main_cst_8 main_v133 (Host.divf : (⟨S_, .f32⟩ : BufTy).Contents (Elt F) → (⟨S_, .f32⟩ : BufTy).Contents (Elt F) → (⟨S_, .f32⟩ : BufTy).Contents (Elt F)) ]

/-- @main's operations 153 … 182 of 335 (window `main_part2`). -/
abbrev ops_part2_1 : List (HloOp τ sig (Elt F)) :=
  [ binary main_v109 main_v129 main_v134 (addf : (⟨S8x2048x64, .f32⟩ : BufTy).Contents (Elt F) → (⟨S8x2048x64, .f32⟩ : BufTy).Contents (Elt F) → (⟨S8x2048x64, .f32⟩ : BufTy).Contents (Elt F)),
    binary main_v108 main_v129 main_v135 (subf : (⟨S8x2048x64, .f32⟩ : BufTy).Contents (Elt F) → (⟨S8x2048x64, .f32⟩ : BufTy).Contents (Elt F) → (⟨S8x2048x64, .f32⟩ : BufTy).Contents (Elt F)),
    unary main_arg11 main_v136 ((extractStridedSlice S1x1024x64 ![1, 0, 0] · slices_S2x1024x64_S1x1024x64_1_0_0) : (⟨S2x1024x64, .f32⟩ : BufTy).Contents (Elt F) → (⟨S1x1024x64, .f32⟩ : BufTy).Contents (Elt F)),
    reshape main_v136 main_v137 (rfl : (.f32 : EltTy) = .f32) shapeCasts_S1x1024x64_S1024x64,
    binary main_v135 main_v135 main_v138 (mulf : (⟨S8x2048x64, .f32⟩ : BufTy).Contents (Elt F) → (⟨S8x2048x64, .f32⟩ : BufTy).Contents (Elt F) → (⟨S8x2048x64, .f32⟩ : BufTy).Contents (Elt F)),
    nullary main_cst_9 (constant S_ .f32 0x00000000#32),
    binary main_v138 main_cst_9 main_v139 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v139 main_v140 (broadcastInDim S8x2048x1 ![0, 1] bcast_S8x2048_S8x2048x1_0_1 : (⟨S8x2048, .f32⟩ : BufTy).Contents (Elt F) → (⟨S8x2048x1, .f32⟩ : BufTy).Contents (Elt F)),
    unary main_v137 main_v141 ((transpose S64x1024 [1, 0] · transposes_S1024x64_S64x1024_1_0) : (⟨S1024x64, .f32⟩ : BufTy).Contents (Elt F) → (⟨S64x1024, .f32⟩ : BufTy).Contents (Elt F)),
    binary main_v135 main_v141 main_v142 ((fun l r => Host.dotGeneral dot_S8x2048x64_S64x1024_S8x2048x1024_2_0_01_1_n_n none l r) : (⟨S8x2048x64, .f32⟩ : BufTy).Contents (Elt F) → (⟨S64x1024, .f32⟩ : BufTy).Contents (Elt F) → (⟨S8x2048x1024, .f32⟩ : BufTy).Contents (Elt F)),
    nullary main_cst_10 (constant S_ .f32 0x40000000#32),
    unary main_cst_10 main_v143 (broadcastInDim S8x2048x1024 ![] bcast_S_S8x2048x1024 : (⟨S_, .f32⟩ : BufTy).Contents (Elt F) → (⟨S8x2048x1024, .f32⟩ : BufTy).Contents (Elt F)),
    binary main_v143 main_v142 main_v144 (mulf : (⟨S8x2048x1024, .f32⟩ : BufTy).Contents (Elt F) → (⟨S8x2048x1024, .f32⟩ : BufTy).Contents (Elt F) → (⟨S8x2048x1024, .f32⟩ : BufTy).Contents (Elt F)),
    unary main_v140 main_v145 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v145 main_v144 main_v146 (subf : (⟨S8x2048x1024, .f32⟩ : BufTy).Contents (Elt F) → (⟨S8x2048x1024, .f32⟩ : BufTy).Contents (Elt F) → (⟨S8x2048x1024, .f32⟩ : BufTy).Contents (Elt F)),
    binary main_v137 main_v137 main_v147 (mulf : (⟨S1024x64, .f32⟩ : BufTy).Contents (Elt F) → (⟨S1024x64, .f32⟩ : BufTy).Contents (Elt F) → (⟨S1024x64, .f32⟩ : BufTy).Contents (Elt F)),
    nullary main_cst_11 (constant S_ .f32 0x00000000#32),
    binary main_v147 main_cst_11 main_v148 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v148 main_v149 (broadcastInDim S1x1x1024 ![2] bcast_S1024_S1x1x1024_2 : (⟨S1024, .f32⟩ : BufTy).Contents (Elt F) → (⟨S1x1x1024, .f32⟩ : BufTy).Contents (Elt F)),
    unary main_v149 main_v150 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v146 main_v150 main_v151 (addf : (⟨S8x2048x1024, .f32⟩ : BufTy).Contents (Elt F) → (⟨S8x2048x1024, .f32⟩ : BufTy).Contents (Elt F) → (⟨S8x2048x1024, .f32⟩ : BufTy).Contents (Elt F)),
    TRef.nullary (TRef.of (T := ⟨S8x2048x1024, .i32⟩) main_call4_v0) (iotaInDim S8x2048x1024 32 2),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S8x2048x1024, .f32⟩) main_v151) (TRef.of (T := ⟨S8x2048x1024, .i32⟩) main_call4_v0) (TRef.of (T := ⟨S_, .f32⟩) main_call4_cst) (TRef.of (T := ⟨S_, .i32⟩) main_call4_c) (TRef.of (T := ⟨S8x2048, .f32⟩) main_call4_v1_0) (fun x y u v j => (Host.argReduce reducer_argmin_f32_i32 x y u v reducesTo_S8x2048x1024_S8x2048_d2 h_S_ j).1),
    TRef.quaternary (TRef.of (T := ⟨S8x2048x1024, .f32⟩) main_v151) (TRef.of (T := ⟨S8x2048x1024, .i32⟩) main_call4_v0) (TRef.of (T := ⟨S_, .f32⟩) main_call4_cst) (TRef.of (T := ⟨S_, .i32⟩) main_call4_c) (TRef.of (T := ⟨S8x2048, .i32⟩) main_v152) (fun x y u v j => (Host.argReduce reducer_argmin_f32_i32 x y u v reducesTo_S8x2048x1024_S8x2048_d2 h_S_ j).2),
    TRef.unary (TRef.of (T := ⟨S8x2048, .i32⟩) main_v152) (TRef.of (T := ⟨S8x2048x1, .i32⟩) main_call5_v0) (broadcastInDim S8x2048x1 ![0, 1] bcast_S8x2048_S8x2048x1_0_1),
    TRef.binary (TRef.of (T := ⟨S1024x64, .f32⟩) main_v137) (TRef.of (T := ⟨S8x2048x1, .i32⟩) main_call5_v0) (TRef.of (T := ⟨S8x2048x64, .f32⟩) main_v153) (fun x i => Host.gather gather_S1024x64_S8x2048x1_S8x2048x64_2_0_n_n_0_2_164 x i),
    binary main_v153 main_v135 main_v154 (subf : (⟨S8x2048x64, .f32⟩ : BufTy).Contents (Elt F) → (⟨S8x2048x64, .f32⟩ : BufTy).Contents (Elt F) → (⟨S8x2048x64, .f32⟩ : BufTy).Contents (Elt F)),
    binary main_v135 main_v154 main_v155 (addf : (⟨S8x2048x64, .f32⟩ : BufTy).Contents (Elt F) → (⟨S8x2048x64, .f32⟩ : BufTy).Contents (Elt F) → (⟨S8x2048x64, .f32⟩ : BufTy).Contents (Elt F)) ]

/-- @main's operations 183 … 192 of 335 (window `main_part2`). -/
abbrev ops_part2_2 : List (HloOp τ sig (Elt F)) :=
  [ binary main_v153 main_v135 main_v156 (subf : (⟨S8x2048x64, .f32⟩ : BufTy).Contents (Elt F) → (⟨S8x2048x64, .f32⟩ : BufTy).Contents (Elt F) → (⟨S8x2048x64, .f32⟩ : BufTy).Contents (Elt F)),
    binary main_v156 main_v156 main_v157 (mulf : (⟨S8x2048x64, .f32⟩ : BufTy).Contents (Elt F) → (⟨S8x2048x64, .f32⟩ : BufTy).Contents (Elt F) → (⟨S8x2048x64, .f32⟩ : BufTy).Contents (Elt F)),
    nullary main_cst_12 (constant S_ .f32 0x00000000#32),
    binary main_v157 main_cst_12 main_v158 ((fun x v => Host.reduceAdd x v reducesTo_S8x2048x64_S_d0_1_2 h_S_) : (⟨S8x2048x64, .f32⟩ : BufTy).Contents (Elt F) → (⟨S_, .f32⟩ : BufTy).Contents (Elt F) → (⟨S_, .f32⟩ : BufTy).Contents (Elt F)),
    nullary main_cst_13 (constant S_ .f32 0x49800000#32),
    binary main_v158 main_cst_13 main_v159 (Host.divf : (⟨S_, .f32⟩ : BufTy).Contents (Elt F) → (⟨S_, .f32⟩ : BufTy).Contents (Elt F) → (⟨S_, .f32⟩ : BufTy).Contents (Elt F)),
    binary main_v134 main_v155 main_v160 (addf : (⟨S8x2048x64, .f32⟩ : BufTy).Contents (Elt F) → (⟨S8x2048x64, .f32⟩ : BufTy).Contents (Elt F) → (⟨S8x2048x64, .f32⟩ : BufTy).Contents (Elt F)),
    binary main_v135 main_v155 main_v161 (subf : (⟨S8x2048x64, .f32⟩ : BufTy).Contents (Elt F) → (⟨S8x2048x64, .f32⟩ : BufTy).Contents (Elt F) → (⟨S8x2048x64, .f32⟩ : BufTy).Contents (Elt F)),
    unary main_v126 main_v162 (broadcastInDim S8x2048x1 ![0, 1] bcast_S8x2048_S8x2048x1_0_1 : (⟨S8x2048, .i32⟩ : BufTy).Contents (Elt F) → (⟨S8x2048x1, .i32⟩ : BufTy).Contents (Elt F)),
    unary main_v152 main_v163 (broadcastInDim S8x2048x1 ![0, 1] bcast_S8x2048_S8x2048x1_0_1 : (⟨S8x2048, .i32⟩ : BufTy).Contents (Elt F) → (⟨S8x2048x1, .i32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 193 … 222 of 335 (window `main_part3`). -/
abbrev ops_part3_0 : List (HloOp τ sig (Elt F)) :=
  [ binary main_v162 main_v163 main_v164 (fn_main_v164 (F := F)),
    unary main_v133 main_v165 (broadcastInDim S1 ![] bcast_S_S1 : (⟨S_, .f32⟩ : BufTy).Contents (Elt F) → (⟨S1, .f32⟩ : BufTy).Contents (Elt F)),
    unary main_v159 main_v166 (broadcastInDim S1 ![] bcast_S_S1 : (⟨S_, .f32⟩ : BufTy).Contents (Elt F) → (⟨S1, .f32⟩ : BufTy).Contents (Elt F)),
    binary main_v165 main_v166 main_v167 (fn_main_v167 (F := F)),
    nullary main_cst_14 (constant S_ .f32 0x00000000#32),
    binary main_v167 main_cst_14 main_v168 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_15 (constant S_ .f32 0x40000000#32),
    binary main_v168 main_cst_15 main_v169 (Host.divf : (⟨S_, .f32⟩ : BufTy).Contents (Elt F) → (⟨S_, .f32⟩ : BufTy).Contents (Elt F) → (⟨S_, .f32⟩ : BufTy).Contents (Elt F)),
    unary main_v164 main_v170 ((extractStridedSlice S8x2048x1 ![0, 0, 0] · slices_S8x2048x2_S8x2048x1_0_0_0) : (⟨S8x2048x2, .i32⟩ : BufTy).Contents (Elt F) → (⟨S8x2048x1, .i32⟩ : BufTy).Contents (Elt F)),
    reshape main_v170 main_v171 (rfl : (.i32 : EltTy) = .i32) shapeCasts_S8x2048x1_S8x2048,
    TRef.unary (TRef.of (T := ⟨S8x2048, .i32⟩) main_v171) (TRef.of (T := ⟨S8x2048x1, .i32⟩) main_call6_v0) (broadcastInDim S8x2048x1 ![0, 1] bcast_S8x2048_S8x2048x1_0_1),
    TRef.binary (TRef.of (T := ⟨S1024x64, .f32⟩) main_arg10) (TRef.of (T := ⟨S8x2048x1, .i32⟩) main_call6_v0) (TRef.of (T := ⟨S8x2048x64, .f32⟩) main_v172) (fun x i => Host.gather gather_S1024x64_S8x2048x1_S8x2048x64_2_0_n_n_0_2_164 x i),
    binary main_v160 main_v172 main_v173 (fn_main_v173 (F := F)),
    unary main_v173 main_v174 ((extractStridedSlice S8x2019x128 ![0, 0, 0] · slices_S8x2048x128_S8x2019x128_0_0_0) : (⟨S8x2048x128, .f32⟩ : BufTy).Contents (Elt F) → (⟨S8x2019x128, .f32⟩ : BufTy).Contents (Elt F)),
    unary main_v173 main_v175 ((extractStridedSlice S8x2019x128 ![0, 1, 0] · slices_S8x2048x128_S8x2019x128_0_1_0) : (⟨S8x2048x128, .f32⟩ : BufTy).Contents (Elt F) → (⟨S8x2019x128, .f32⟩ : BufTy).Contents (Elt F)),
    unary main_v173 main_v176 ((extractStridedSlice S8x2019x128 ![0, 2, 0] · slices_S8x2048x128_S8x2019x128_0_2_0) : (⟨S8x2048x128, .f32⟩ : BufTy).Contents (Elt F) → (⟨S8x2019x128, .f32⟩ : BufTy).Contents (Elt F)),
    unary main_v173 main_v177 ((extractStridedSlice S8x2019x128 ![0, 3, 0] · slices_S8x2048x128_S8x2019x128_0_3_0) : (⟨S8x2048x128, .f32⟩ : BufTy).Contents (Elt F) → (⟨S8x2019x128, .f32⟩ : BufTy).Contents (Elt F)),
    unary main_v173 main_v178 ((extractStridedSlice S8x2019x128 ![0, 4, 0] · slices_S8x2048x128_S8x2019x128_0_4_0) : (⟨S8x2048x128, .f32⟩ : BufTy).Contents (Elt F) → (⟨S8x2019x128, .f32⟩ : BufTy).Contents (Elt F)),
    unary main_v173 main_v179 ((extractStridedSlice S8x2019x128 ![0, 5, 0] · slices_S8x2048x128_S8x2019x128_0_5_0) : (⟨S8x2048x128, .f32⟩ : BufTy).Contents (Elt F) → (⟨S8x2019x128, .f32⟩ : BufTy).Contents (Elt F)),
    unary main_v173 main_v180 ((extractStridedSlice S8x2019x128 ![0, 6, 0] · slices_S8x2048x128_S8x2019x128_0_6_0) : (⟨S8x2048x128, .f32⟩ : BufTy).Contents (Elt F) → (⟨S8x2019x128, .f32⟩ : BufTy).Contents (Elt F)),
    unary main_v173 main_v181 ((extractStridedSlice S8x2019x128 ![0, 7, 0] · slices_S8x2048x128_S8x2019x128_0_7_0) : (⟨S8x2048x128, .f32⟩ : BufTy).Contents (Elt F) → (⟨S8x2019x128, .f32⟩ : BufTy).Contents (Elt F)),
    unary main_v173 main_v182 ((extractStridedSlice S8x2019x128 ![0, 8, 0] · slices_S8x2048x128_S8x2019x128_0_8_0) : (⟨S8x2048x128, .f32⟩ : BufTy).Contents (Elt F) → (⟨S8x2019x128, .f32⟩ : BufTy).Contents (Elt F)),
    unary main_v173 main_v183 ((extractStridedSlice S8x2019x128 ![0, 9, 0] · slices_S8x2048x128_S8x2019x128_0_9_0) : (⟨S8x2048x128, .f32⟩ : BufTy).Contents (Elt F) → (⟨S8x2019x128, .f32⟩ : BufTy).Contents (Elt F)),
    unary main_v174 main_v184 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v175 main_v185 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v176 main_v186 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v177 main_v187 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v178 main_v188 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v179 main_v189 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v180 main_v190 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)) ]

/-- @main's operations 223 … 252 of 335 (window `main_part3`). -/
abbrev ops_part3_1 : List (HloOp τ sig (Elt F)) :=
  [ unary main_v181 main_v191 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v182 main_v192 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    unary main_v183 main_v193 (broadcastInDim S8x2019x1x128 ![0, 1, 3] bcast_S8x2019x128_S8x2019x1x128_0_1_3 : (⟨S8x2019x128, .f32⟩ : BufTy).Contents (Elt F) → (⟨S8x2019x1x128, .f32⟩ : BufTy).Contents (Elt F)),
    nary ![main_v184, main_v185, main_v186, main_v187, main_v188, main_v189, main_v190, main_v191, main_v192, main_v193] main_v194 (fun u => fn_main_v194 (F := F) (u 0) (u 1) (u 2) (u 3) (u 4) (u 5) (u 6) (u 7) (u 8) (u 9)),
    reshape main_v194 main_v195 (rfl : (.f32 : EltTy) = .f32) shapeCasts_S8x2019x10x128_S16152x1280,
    unary main_v160 main_v196 ((extractStridedSlice S8x2019x64 ![0, 10, 0] · slices_S8x2048x64_S8x2019x64_0_10_0) : (⟨S8x2048x64, .f32⟩ : BufTy).Contents (Elt F) → (⟨S8x2019x64, .f32⟩ : BufTy).Contents (Elt F)),
    unary main_v160 main_v197 ((extractStridedSlice S8x2019x64 ![0, 11, 0] · slices_S8x2048x64_S8x2019x64_0_11_0) : (⟨S8x2048x64, .f32⟩ : BufTy).Contents (Elt F) → (⟨S8x2019x64, .f32⟩ : BufTy).Contents (Elt F)),
    unary main_v160 main_v198 ((extractStridedSlice S8x2019x64 ![0, 12, 0] · slices_S8x2048x64_S8x2019x64_0_12_0) : (⟨S8x2048x64, .f32⟩ : BufTy).Contents (Elt F) → (⟨S8x2019x64, .f32⟩ : BufTy).Contents (Elt F)),
    unary main_v160 main_v199 ((extractStridedSlice S8x2019x64 ![0, 13, 0] · slices_S8x2048x64_S8x2019x64_0_13_0) : (⟨S8x2048x64, .f32⟩ : BufTy).Contents (Elt F) → (⟨S8x2019x64, .f32⟩ : BufTy).Contents (Elt F)),
    unary main_v160 main_v200 ((extractStridedSlice S8x2019x64 ![0, 14, 0] · slices_S8x2048x64_S8x2019x64_0_14_0) : (⟨S8x2048x64, .f32⟩ : BufTy).Contents (Elt F) → (⟨S8x2019x64, .f32⟩ : BufTy).Contents (Elt F)),
    unary main_v160 main_v201 ((extractStridedSlice S8x2019x64 ![0, 15, 0] · slices_S8x2048x64_S8x2019x64_0_15_0) : (⟨S8x2048x64, .f32⟩ : BufTy).Contents (Elt F) → (⟨S8x2019x64, .f32⟩ : BufTy).Contents (Elt F)),
    unary main_v160 main_v202 ((extractStridedSlice S8x2019x64 ![0, 16, 0] · slices_S8x2048x64_S8x2019x64_0_16_0) : (⟨S8x2048x64, .f32⟩ : BufTy).Contents (Elt F) → (⟨S8x2019x64, .f32⟩ : BufTy).Contents (Elt F)),
    unary main_v160 main_v203 ((extractStridedSlice S8x2019x64 ![0, 17, 0] · slices_S8x2048x64_S8x2019x64_0_17_0) : (⟨S8x2048x64, .f32⟩ : BufTy).Contents (Elt F) → (⟨S8x2019x64, .f32⟩ : BufTy).Contents (Elt F)),
    unary main_v160 main_v204 ((extractStridedSlice S8x2019x64 ![0, 18, 0] · slices_S8x2048x64_S8x2019x64_0_18_0) : (⟨S8x2048x64, .f32⟩ : BufTy).Contents (Elt F) → (⟨S8x2019x64, .f32⟩ : BufTy).Contents (Elt F)),
    unary main_v160 main_v205 ((extractStridedSlice S8x2019x64 ![0, 19, 0] · slices_S8x2048x64_S8x2019x64_0_19_0) : (⟨S8x2048x64, .f32⟩ : BufTy).Contents (Elt F) → (⟨S8x2019x64, .f32⟩ : BufTy).Contents (Elt F)),
    unary main_v160 main_v206 ((extractStridedSlice S8x2019x64 ![0, 20, 0] · slices_S8x2048x64_S8x2019x64_0_20_0) : (⟨S8x2048x64, .f32⟩ : BufTy).Contents (Elt F) → (⟨S8x2019x64, .f32⟩ : BufTy).Contents (Elt F)),
    unary main_v160 main_v207 ((extractStridedSlice S8x2019x64 ![0, 21, 0] · slices_S8x2048x64_S8x2019x64_0_21_0) : (⟨S8x2048x64, .f32⟩ : BufTy).Contents (Elt F) → (⟨S8x2019x64, .f32⟩ : BufTy).Contents (Elt F)),
    unary main_v160 main_v208 ((extractStridedSlice S8x2019x64 ![0, 22, 0] · slices_S8x2048x64_S8x2019x64_0_22_0) : (⟨S8x2048x64, .f32⟩ : BufTy).Contents (Elt F) → (⟨S8x2019x64, .f32⟩ : BufTy).Contents (Elt F)),
    unary main_v160 main_v209 ((extractStridedSlice S8x2019x64 ![0, 23, 0] · slices_S8x2048x64_S8x2019x64_0_23_0) : (⟨S8x2048x64, .f32⟩ : BufTy).Contents (Elt F) → (⟨S8x2019x64, .f32⟩ : BufTy).Contents (Elt F)),
    unary main_v160 main_v210 ((extractStridedSlice S8x2019x64 ![0, 24, 0] · slices_S8x2048x64_S8x2019x64_0_24_0) : (⟨S8x2048x64, .f32⟩ : BufTy).Contents (Elt F) → (⟨S8x2019x64, .f32⟩ : BufTy).Contents (Elt F)),
    unary main_v160 main_v211 ((extractStridedSlice S8x2019x64 ![0, 25, 0] · slices_S8x2048x64_S8x2019x64_0_25_0) : (⟨S8x2048x64, .f32⟩ : BufTy).Contents (Elt F) → (⟨S8x2019x64, .f32⟩ : BufTy).Contents (Elt F)),
    unary main_v160 main_v212 ((extractStridedSlice S8x2019x64 ![0, 26, 0] · slices_S8x2048x64_S8x2019x64_0_26_0) : (⟨S8x2048x64, .f32⟩ : BufTy).Contents (Elt F) → (⟨S8x2019x64, .f32⟩ : BufTy).Contents (Elt F)),
    unary main_v160 main_v213 ((extractStridedSlice S8x2019x64 ![0, 27, 0] · slices_S8x2048x64_S8x2019x64_0_27_0) : (⟨S8x2048x64, .f32⟩ : BufTy).Contents (Elt F) → (⟨S8x2019x64, .f32⟩ : BufTy).Contents (Elt F)),
    unary main_v160 main_v214 ((extractStridedSlice S8x2019x64 ![0, 28, 0] · slices_S8x2048x64_S8x2019x64_0_28_0) : (⟨S8x2048x64, .f32⟩ : BufTy).Contents (Elt F) → (⟨S8x2019x64, .f32⟩ : BufTy).Contents (Elt F)),
    unary main_v160 main_v215 ((extractStridedSlice S8x2019x64 ![0, 29, 0] · slices_S8x2048x64_S8x2019x64_0_29_0) : (⟨S8x2048x64, .f32⟩ : BufTy).Contents (Elt F) → (⟨S8x2019x64, .f32⟩ : BufTy).Contents (Elt F)),
    unary main_v196 main_v216 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v197 main_v217 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v198 main_v218 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v199 main_v219 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v200 main_v220 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)) ]

/-- @main's operations 253 … 253 of 335 (window `main_part3`). -/
abbrev ops_part3_2 : List (HloOp τ sig (Elt F)) :=
  [ unary main_v201 main_v221 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 254 … 283 of 335 (window `main_part4`). -/
abbrev ops_part4_0 : List (HloOp τ sig (Elt F)) :=
  [ unary main_v202 main_v222 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v203 main_v223 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v204 main_v224 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v205 main_v225 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v206 main_v226 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v207 main_v227 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v208 main_v228 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v209 main_v229 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v210 main_v230 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v211 main_v231 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v212 main_v232 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v213 main_v233 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v214 main_v234 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    unary main_v215 main_v235 (broadcastInDim S8x2019x1x64 ![0, 1, 3] bcast_S8x2019x64_S8x2019x1x64_0_1_3 : (⟨S8x2019x64, .f32⟩ : BufTy).Contents (Elt F) → (⟨S8x2019x1x64, .f32⟩ : BufTy).Contents (Elt F)),
    nary ![main_v216, main_v217, main_v218, main_v219, main_v220, main_v221, main_v222, main_v223, main_v224, main_v225, main_v226, main_v227, main_v228, main_v229, main_v230, main_v231] main_v236 (fun u => fn_main_v236 (F := F) (u 0) (u 1) (u 2) (u 3) (u 4) (u 5) (u 6) (u 7) (u 8) (u 9) (u 10) (u 11) (u 12) (u 13) (u 14) (u 15)),
    nary ![main_v232, main_v233, main_v234, main_v235] main_v237 (fun u => fn_main_v237 (F := F) (u 0) (u 1) (u 2) (u 3)),
    binary main_v236 main_v237 main_v238 (fn_main_v238 (F := F)),
    unary main_arg6 main_v239 ((transpose S1280x1280 [1, 0] · transposes_S1280x1280_S1280x1280_1_0) : (⟨S1280x1280, .f32⟩ : BufTy).Contents (Elt F) → (⟨S1280x1280, .f32⟩ : BufTy).Contents (Elt F)),
    binary main_v195 main_v239 main_v240 ((fun l r => Host.dotGeneral dot_S16152x1280_S1280x1280_S16152x1280_1_0_0_1_n_n none l r) : (⟨S16152x1280, .f32⟩ : BufTy).Contents (Elt F) → (⟨S1280x1280, .f32⟩ : BufTy).Contents (Elt F) → (⟨S16152x1280, .f32⟩ : BufTy).Contents (Elt F)),
    unary main_arg7 main_v241 (broadcastInDim S1x1280 ![1] bcast_S1280_S1x1280_1 : (⟨S1280, .f32⟩ : BufTy).Contents (Elt F) → (⟨S1x1280, .f32⟩ : BufTy).Contents (Elt F)),
    unary main_v241 main_v242 (broadcastInDim S16152x1280 ![0, 1] bcast_S1x1280_S16152x1280_0_1 : (⟨S1x1280, .f32⟩ : BufTy).Contents (Elt F) → (⟨S16152x1280, .f32⟩ : BufTy).Contents (Elt F)),
    binary main_v240 main_v242 main_v243 (addf : (⟨S16152x1280, .f32⟩ : BufTy).Contents (Elt F) → (⟨S16152x1280, .f32⟩ : BufTy).Contents (Elt F) → (⟨S16152x1280, .f32⟩ : BufTy).Contents (Elt F)),
    nullary main_cst_16 (constant S_ .f32 0x00000000#32),
    unary main_cst_16 main_v244 (broadcastInDim S16152x1280 ![] bcast_S_S16152x1280 : (⟨S_, .f32⟩ : BufTy).Contents (Elt F) → (⟨S16152x1280, .f32⟩ : BufTy).Contents (Elt F)),
    binary main_v243 main_v244 main_v245 (maximumf : (⟨S16152x1280, .f32⟩ : BufTy).Contents (Elt F) → (⟨S16152x1280, .f32⟩ : BufTy).Contents (Elt F) → (⟨S16152x1280, .f32⟩ : BufTy).Contents (Elt F)),
    unary main_arg8 main_v246 ((transpose S1280x1280 [1, 0] · transposes_S1280x1280_S1280x1280_1_0) : (⟨S1280x1280, .f32⟩ : BufTy).Contents (Elt F) → (⟨S1280x1280, .f32⟩ : BufTy).Contents (Elt F)),
    binary main_v245 main_v246 main_v247 ((fun l r => Host.dotGeneral dot_S16152x1280_S1280x1280_S16152x1280_1_0_0_1_n_n none l r) : (⟨S16152x1280, .f32⟩ : BufTy).Contents (Elt F) → (⟨S1280x1280, .f32⟩ : BufTy).Contents (Elt F) → (⟨S16152x1280, .f32⟩ : BufTy).Contents (Elt F)),
    unary main_arg9 main_v248 (broadcastInDim S1x1280 ![1] bcast_S1280_S1x1280_1 : (⟨S1280, .f32⟩ : BufTy).Contents (Elt F) → (⟨S1x1280, .f32⟩ : BufTy).Contents (Elt F)),
    unary main_v248 main_v249 (broadcastInDim S16152x1280 ![0, 1] bcast_S1x1280_S16152x1280_0_1 : (⟨S1x1280, .f32⟩ : BufTy).Contents (Elt F) → (⟨S16152x1280, .f32⟩ : BufTy).Contents (Elt F)),
    binary main_v247 main_v249 main_v250 (addf : (⟨S16152x1280, .f32⟩ : BufTy).Contents (Elt F) → (⟨S16152x1280, .f32⟩ : BufTy).Contents (Elt F) → (⟨S16152x1280, .f32⟩ : BufTy).Contents (Elt F)) ]

/-- @main's operations 284 … 313 of 335 (window `main_part4`). -/
abbrev ops_part4_1 : List (HloOp τ sig (Elt F)) :=
  [ reshape main_v250 main_v251 (rfl : (.f32 : EltTy) = .f32) shapeCasts_S16152x1280_S8x2019x20x64,
    binary main_v238 main_v251 main_v252 (mulf : (⟨S8x2019x20x64, .f32⟩ : BufTy).Contents (Elt F) → (⟨S8x2019x20x64, .f32⟩ : BufTy).Contents (Elt F) → (⟨S8x2019x20x64, .f32⟩ : BufTy).Contents (Elt F)),
    nullary main_cst_17 (constant S_ .f32 0x00000000#32),
    binary main_v252 main_cst_17 main_v253 ((fun x v => Host.reduceAdd x v reducesTo_S8x2019x20x64_S8x2019x20_d3 h_S_) : (⟨S8x2019x20x64, .f32⟩ : BufTy).Contents (Elt F) → (⟨S_, .f32⟩ : BufTy).Contents (Elt F) → (⟨S8x2019x20, .f32⟩ : BufTy).Contents (Elt F)),
    TRef.binary (TRef.of (T := ⟨S8x2019x20x64, .f32⟩) main_v238) (TRef.of (T := ⟨S8x2019x20x64, .f32⟩) main_v238) (TRef.of (T := ⟨S8x2019x20x64, .f32⟩) main_call7_v0) mulf,
    TRef.nullary (TRef.of (T := ⟨S_, .f32⟩) main_call7_cst) (constant S_ .f32 0x00000000#32),
    TRef.binary (TRef.of (T := ⟨S8x2019x20x64, .f32⟩) main_call7_v0) (TRef.of (T := ⟨S_, .f32⟩) main_call7_cst) (TRef.of (T := ⟨S8x2019x20, .f32⟩) main_call7_v1) (fun x v => Host.reduceAdd x v reducesTo_S8x2019x20x64_S8x2019x20_d3 h_S_),
    TRef.unary (TRef.of (T := ⟨S8x2019x20, .f32⟩) main_call7_v1) (TRef.of (T := ⟨S8x2019x20, .f32⟩) main_v254) Host.sqrt,
    nullary main_cst_18 (constant S_ .f32 0x322BCC77#32),
    unary main_cst_18 main_v255 (broadcastInDim S8x2019x20 ![] bcast_S_S8x2019x20 : (⟨S_, .f32⟩ : BufTy).Contents (Elt F) → (⟨S8x2019x20, .f32⟩ : BufTy).Contents (Elt F)),
    binary main_v254 main_v255 main_v256 (maximumf : (⟨S8x2019x20, .f32⟩ : BufTy).Contents (Elt F) → (⟨S8x2019x20, .f32⟩ : BufTy).Contents (Elt F) → (⟨S8x2019x20, .f32⟩ : BufTy).Contents (Elt F)),
    TRef.binary (TRef.of (T := ⟨S8x2019x20x64, .f32⟩) main_v251) (TRef.of (T := ⟨S8x2019x20x64, .f32⟩) main_v251) (TRef.of (T := ⟨S8x2019x20x64, .f32⟩) main_call8_v0) mulf,
    TRef.nullary (TRef.of (T := ⟨S_, .f32⟩) main_call8_cst) (constant S_ .f32 0x00000000#32),
    TRef.binary (TRef.of (T := ⟨S8x2019x20x64, .f32⟩) main_call8_v0) (TRef.of (T := ⟨S_, .f32⟩) main_call8_cst) (TRef.of (T := ⟨S8x2019x20, .f32⟩) main_call8_v1) (fun x v => Host.reduceAdd x v reducesTo_S8x2019x20x64_S8x2019x20_d3 h_S_),
    TRef.unary (TRef.of (T := ⟨S8x2019x20, .f32⟩) main_call8_v1) (TRef.of (T := ⟨S8x2019x20, .f32⟩) main_v257) Host.sqrt,
    nullary main_cst_19 (constant S_ .f32 0x322BCC77#32),
    unary main_cst_19 main_v258 (broadcastInDim S8x2019x20 ![] bcast_S_S8x2019x20 : (⟨S_, .f32⟩ : BufTy).Contents (Elt F) → (⟨S8x2019x20, .f32⟩ : BufTy).Contents (Elt F)),
    binary main_v257 main_v258 main_v259 (maximumf : (⟨S8x2019x20, .f32⟩ : BufTy).Contents (Elt F) → (⟨S8x2019x20, .f32⟩ : BufTy).Contents (Elt F) → (⟨S8x2019x20, .f32⟩ : BufTy).Contents (Elt F)),
    binary main_v256 main_v259 main_v260 (mulf : (⟨S8x2019x20, .f32⟩ : BufTy).Contents (Elt F) → (⟨S8x2019x20, .f32⟩ : BufTy).Contents (Elt F) → (⟨S8x2019x20, .f32⟩ : BufTy).Contents (Elt F)),
    binary main_v253 main_v260 main_v261 (Host.divf : (⟨S8x2019x20, .f32⟩ : BufTy).Contents (Elt F) → (⟨S8x2019x20, .f32⟩ : BufTy).Contents (Elt F) → (⟨S8x2019x20, .f32⟩ : BufTy).Contents (Elt F)),
    unary main_v171 main_v262 ((extractStridedSlice S8x2019 ![0, 10] · slices_S8x2048_S8x2019_0_10) : (⟨S8x2048, .i32⟩ : BufTy).Contents (Elt F) → (⟨S8x2019, .i32⟩ : BufTy).Contents (Elt F)),
    unary main_v171 main_v263 ((extractStridedSlice S8x2019 ![0, 11] · slices_S8x2048_S8x2019_0_11) : (⟨S8x2048, .i32⟩ : BufTy).Contents (Elt F) → (⟨S8x2019, .i32⟩ : BufTy).Contents (Elt F)),
    binary main_v262 main_v263 main_v264 (cmpi .eq : (⟨S8x2019, .i32⟩ : BufTy).Contents (Elt F) → (⟨S8x2019, .i32⟩ : BufTy).Contents (Elt F) → (⟨S8x2019, .i1⟩ : BufTy).Contents (Elt F)),
    unary main_v264 main_v265 (uitofp .f32 : (⟨S8x2019, .i1⟩ : BufTy).Contents (Elt F) → (⟨S8x2019, .f32⟩ : BufTy).Contents (Elt F)),
    unary main_v265 main_v266 (broadcastInDim S8x2019x1 ![0, 1] bcast_S8x2019_S8x2019x1_0_1 : (⟨S8x2019, .f32⟩ : BufTy).Contents (Elt F) → (⟨S8x2019x1, .f32⟩ : BufTy).Contents (Elt F)),
    nullary main_cst_20 (constant S_ .f32 0x3F800000#32),
    unary main_cst_20 main_v267 (broadcastInDim S1x1x20 ![] bcast_S_S1x1x20 : (⟨S_, .f32⟩ : BufTy).Contents (Elt F) → (⟨S1x1x20, .f32⟩ : BufTy).Contents (Elt F)),
    unary main_v266 main_v268 (broadcastInDim S8x2019x20 ![0, 1, 2] bcast_S8x2019x1_S8x2019x20_0_1_2 : (⟨S8x2019x1, .f32⟩ : BufTy).Contents (Elt F) → (⟨S8x2019x20, .f32⟩ : BufTy).Contents (Elt F)),
    unary main_v267 main_v269 (broadcastInDim S8x2019x20 ![0, 1, 2] bcast_S1x1x20_S8x2019x20_0_1_2 : (⟨S1x1x20, .f32⟩ : BufTy).Contents (Elt F) → (⟨S8x2019x20, .f32⟩ : BufTy).Contents (Elt F)),
    binary main_v268 main_v269 main_v270 (mulf : (⟨S8x2019x20, .f32⟩ : BufTy).Contents (Elt F) → (⟨S8x2019x20, .f32⟩ : BufTy).Contents (Elt F) → (⟨S8x2019x20, .f32⟩ : BufTy).Contents (Elt F)) ]

/-- @main's operations 314 … 319 of 335 (window `main_part4`). -/
abbrev ops_part4_2 : List (HloOp τ sig (Elt F)) :=
  [ binary main_v261 main_v270 main_v271 (subf : (⟨S8x2019x20, .f32⟩ : BufTy).Contents (Elt F) → (⟨S8x2019x20, .f32⟩ : BufTy).Contents (Elt F) → (⟨S8x2019x20, .f32⟩ : BufTy).Contents (Elt F)),
    binary main_v271 main_v271 main_v272 (mulf : (⟨S8x2019x20, .f32⟩ : BufTy).Contents (Elt F) → (⟨S8x2019x20, .f32⟩ : BufTy).Contents (Elt F) → (⟨S8x2019x20, .f32⟩ : BufTy).Contents (Elt F)),
    nullary main_cst_21 (constant S_ .f32 0x00000000#32),
    binary main_v272 main_cst_21 main_v273 ((fun x v => Host.reduceAdd x v reducesTo_S8x2019x20_S_d0_1_2 h_S_) : (⟨S8x2019x20, .f32⟩ : BufTy).Contents (Elt F) → (⟨S_, .f32⟩ : BufTy).Contents (Elt F) → (⟨S_, .f32⟩ : BufTy).Contents (Elt F)),
    nullary main_cst_22 (constant S_ .f32 0x489DBC00#32),
    binary main_v273 main_cst_22 main_v274 (Host.divf : (⟨S_, .f32⟩ : BufTy).Contents (Elt F) → (⟨S_, .f32⟩ : BufTy).Contents (Elt F) → (⟨S_, .f32⟩ : BufTy).Contents (Elt F)) ]

/-- Window `main_part4`'s operations. Not an abbreviation: `main_eq` below splits `ops` into the windows and no further. -/
def ops_part4 : List (HloOp τ sig (Elt F)) :=
  ops_part4_0 ++ (ops_part4_1 ++ (ops_part4_2))

/-- @main's operations 320 … 335 of 335 (window `main_part5`). -/
abbrev ops_part5 : List (HloOp τ sig (Elt F)) :=
  [ unary main_v171 main_v275 ((extractStridedSlice S8x2047 ![0, 1] · slices_S8x2048_S8x2047_0_1) : (⟨S8x2048, .i32⟩ : BufTy).Contents (Elt F) → (⟨S8x2047, .i32⟩ : BufTy).Contents (Elt F)),
    unary main_v171 main_v276 ((extractStridedSlice S8x2047 ![0, 0] · slices_S8x2048_S8x2047_0_0) : (⟨S8x2048, .i32⟩ : BufTy).Contents (Elt F) → (⟨S8x2047, .i32⟩ : BufTy).Contents (Elt F)),
    binary main_v275 main_v276 main_v277 (cmpi .ne : (⟨S8x2047, .i32⟩ : BufTy).Contents (Elt F) → (⟨S8x2047, .i32⟩ : BufTy).Contents (Elt F) → (⟨S8x2047, .i1⟩ : BufTy).Contents (Elt F)),
    unary main_v277 main_v278 (uitofp .f32 : (⟨S8x2047, .i1⟩ : BufTy).Contents (Elt F) → (⟨S8x2047, .f32⟩ : BufTy).Contents (Elt F)),
    nullary main_cst_23 (constant S_ .f32 0x00000000#32),
    binary main_v278 main_cst_23 main_v279 ((fun x v => Host.reduceAdd x v reducesTo_S8x2047_S_d0_1 h_S_) : (⟨S8x2047, .f32⟩ : BufTy).Contents (Elt F) → (⟨S_, .f32⟩ : BufTy).Contents (Elt F) → (⟨S_, .f32⟩ : BufTy).Contents (Elt F)),
    nullary main_cst_24 (constant S_ .f32 0x467FE000#32),
    binary main_v279 main_cst_24 main_v280 (Host.divf : (⟨S_, .f32⟩ : BufTy).Contents (Elt F) → (⟨S_, .f32⟩ : BufTy).Contents (Elt F) → (⟨S_, .f32⟩ : BufTy).Contents (Elt F)),
    nullary main_cst_25 (constant S_ .f32 0x3F800000#32),
    binary main_v274 main_cst_25 main_v281 (mulf : (⟨S_, .f32⟩ : BufTy).Contents (Elt F) → (⟨S_, .f32⟩ : BufTy).Contents (Elt F) → (⟨S_, .f32⟩ : BufTy).Contents (Elt F)),
    nullary main_cst_26 (constant S_ .f32 0x3E800000#32),
    binary main_v169 main_cst_26 main_v282 (mulf : (⟨S_, .f32⟩ : BufTy).Contents (Elt F) → (⟨S_, .f32⟩ : BufTy).Contents (Elt F) → (⟨S_, .f32⟩ : BufTy).Contents (Elt F)),
    binary main_v281 main_v282 main_v283 (addf : (⟨S_, .f32⟩ : BufTy).Contents (Elt F) → (⟨S_, .f32⟩ : BufTy).Contents (Elt F) → (⟨S_, .f32⟩ : BufTy).Contents (Elt F)),
    nullary main_cst_27 (constant S_ .f32 0x3DCCCCCD#32),
    binary main_v280 main_cst_27 main_v284 (mulf : (⟨S_, .f32⟩ : BufTy).Contents (Elt F) → (⟨S_, .f32⟩ : BufTy).Contents (Elt F) → (⟨S_, .f32⟩ : BufTy).Contents (Elt F)),
    binary main_v283 main_v284 main_v285 (addf : (⟨S_, .f32⟩ : BufTy).Contents (Elt F) → (⟨S_, .f32⟩ : BufTy).Contents (Elt F) → (⟨S_, .f32⟩ : BufTy).Contents (Elt F)) ]

/-- @main's 335 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨reshape_bufs_sub .., binary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_sub : (ops_part1 : List (HloOp τ sig (Elt F))).Forall fun op => op.bufs ⊆ tcRefs τ sig :=
  ⟨unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., unary_bufs_sub .., nullary_bufs_sub .., unary_bufs_sub .., unary_bufs_sub .., reshape_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., binary_bufs_sub .., binary_bufs_sub .., binary_bufs_sub .., binary_bufs_sub .., binary_bufs_sub .., nullary_bufs_sub .., binary_bufs_sub .., nullary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., binary_bufs_sub .., unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., binary_bufs_sub .., binary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., unary_bufs_sub .., unary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl⟩
set_option maxRecDepth 8192 in
theorem ops_part3_0_sub : (ops_part3_0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., binary_bufs_sub .., unary_bufs_sub .., reshape_bufs_sub .., unary_bufs_sub .., binary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨unary_bufs_sub .., unary_bufs_sub .., unary_bufs_sub .., nary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  unary_bufs_sub ..
set_option maxRecDepth 8192 in
theorem ops_part3_2_fresh : (ops_part3_2 : List (HloOp τ sig (Elt F))).Forall fun op => op.fresh = ∅ :=
  rfl
set_option maxRecDepth 8192 in
theorem ops_part4_0_sub : (ops_part4_0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩
set_option maxRecDepth 8192 in
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_1_sub : (ops_part4_1 : List (HloOp τ sig (Elt F))).Forall fun op => op.bufs ⊆ tcRefs τ sig :=
  ⟨reshape_bufs_sub .., binary_bufs_sub .., nullary_bufs_sub .., binary_bufs_sub .., binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., unary_bufs_sub .., unary_bufs_sub .., binary_bufs_sub ..⟩
set_option maxRecDepth 8192 in
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_2_sub : (ops_part4_2 : List (HloOp τ sig (Elt F))).Forall fun op => op.bufs ⊆ tcRefs τ sig :=
  ⟨binary_bufs_sub .., binary_bufs_sub .., nullary_bufs_sub .., binary_bufs_sub .., nullary_bufs_sub .., binary_bufs_sub ..⟩
set_option maxRecDepth 8192 in
theorem ops_part4_2_fresh : (ops_part4_2 : List (HloOp τ sig (Elt F))).Forall fun op => op.fresh = ∅ :=
  ⟨rfl, rfl, rfl, rfl, rfl, rfl⟩
set_option maxRecDepth 8192 in
theorem ops_part5_sub : (ops_part5 : List (HloOp τ sig (Elt F))).Forall fun op => op.bufs ⊆ tcRefs τ sig :=
  ⟨unary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl⟩
/-- Every operation's buffers are the program's. -/
theorem ops_sub : (ops : List (HloOp τ sig (Elt F))).Forall fun op => op.bufs ⊆ tcRefs τ sig :=
  List.forall_iff_forall_mem.mpr fun op h => by
    simp only [ops, ops_part0, ops_part2, ops_part3, ops_part4, List.mem_append, or_assoc] at h
    rcases h with h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_0_sub op h, List.forall_iff_forall_mem.mp ops_part4_1_sub op h, List.forall_iff_forall_mem.mp ops_part4_2_sub op h, List.forall_iff_forall_mem.mp ops_part5_sub op h]
/-- Every operation writes a buffer it does not read. -/
theorem ops_fresh : ∀ op ∈ (ops : List (HloOp τ sig (Elt F))), op.fresh = ∅ := fun op h => by
    simp only [ops, ops_part0, ops_part2, ops_part3, ops_part4, List.mem_append, or_assoc] at h
    rcases h with h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_0_fresh op h, List.forall_iff_forall_mem.mp ops_part4_1_fresh op h, List.forall_iff_forall_mem.mp ops_part4_2_fresh op h, List.forall_iff_forall_mem.mp ops_part5_fresh op h]

end Cert.ReferenceIdeal.Ref

end
-- ==== Proof.RefFirst.lean ====
/- The reference after the first half of its operations: each buffer still in use as a term of the arguments. -/
module

public import proofs.«01_k».proof.Proof.RefOps

@[expose] public section

set_option Elab.async false

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_v0`'s composed term of the arguments (named: it is used 7 times). -/
def res_main_v0 (V0 : Valuation τ sig (Elt F)) : (Proc.devRef .tc main_v0 : DevRef τ sig).ty.Contents (Elt F) :=
  pad S8x2x2054 ![0, 0, 3] ![0, 0, 3] ![0, 0, 0] (V0 (Proc.devRef .tc main_arg0)) (sitofp .f32 (constantI S_ 32 0#32)) pads_S8x2x2048_S8x2x2054_000_000_330 h_S_

set_option maxRecDepth 8192 in
/-- `main_v49`'s composed term of the arguments (named: it is used 9 times). -/
def res_main_v49 (V0 : Valuation τ sig (Elt F)) : (Proc.devRef .tc main_v49 : DevRef τ sig).ty.Contents (Elt F) :=
  pad S8x256x2056 ![0, 0, 4] ![0, 0, 4] ![0, 0, 0] (maximumf (addf (addf (addf (addf (addf (addf (addf (addf (broadcastInDim S8x256x2048 ![] bcast_S_S8x256x2048 (constant S_ .f32 0x00000000#32)) (transpose S8x256x2048 [1, 0, 2] (Host.dotGeneral dot_S256x2_S8x2x2048_S256x8x2048_1_1_0_02_n_n none (shapeCast _ (extractStridedSlice S256x2x1 ![0, 0, 0] (V0 (Proc.devRef .tc main_arg2)) slices_S256x2x7_S256x2x1_0_0_0) shapeCasts_S256x2x1_S256x2) (extractStridedSlice S8x2x2048 ![0, 0, 0] (res_main_v0 V0) slices_S8x2x2054_S8x2x2048_0_0_0)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 1] (V0 (Proc.devRef .tc main_arg2)) slices_S256x2x7_S256x2x1_0_0_1) shapeCasts_S256x2x1_S256x2) (extractStridedSlice S8x2x2048 ![0, 0, 1] (res_main_v0 V0) slices_S8x2x2054_S8x2x2048_0_0_1)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 2] (V0 (Proc.devRef .tc main_arg2)) slices_S256x2x7_S256x2x1_0_0_2) shapeCasts_S256x2x1_S256x2) (extractStridedSlice S8x2x2048 ![0, 0, 2] (res_main_v0 V0) slices_S8x2x2054_S8x2x2048_0_0_2)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 3] (V0 (Proc.devRef .tc main_arg2)) slices_S256x2x7_S256x2x1_0_0_3) shapeCasts_S256x2x1_S256x2) (extractStridedSlice S8x2x2048 ![0, 0, 3] (res_main_v0 V0) slices_S8x2x2054_S8x2x2048_0_0_3)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 4] (V0 (Proc.devRef .tc main_arg2)) slices_S256x2x7_S256x2x1_0_0_4) shapeCasts_S256x2x1_S256x2) (extractStridedSlice S8x2x2048 ![0, 0, 4] (res_main_v0 V0) slices_S8x2x2054_S8x2x2048_0_0_4)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 5] (V0 (Proc.devRef .tc main_arg2)) slices_S256x2x7_S256x2x1_0_0_5) shapeCasts_S256x2x1_S256x2) (extractStridedSlice S8x2x2048 ![0, 0, 5] (res_main_v0 V0) slices_S8x2x2054_S8x2x2048_0_0_5)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 6] (V0 (Proc.devRef .tc main_arg2)) slices_S256x2x7_S256x2x1_0_0_6) shapeCasts_S256x2x1_S256x2) (extractStridedSlice S8x2x2048 ![0, 0, 6] (res_main_v0 V0) slices_S8x2x2054_S8x2x2048_0_0_6)) transposes_S256x8x2048_S8x256x2048_1_0_2)) (broadcastInDim S8x256x2048 ![0, 1, 2] bcast_S1x256x1_S8x256x2048_0_1_2 (broadcastInDim S1x256x1 ![1] bcast_S256_S1x256x1_1 (V0 (Proc.devRef .tc main_arg3))))) (broadcastInDim S8x256x2048 ![] bcast_S_S8x256x2048 (constant S_ .f32 0x00000000#32))) (sitofp .f32 (constantI S_ 32 0#32)) pads_S8x256x2048_S8x256x2056_000_000_440 h_S_

set_option maxRecDepth 8192 in
/-- `main_v108`'s composed term of the arguments (named: it is used 7 times). -/
def res_main_v108 (V0 : Valuation τ sig (Elt F)) : (Proc.devRef .tc main_v108 : DevRef τ sig).ty.Contents (Elt F) :=
  transpose S8x2048x64 [0, 2, 1] (addf (addf (addf (addf (addf (addf (addf (addf (addf (addf (broadcastInDim S8x64x2048 ![] bcast_S_S8x64x2048 (constant S_ .f32 0x00000000#32)) (transpose S8x64x2048 [1, 0, 2] (Host.dotGeneral dot_S64x256_S8x256x2048_S64x8x2048_1_1_0_02_n_n none (shapeCast _ (extractStridedSlice S64x256x1 ![0, 0, 0] (V0 (Proc.devRef .tc main_arg4)) slices_S64x256x9_S64x256x1_0_0_0) shapeCasts_S64x256x1_S64x256) (extractStridedSlice S8x256x2048 ![0, 0, 0] (res_main_v49 V0) slices_S8x256x2056_S8x256x2048_0_0_0)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 1] (V0 (Proc.devRef .tc main_arg4)) slices_S64x256x9_S64x256x1_0_0_1) shapeCasts_S64x256x1_S64x256) (extractStridedSlice S8x256x2048 ![0, 0, 1] (res_main_v49 V0) slices_S8x256x2056_S8x256x2048_0_0_1)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 2] (V0 (Proc.devRef .tc main_arg4)) slices_S64x256x9_S64x256x1_0_0_2) shapeCasts_S64x256x1_S64x256) (extractStridedSlice S8x256x2048 ![0, 0, 2] (res_main_v49 V0) slices_S8x256x2056_S8x256x2048_0_0_2)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 3] (V0 (Proc.devRef .tc main_arg4)) slices_S64x256x9_S64x256x1_0_0_3) shapeCasts_S64x256x1_S64x256) (extractStridedSlice S8x256x2048 ![0, 0, 3] (res_main_v49 V0) slices_S8x256x2056_S8x256x2048_0_0_3)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 4] (V0 (Proc.devRef .tc main_arg4)) slices_S64x256x9_S64x256x1_0_0_4) shapeCasts_S64x256x1_S64x256) (extractStridedSlice S8x256x2048 ![0, 0, 4] (res_main_v49 V0) slices_S8x256x2056_S8x256x2048_0_0_4)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 5] (V0 (Proc.devRef .tc main_arg4)) slices_S64x256x9_S64x256x1_0_0_5) shapeCasts_S64x256x1_S64x256) (extractStridedSlice S8x256x2048 ![0, 0, 5] (res_main_v49 V0) slices_S8x256x2056_S8x256x2048_0_0_5)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 6] (V0 (Proc.devRef .tc main_arg4)) slices_S64x256x9_S64x256x1_0_0_6) shapeCasts_S64x256x1_S64x256) (extractStridedSlice S8x256x2048 ![0, 0, 6] (res_main_v49 V0) slices_S8x256x2056_S8x256x2048_0_0_6)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 7] (V0 (Proc.devRef .tc main_arg4)) slices_S64x256x9_S64x256x1_0_0_7) shapeCasts_S64x256x1_S64x256) (extractStridedSlice S8x256x2048 ![0, 0, 7] (res_main_v49 V0) slices_S8x256x2056_S8x256x2048_0_0_7)) transposes_S64x8x2048_S8x64x2048_1_0_2)) (transpose S8x64x2048 [1, 0, 2] (Host.dotGeneral dot_S64x256_S8x256x2048_S64x8x2048_1_1_0_02_n_n none (shapeCast _ (extractStridedSlice S64x256x1 ![0, 0, 8] (V0 (Proc.devRef .tc main_arg4)) slices_S64x256x9_S64x256x1_0_0_8) shapeCasts_S64x256x1_S64x256) (extractStridedSlice S8x256x2048 ![0, 0, 8] (res_main_v49 V0) slices_S8x256x2056_S8x256x2048_0_0_8)) transposes_S64x8x2048_S8x64x2048_1_0_2)) (broadcastInDim S8x64x2048 ![0, 1, 2] bcast_S1x64x1_S8x64x2048_0_1_2 (broadcastInDim S1x64x1 ![1] bcast_S64_S1x64x1_1 (V0 (Proc.devRef .tc main_arg5))))) transposes_S8x64x2048_S8x2048x64_0_2_1

set_option maxRecDepth 8192 in
/-- `main_v111`'s composed term of the arguments (named: it is used 4 times). -/
def res_main_v111 (V0 : Valuation τ sig (Elt F)) : (Proc.devRef .tc main_v111 : DevRef τ sig).ty.Contents (Elt F) :=
  shapeCast _ (extractStridedSlice S1x1024x64 ![0, 0, 0] (V0 (Proc.devRef .tc main_arg11)) slices_S2x1024x64_S1x1024x64_0_0_0) shapeCasts_S1x1024x64_S1024x64

set_option maxRecDepth 8192 in
/-- `main_v125`'s composed term of the arguments (named: it is used 2 times). -/
def res_main_v125 (V0 : Valuation τ sig (Elt F)) : (Proc.devRef .tc main_v125 : DevRef τ sig).ty.Contents (Elt F) :=
  addf (subf (broadcastInDim S8x2048x1024 ![0, 1, 2] bcast_S8x2048x1_S8x2048x1024_0_1_2 (broadcastInDim S8x2048x1 ![0, 1] bcast_S8x2048_S8x2048x1_0_1 (Host.reduceAdd (mulf (res_main_v108 V0) (res_main_v108 V0)) (constant S_ .f32 0x00000000#32) reducesTo_S8x2048x64_S8x2048_d2 h_S_))) (mulf (broadcastInDim S8x2048x1024 ![] bcast_S_S8x2048x1024 (constant S_ .f32 0x40000000#32)) (Host.dotGeneral dot_S8x2048x64_S64x1024_S8x2048x1024_2_0_01_1_n_n none (res_main_v108 V0) (transpose S64x1024 [1, 0] (res_main_v111 V0) transposes_S1024x64_S64x1024_1_0)))) (broadcastInDim S8x2048x1024 ![0, 1, 2] bcast_S1x1x1024_S8x2048x1024_0_1_2 (broadcastInDim S1x1x1024 ![2] bcast_S1024_S1x1x1024_2 (Host.reduceAdd (mulf (res_main_v111 V0) (res_main_v111 V0)) (constant S_ .f32 0x00000000#32) reducesTo_S1024x64_S1024_d1 h_S_)))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S8x2048x1024 32 2

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0x7F800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v126`'s composed term of the arguments (named: it is used 2 times). -/
def res_main_v126 (V0 : Valuation τ sig (Elt F)) : (Proc.devRef .tc main_v126 : DevRef τ sig).ty.Contents (Elt F) :=
  (fun j => (Host.argReduce reducer_argmin_f32_i32 (res_main_v125 V0) (res_main_call2_v0 V0) (res_main_call2_cst V0) (res_main_call2_c V0) reducesTo_S8x2048x1024_S8x2048_d2 h_S_ j).2)

set_option maxRecDepth 8192 in
/-- `main_v127`'s composed term of the arguments (named: it is used 2 times). -/
def res_main_v127 (V0 : Valuation τ sig (Elt F)) : (Proc.devRef .tc main_v127 : DevRef τ sig).ty.Contents (Elt F) :=
  Host.gather gather_S1024x64_S8x2048x1_S8x2048x64_2_0_n_n_0_2_164 (res_main_v111 V0) (broadcastInDim S8x2048x1 ![0, 1] bcast_S8x2048_S8x2048x1_0_1 (res_main_v126 V0))

set_option maxRecDepth 8192 in
/-- `main_v129`'s composed term of the arguments (named: it is used 2 times). -/
def res_main_v129 (V0 : Valuation τ sig (Elt F)) : (Proc.devRef .tc main_v129 : DevRef τ sig).ty.Contents (Elt F) :=
  addf (res_main_v108 V0) (subf (res_main_v127 V0) (res_main_v108 V0))

set_option maxRecDepth 8192 in
/-- `main_v130`'s composed term of the arguments (named: it is used 2 times). -/
def res_main_v130 (V0 : Valuation τ sig (Elt F)) : (Proc.devRef .tc main_v130 : DevRef τ sig).ty.Contents (Elt F) :=
  subf (res_main_v127 V0) (res_main_v108 V0)

set_option maxRecDepth 8192 in
/-- `main_v135`'s composed term of the arguments (named: it is used 7 times). -/
def res_main_v135 (V0 : Valuation τ sig (Elt F)) : (Proc.devRef .tc main_v135 : DevRef τ sig).ty.Contents (Elt F) :=
  subf (res_main_v108 V0) (res_main_v129 V0)

set_option maxRecDepth 8192 in
/-- `main_v137`'s composed term of the arguments (named: it is used 4 times). -/
def res_main_v137 (V0 : Valuation τ sig (Elt F)) : (Proc.devRef .tc main_v137 : DevRef τ sig).ty.Contents (Elt F) :=
  shapeCast _ (extractStridedSlice S1x1024x64 ![1, 0, 0] (V0 (Proc.devRef .tc main_arg11)) slices_S2x1024x64_S1x1024x64_1_0_0) shapeCasts_S1x1024x64_S1024x64

set_option maxRecDepth 8192 in
/-- `main_v151`'s composed term of the arguments (named: it is used 2 times). -/
def res_main_v151 (V0 : Valuation τ sig (Elt F)) : (Proc.devRef .tc main_v151 : DevRef τ sig).ty.Contents (Elt F) :=
  addf (subf (broadcastInDim S8x2048x1024 ![0, 1, 2] bcast_S8x2048x1_S8x2048x1024_0_1_2 (broadcastInDim S8x2048x1 ![0, 1] bcast_S8x2048_S8x2048x1_0_1 (Host.reduceAdd (mulf (res_main_v135 V0) (res_main_v135 V0)) (constant S_ .f32 0x00000000#32) reducesTo_S8x2048x64_S8x2048_d2 h_S_))) (mulf (broadcastInDim S8x2048x1024 ![] bcast_S_S8x2048x1024 (constant S_ .f32 0x40000000#32)) (Host.dotGeneral dot_S8x2048x64_S64x1024_S8x2048x1024_2_0_01_1_n_n none (res_main_v135 V0) (transpose S64x1024 [1, 0] (res_main_v137 V0) transposes_S1024x64_S64x1024_1_0)))) (broadcastInDim S8x2048x1024 ![0, 1, 2] bcast_S1x1x1024_S8x2048x1024_0_1_2 (broadcastInDim S1x1x1024 ![2] bcast_S1024_S1x1x1024_2 (Host.reduceAdd (mulf (res_main_v137 V0) (res_main_v137 V0)) (constant S_ .f32 0x00000000#32) reducesTo_S1024x64_S1024_d1 h_S_)))

set_option maxRecDepth 8192 in
/-- `main_call4_v0`'s composed term of the arguments (named: it is used 2 times). -/
def res_main_call4_v0 (V0 : Valuation τ sig (Elt F)) : (Proc.devRef .tc main_call4_v0 : DevRef τ sig).ty.Contents (Elt F) :=
  iotaInDim S8x2048x1024 32 2

set_option maxRecDepth 8192 in
/-- `main_call4_cst`'s composed term of the arguments (named: it is used 2 times). -/
def res_main_call4_cst (V0 : Valuation τ sig (Elt F)) : (Proc.devRef .tc main_call4_cst : DevRef τ sig).ty.Contents (Elt F) :=
  constant S_ .f32 0x7F800000#32

set_option maxRecDepth 8192 in
/-- `main_call4_c`'s composed term of the arguments (named: it is used 2 times). -/
def res_main_call4_c (V0 : Valuation τ sig (Elt F)) : (Proc.devRef .tc main_call4_c : DevRef τ sig).ty.Contents (Elt F) :=
  constantI S_ 32 0#32

set_option maxRecDepth 8192 in
/-- `main_v152`'s composed term of the arguments (named: it is used 2 times). -/
def res_main_v152 (V0 : Valuation τ sig (Elt F)) : (Proc.devRef .tc main_v152 : DevRef τ sig).ty.Contents (Elt F) :=
  (fun j => (Host.argReduce reducer_argmin_f32_i32 (res_main_v151 V0) (res_main_call4_v0 V0) (res_main_call4_cst V0) (res_main_call4_c V0) reducesTo_S8x2048x1024_S8x2048_d2 h_S_ j).2)

set_option maxRecDepth 8192 in
/-- `main_v153`'s composed term of the arguments (named: it is used 2 times). -/
def res_main_v153 (V0 : Valuation τ sig (Elt F)) : (Proc.devRef .tc main_v153 : DevRef τ sig).ty.Contents (Elt F) :=
  Host.gather gather_S1024x64_S8x2048x1_S8x2048x64_2_0_n_n_0_2_164 (res_main_v137 V0) (broadcastInDim S8x2048x1 ![0, 1] bcast_S8x2048_S8x2048x1_0_1 (res_main_v152 V0))

set_option maxRecDepth 8192 in
/-- `main_v155`'s composed term of the arguments (named: it is used 2 times). -/
def res_main_v155 (V0 : Valuation τ sig (Elt F)) : (Proc.devRef .tc main_v155 : DevRef τ sig).ty.Contents (Elt F) :=
  addf (res_main_v135 V0) (subf (res_main_v153 V0) (res_main_v135 V0))

set_option maxRecDepth 8192 in
/-- `main_v156`'s composed term of the arguments (named: it is used 2 times). -/
def res_main_v156 (V0 : Valuation τ sig (Elt F)) : (Proc.devRef .tc main_v156 : DevRef τ sig).ty.Contents (Elt F) :=
  subf (res_main_v153 V0) (res_main_v135 V0)

set_option maxRecDepth 8192 in
/-- `main_v160`'s composed term of the arguments (named: it is used 21 times). -/
def res_main_v160 (V0 : Valuation τ sig (Elt F)) : (Proc.devRef .tc main_v160 : DevRef τ sig).ty.Contents (Elt F) :=
  addf (addf (broadcastInDim S8x2048x64 ![] bcast_S_S8x2048x64 (constant S_ .f32 0x00000000#32)) (res_main_v129 V0)) (res_main_v155 V0)

set_option maxRecDepth 8192 in
/-- `main_v171`'s composed term of the arguments (named: it is used 5 times). -/
def res_main_v171 (V0 : Valuation τ sig (Elt F)) : (Proc.devRef .tc main_v171 : DevRef τ sig).ty.Contents (Elt F) :=
  shapeCast _ (extractStridedSlice S8x2048x1 ![0, 0, 0] (concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2) slices_S8x2048x2_S8x2048x1_0_0_0) shapeCasts_S8x2048x1_S8x2048

set_option maxRecDepth 8192 in
/-- `main_v173`'s composed term of the arguments (named: it is used 10 times). -/
def res_main_v173 (V0 : Valuation τ sig (Elt F)) : (Proc.devRef .tc main_v173 : DevRef τ sig).ty.Contents (Elt F) :=
  concatenate S8x2048x128 2 [⟨S8x2048x64, (res_main_v160 V0)⟩, ⟨S8x2048x64, (Host.gather gather_S1024x64_S8x2048x1_S8x2048x64_2_0_n_n_0_2_164 (V0 (Proc.devRef .tc main_arg10)) (broadcastInDim S8x2048x1 ![0, 1] bcast_S8x2048_S8x2048x1_0_1 (res_main_v171 V0)))⟩] concatenates_S8x2048x64_S8x2048x64_S8x2048x128_d2

set_option maxRecDepth 8192 in
/-- `main_v236`'s composed term of the arguments (named: it is long). -/
def res_main_v236 (V0 : Valuation τ sig (Elt F)) : (Proc.devRef .tc main_v236 : DevRef τ sig).ty.Contents (Elt F) :=
  (concatenate S8x2019x16x64 2 [⟨S8x2019x1x64, ((broadcastInDim S8x2019x1x64 ![0, 1, 3] bcast_S8x2019x64_S8x2019x1x64_0_1_3 (extractStridedSlice S8x2019x64 ![0, 10, 0] (res_main_v160 V0) slices_S8x2048x64_S8x2019x64_0_10_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 11, 0] (res_main_v160 V0) slices_S8x2048x64_S8x2019x64_0_11_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 12, 0] (res_main_v160 V0) slices_S8x2048x64_S8x2019x64_0_12_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 13, 0] (res_main_v160 V0) slices_S8x2048x64_S8x2019x64_0_13_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 14, 0] (res_main_v160 V0) slices_S8x2048x64_S8x2019x64_0_14_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 15, 0] (res_main_v160 V0) slices_S8x2048x64_S8x2019x64_0_15_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 16, 0] (res_main_v160 V0) slices_S8x2048x64_S8x2019x64_0_16_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 17, 0] (res_main_v160 V0) slices_S8x2048x64_S8x2019x64_0_17_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 18, 0] (res_main_v160 V0) slices_S8x2048x64_S8x2019x64_0_18_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 19, 0] (res_main_v160 V0) slices_S8x2048x64_S8x2019x64_0_19_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 20, 0] (res_main_v160 V0) slices_S8x2048x64_S8x2019x64_0_20_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 21, 0] (res_main_v160 V0) slices_S8x2048x64_S8x2019x64_0_21_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 22, 0] (res_main_v160 V0) slices_S8x2048x64_S8x2019x64_0_22_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 23, 0] (res_main_v160 V0) slices_S8x2048x64_S8x2019x64_0_23_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 24, 0] (res_main_v160 V0) slices_S8x2048x64_S8x2019x64_0_24_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 25, 0] (res_main_v160 V0) slices_S8x2048x64_S8x2019x64_0_25_0)) : (⟨S8x2019x1x64, .f32⟩ : BufTy).Contents (Elt F))⟩] concatenates_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x1x64_S8x2019x16x64_d2 : (⟨S8x2019x16x64, .f32⟩ : BufTy).Contents (Elt F))

set_option maxRecDepth 8192 in
/-- `main_v238`'s composed term of the arguments (named: it is used 3 times). -/
def res_main_v238 (V0 : Valuation τ sig (Elt F)) : (Proc.devRef .tc main_v238 : DevRef τ sig).ty.Contents (Elt F) :=
  concatenate S8x2019x20x64 2 [⟨S8x2019x16x64, (res_main_v236 V0)⟩, ⟨S8x2019x4x64, ((concatenate S8x2019x4x64 2 [⟨S8x2019x1x64, ((broadcastInDim S8x2019x1x64 ![0, 1, 3] bcast_S8x2019x64_S8x2019x1x64_0_1_3 (extractStridedSlice S8x2019x64 ![0, 26, 0] (res_main_v160 V0) slices_S8x2048x64_S8x2019x64_0_26_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 27, 0] (res_main_v160 V0) slices_S8x2048x64_S8x2019x64_0_27_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 28, 0] (res_main_v160 V0) slices_S8x2048x64_S8x2019x64_0_28_0)) : (⟨S8x2019x1x64, .f32⟩ : BufTy).Contents (Elt F))⟩, ⟨S8x2019x1x64, ((broadcastInDim S8x2019x1x64 ![0, 1, 3] bcast_S8x2019x64_S8x2019x1x64_0_1_3 (extractStridedSlice S8x2019x64 ![0, 29, 0] (res_main_v160 V0) slices_S8x2048x64_S8x2019x64_0_29_0)) : (⟨S8x2019x1x64, .f32⟩ : BufTy).Contents (Elt F))⟩] concatenates_S8x2019x1x64_S8x2019x1x64_S8x2019x1x64_S8x2019x1x64_S8x2019x4x64_d2 : (⟨S8x2019x4x64, .f32⟩ : BufTy).Contents (Elt F)))⟩] concatenates_S8x2019x16x64_S8x2019x4x64_S8x2019x20x64_d2

set_option maxRecDepth 8192 in
/-- `main_v251`'s composed term of the arguments (named: it is used 3 times). -/
def res_main_v251 (V0 : Valuation τ sig (Elt F)) : (Proc.devRef .tc main_v251 : DevRef τ sig).ty.Contents (Elt F) :=
  shapeCast _ (addf (Host.dotGeneral dot_S16152x1280_S1280x1280_S16152x1280_1_0_0_1_n_n none (maximumf (addf (Host.dotGeneral dot_S16152x1280_S1280x1280_S16152x1280_1_0_0_1_n_n none (shapeCast _ ((concatenate S8x2019x10x128 2 [⟨S8x2019x1x128, ((broadcastInDim S8x2019x1x128 ![0, 1, 3] bcast_S8x2019x128_S8x2019x1x128_0_1_3 (extractStridedSlice S8x2019x128 ![0, 0, 0] (res_main_v173 V0) slices_S8x2048x128_S8x2019x128_0_0_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 1, 0] (res_main_v173 V0) slices_S8x2048x128_S8x2019x128_0_1_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 2, 0] (res_main_v173 V0) slices_S8x2048x128_S8x2019x128_0_2_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 3, 0] (res_main_v173 V0) slices_S8x2048x128_S8x2019x128_0_3_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 4, 0] (res_main_v173 V0) slices_S8x2048x128_S8x2019x128_0_4_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 5, 0] (res_main_v173 V0) slices_S8x2048x128_S8x2019x128_0_5_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 6, 0] (res_main_v173 V0) slices_S8x2048x128_S8x2019x128_0_6_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 7, 0] (res_main_v173 V0) slices_S8x2048x128_S8x2019x128_0_7_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 8, 0] (res_main_v173 V0) slices_S8x2048x128_S8x2019x128_0_8_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 9, 0] (res_main_v173 V0) slices_S8x2048x128_S8x2019x128_0_9_0)) : (⟨S8x2019x1x128, .f32⟩ : BufTy).Contents (Elt F))⟩] concatenates_S8x2019x1x128_S8x2019x1x128_S8x2019x1x128_S8x2019x1x128_S8x2019x1x128_S8x2019x1x128_S8x2019x1x128_S8x2019x1x128_S8x2019x1x128_S8x2019x1x128_S8x2019x10x128_d2 : (⟨S8x2019x10x128, .f32⟩ : BufTy).Contents (Elt F))) shapeCasts_S8x2019x10x128_S16152x1280) (transpose S1280x1280 [1, 0] (V0 (Proc.devRef .tc main_arg6)) transposes_S1280x1280_S1280x1280_1_0)) (broadcastInDim S16152x1280 ![0, 1] bcast_S1x1280_S16152x1280_0_1 (broadcastInDim S1x1280 ![1] bcast_S1280_S1x1280_1 (V0 (Proc.devRef .tc main_arg7))))) (broadcastInDim S16152x1280 ![] bcast_S_S16152x1280 (constant S_ .f32 0x00000000#32))) (transpose S1280x1280 [1, 0] (V0 (Proc.devRef .tc main_arg8)) transposes_S1280x1280_S1280x1280_1_0)) (broadcastInDim S16152x1280 ![0, 1] bcast_S1x1280_S16152x1280_0_1 (broadcastInDim S1x1280 ![1] bcast_S1280_S1x1280_1 (V0 (Proc.devRef .tc main_arg9))))) shapeCasts_S16152x1280_S8x2019x20x64

set_option maxRecDepth 8192 in
/-- `main_v271`'s composed term of the arguments (named: it is used 2 times). -/
def res_main_v271 (V0 : Valuation τ sig (Elt F)) : (Proc.devRef .tc main_v271 : DevRef τ sig).ty.Contents (Elt F) :=
  subf (Host.divf (Host.reduceAdd (mulf (res_main_v238 V0) (res_main_v251 V0)) (constant S_ .f32 0x00000000#32) reducesTo_S8x2019x20x64_S8x2019x20_d3 h_S_) (mulf (maximumf (Host.sqrt (Host.reduceAdd (mulf (res_main_v238 V0) (res_main_v238 V0)) (constant S_ .f32 0x00000000#32) reducesTo_S8x2019x20x64_S8x2019x20_d3 h_S_)) (broadcastInDim S8x2019x20 ![] bcast_S_S8x2019x20 (constant S_ .f32 0x322BCC77#32))) (maximumf (Host.sqrt (Host.reduceAdd (mulf (res_main_v251 V0) (res_main_v251 V0)) (constant S_ .f32 0x00000000#32) reducesTo_S8x2019x20x64_S8x2019x20_d3 h_S_)) (broadcastInDim S8x2019x20 ![] bcast_S_S8x2019x20 (constant S_ .f32 0x322BCC77#32))))) (mulf (broadcastInDim S8x2019x20 ![0, 1, 2] bcast_S8x2019x1_S8x2019x20_0_1_2 (broadcastInDim S8x2019x1 ![0, 1] bcast_S8x2019_S8x2019x1_0_1 (uitofp .f32 (cmpi .eq (extractStridedSlice S8x2019 ![0, 10] (res_main_v171 V0) slices_S8x2048_S8x2019_0_10) (extractStridedSlice S8x2019 ![0, 11] (res_main_v171 V0) slices_S8x2048_S8x2019_0_11))))) (broadcastInDim S8x2019x20 ![0, 1, 2] bcast_S1x1x20_S8x2019x20_0_1_2 (broadcastInDim S1x1x20 ![] bcast_S_S1x1x20 (constant S_ .f32 0x3F800000#32))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_c, main_call0_v0, main_v0, main_cst, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v25 (V0 : Valuation τ sig (Elt F)) : val0_1 V0 (no_index (Proc.devRef .tc main_v25)) = addf (addf (addf (addf (broadcastInDim S8x256x2048 ![] bcast_S_S8x256x2048 (constant S_ .f32 0x00000000#32)) (transpose S8x256x2048 [1, 0, 2] (Host.dotGeneral dot_S256x2_S8x2x2048_S256x8x2048_1_1_0_02_n_n none (shapeCast _ (extractStridedSlice S256x2x1 ![0, 0, 0] (V0 (Proc.devRef .tc main_arg2)) slices_S256x2x7_S256x2x1_0_0_0) shapeCasts_S256x2x1_S256x2) (extractStridedSlice S8x2x2048 ![0, 0, 0] (res_main_v0 V0) slices_S8x2x2054_S8x2x2048_0_0_0)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 1] (V0 (Proc.devRef .tc main_arg2)) slices_S256x2x7_S256x2x1_0_0_1) shapeCasts_S256x2x1_S256x2) (extractStridedSlice S8x2x2048 ![0, 0, 1] (res_main_v0 V0) slices_S8x2x2054_S8x2x2048_0_0_1)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 2] (V0 (Proc.devRef .tc main_arg2)) slices_S256x2x7_S256x2x1_0_0_2) shapeCasts_S256x2x1_S256x2) (extractStridedSlice S8x2x2048 ![0, 0, 2] (res_main_v0 V0) slices_S8x2x2054_S8x2x2048_0_0_2)) transposes_S256x8x2048_S8x256x2048_1_0_2)) (transpose S8x256x2048 [1, 0, 2] (Host.dotGeneral dot_S256x2_S8x2x2048_S256x8x2048_1_1_0_02_n_n none (shapeCast _ (extractStridedSlice S256x2x1 ![0, 0, 3] (V0 (Proc.devRef .tc main_arg2)) slices_S256x2x7_S256x2x1_0_0_3) shapeCasts_S256x2x1_S256x2) (extractStridedSlice S8x2x2048 ![0, 0, 3] (res_main_v0 V0) slices_S8x2x2054_S8x2x2048_0_0_3)) transposes_S256x8x2048_S8x256x2048_1_0_2) := by
  unfold val0_1
  simp only [ops_part0_0, TRef.binary, TRef.unary, TRef.toBuf, TRef.ofBuf, cast_eq]
  after_results_simp
  simp only [val0_main_arg0, val0_main_arg2] <;> rfl
set_option maxRecDepth 8192 in
set_option maxHeartbeats 2000000 in
theorem val0_1_main_v26 (V0 : Valuation τ sig (Elt F)) : val0_1 V0 (no_index (Proc.devRef .tc main_v26)) = extractStridedSlice S8x2x2048 ![0, 0, 4] (res_main_v0 V0) slices_S8x2x2054_S8x2x2048_0_0_4 := by
  unfold val0_1
  simp only [ops_part0_0, TRef.binary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v27, main_v28, main_v29, main_v30, main_v31, main_v32, main_v33, main_v34, main_v35, main_v36, main_v37, main_v38, main_v39, main_v40, main_v41, main_v42, main_v43, main_v44, main_v45, main_v46, main_cst_0, main_v47, main_v48, main_c_1, main_call1_v0, main_v49, main_cst_2, main_v50, main_v51, main_v52]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
set_option maxRecDepth 8192 in
set_option maxHeartbeats 2000000 in
theorem val0_2_main_v49 (V0 : Valuation τ sig (Elt F)) : val0_2 V0 (no_index (Proc.devRef .tc main_v49)) = res_main_v49 V0 := by
  unfold val0_2
  simp only [ops_part0_1, TRef.binary, TRef.unary, TRef.toBuf, TRef.ofBuf, cast_eq]
  after_results_simp
  simp only [val0_1_main_arg3, val0_1_main_v0, val0_1_main_arg2, val0_1_main_v26, val0_1_main_v25] <;> rfl
set_option maxRecDepth 8192 in
set_option maxHeartbeats 2000000 in
theorem val0_2_main_v50 (V0 : Valuation τ sig (Elt F)) : val0_2 V0 (no_index (Proc.devRef .tc main_v50)) = broadcastInDim S8x64x2048 ![] bcast_S_S8x64x2048 (constant S_ .f32 0x00000000#32) := by
  unfold val0_2
  simp only [ops_part0_1, TRef.binary, TRef.unary, TRef.toBuf, TRef.ofBuf, cast_eq]
  after_results_simp
  all_goals rfl
set_option maxRecDepth 8192 in
set_option maxHeartbeats 2000000 in
theorem val0_2_main_v51 (V0 : Valuation τ sig (Elt F)) : val0_2 V0 (no_index (Proc.devRef .tc main_v51)) = extractStridedSlice S8x256x2048 ![0, 0, 0] (res_main_v49 V0) slices_S8x256x2056_S8x256x2048_0_0_0 := by
  unfold val0_2
  simp only [ops_part0_1, TRef.binary, TRef.unary, TRef.toBuf, TRef.ofBuf, cast_eq]
  after_results_simp
  simp only [val0_1_main_arg3, val0_1_main_v0, val0_1_main_arg2, val0_1_main_v26, val0_1_main_v25] <;> rfl
set_option maxRecDepth 8192 in
set_option maxHeartbeats 2000000 in
theorem val0_2_main_v52 (V0 : Valuation τ sig (Elt F)) : val0_2 V0 (no_index (Proc.devRef .tc main_v52)) = extractStridedSlice S64x256x1 ![0, 0, 0] (V0 (Proc.devRef .tc main_arg4)) slices_S64x256x9_S64x256x1_0_0_0 := by
  unfold val0_2
  simp only [ops_part0_1, TRef.binary, TRef.unary, TRef.toBuf, TRef.ofBuf, cast_eq]
  after_results_simp
  simp only [val0_1_main_arg4] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v53, main_v54]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  refine ⟨?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_arg10 (V0 : Valuation τ sig (Elt F)) : val1 V0 (no_index (Proc.devRef .tc main_arg10)) = V0 (Proc.devRef .tc main_arg10) :=
  (val1_keep V0 main_arg10 (by decide)).trans (val0_2_main_arg10 V0)
theorem val1_main_arg11 (V0 : Valuation τ sig (Elt F)) : val1 V0 (no_index (Proc.devRef .tc main_arg11)) = V0 (Proc.devRef .tc main_arg11) :=
  (val1_keep V0 main_arg11 (by decide)).trans (val0_2_main_arg11 V0)
theorem val1_main_v49 (V0 : Valuation τ sig (Elt F)) : val1 V0 (no_index (Proc.devRef .tc main_v49)) = res_main_v49 V0 :=
  (val1_keep V0 main_v49 (by decide)).trans (val0_2_main_v49 V0)
theorem val1_main_v50 (V0 : Valuation τ sig (Elt F)) : val1 V0 (no_index (Proc.devRef .tc main_v50)) = broadcastInDim S8x64x2048 ![] bcast_S_S8x64x2048 (constant S_ .f32 0x00000000#32) :=
  (val1_keep V0 main_v50 (by decide)).trans (val0_2_main_v50 V0)
set_option maxRecDepth 8192 in
theorem val1_main_v54 (V0 : Valuation τ sig (Elt F)) : val1 V0 (no_index (Proc.devRef .tc main_v54)) = Host.dotGeneral dot_S64x256_S8x256x2048_S64x8x2048_1_1_0_02_n_n none (shapeCast _ (extractStridedSlice S64x256x1 ![0, 0, 0] (V0 (Proc.devRef .tc main_arg4)) slices_S64x256x9_S64x256x1_0_0_0) shapeCasts_S64x256x1_S64x256) (extractStridedSlice S8x256x2048 ![0, 0, 0] (res_main_v49 V0) slices_S8x256x2056_S8x256x2048_0_0_0) := by
  unfold val1
  simp only [ops_part0_2]
  after_results_simp
  simp only [val0_2_main_v51, val0_2_main_v52] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_cst_3, main_v109, main_v110, main_v111, main_v112, main_cst_4]
set_option maxRecDepth 8192 in
theorem ops_part1_writes : (ops_part1 : List (HloOp τ sig (Elt F))).Forall fun op => op.writes ⊆ (ops_part1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
set_option maxRecDepth 8192 in
set_option maxHeartbeats 2000000 in
theorem val2_main_v108 (V0 : Valuation τ sig (Elt F)) : val2 V0 (no_index (Proc.devRef .tc main_v108)) = res_main_v108 V0 := by
  unfold val2
  simp only [ops_part1]
  after_results_simp
  simp only [val1_main_arg5, val1_main_v49, val1_main_arg4, val1_main_v54, val1_main_v50] <;> rfl
set_option maxRecDepth 8192 in
set_option maxHeartbeats 2000000 in
theorem val2_main_v109 (V0 : Valuation τ sig (Elt F)) : val2 V0 (no_index (Proc.devRef .tc main_v109)) = broadcastInDim S8x2048x64 ![] bcast_S_S8x2048x64 (constant S_ .f32 0x00000000#32) := by
  unfold val2
  simp only [ops_part1]
  after_results_simp
  all_goals rfl
set_option maxRecDepth 8192 in
set_option maxHeartbeats 2000000 in
theorem val2_main_v111 (V0 : Valuation τ sig (Elt F)) : val2 V0 (no_index (Proc.devRef .tc main_v111)) = res_main_v111 V0 := by
  unfold val2
  simp only [ops_part1]
  after_results_simp
  simp only [val1_main_arg11] <;> rfl
set_option maxRecDepth 8192 in
set_option maxHeartbeats 2000000 in
theorem val2_main_v112 (V0 : Valuation τ sig (Elt F)) : val2 V0 (no_index (Proc.devRef .tc main_v112)) = mulf (res_main_v108 V0) (res_main_v108 V0) := by
  unfold val2
  simp only [ops_part1]
  after_results_simp
  simp only [val1_main_arg5, val1_main_v49, val1_main_arg4, val1_main_v54, val1_main_v50] <;> rfl
set_option maxRecDepth 8192 in
set_option maxHeartbeats 2000000 in
theorem val2_main_cst_4 (V0 : Valuation τ sig (Elt F)) : val2 V0 (no_index (Proc.devRef .tc main_cst_4)) = constant S_ .f32 0x00000000#32 := by
  unfold val2
  simp only [ops_part1]
  after_results_simp
  all_goals rfl

/-- The device's buffer contents after @main's first 152 operations. -/
def val2_1 (V0 : Valuation τ sig (Elt F)) : Valuation τ sig (Elt F) := after ops_part2_0 (val2 V0)
/-- The buffers that window `ops_part2_0`'s operations write. -/
abbrev ops_part2_0_W : List (Ref sig .tc) := [main_v113, main_v114, main_v115, main_v116, main_cst_5, main_v117, main_v118, main_v119, main_v120, main_v121, main_cst_6, main_v122, main_v123, main_v124, main_v125, main_call2_v0, main_call2_cst, main_call2_c, main_call2_v1_0, main_v126, main_call3_v0, main_v127, main_v128, main_v129, main_v130, main_v131, main_cst_7, main_v132, main_cst_8, main_v133]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
theorem val2_1_main_arg8 (V0 : Valuation τ sig (Elt F)) : val2_1 V0 (no_index (Proc.devRef .tc main_arg8)) = V0 (Proc.devRef .tc main_arg8) :=
  (val2_1_keep V0 main_arg8 (by decide)).trans (val2_main_arg8 V0)
theorem val2_1_main_arg9 (V0 : Valuation τ sig (Elt F)) : val2_1 V0 (no_index (Proc.devRef .tc main_arg9)) = V0 (Proc.devRef .tc main_arg9) :=
  (val2_1_keep V0 main_arg9 (by decide)).trans (val2_main_arg9 V0)
theorem val2_1_main_arg10 (V0 : Valuation τ sig (Elt F)) : val2_1 V0 (no_index (Proc.devRef .tc main_arg10)) = V0 (Proc.devRef .tc main_arg10) :=
  (val2_1_keep V0 main_arg10 (by decide)).trans (val2_main_arg10 V0)
theorem val2_1_main_arg11 (V0 : Valuation τ sig (Elt F)) : val2_1 V0 (no_index (Proc.devRef .tc main_arg11)) = V0 (Proc.devRef .tc main_arg11) :=
  (val2_1_keep V0 main_arg11 (by decide)).trans (val2_main_arg11 V0)
theorem val2_1_main_v108 (V0 : Valuation τ sig (Elt F)) : val2_1 V0 (no_index (Proc.devRef .tc main_v108)) = res_main_v108 V0 :=
  (val2_1_keep V0 main_v108 (by decide)).trans (val2_main_v108 V0)
theorem val2_1_main_v109 (V0 : Valuation τ sig (Elt F)) : val2_1 V0 (no_index (Proc.devRef .tc main_v109)) = broadcastInDim S8x2048x64 ![] bcast_S_S8x2048x64 (constant S_ .f32 0x00000000#32) :=
  (val2_1_keep V0 main_v109 (by decide)).trans (val2_main_v109 V0)
set_option maxRecDepth 8192 in
set_option maxHeartbeats 2000000 in
theorem val2_1_main_v126 (V0 : Valuation τ sig (Elt F)) : val2_1 V0 (no_index (Proc.devRef .tc main_v126)) = res_main_v126 V0 := by
  unfold val2_1
  simp only [ops_part2_0, TRef.binary, TRef.nullary, TRef.quaternary, TRef.unary, TRef.toBuf, TRef.ofBuf, cast_eq]
  after_results_simp
  simp only [val2_main_v111, val2_main_v108, val2_main_cst_4, val2_main_v112] <;> rfl
set_option maxRecDepth 8192 in
set_option maxHeartbeats 2000000 in
theorem val2_1_main_v129 (V0 : Valuation τ sig (Elt F)) : val2_1 V0 (no_index (Proc.devRef .tc main_v129)) = res_main_v129 V0 := by
  unfold val2_1
  simp only [ops_part2_0, TRef.binary, TRef.nullary, TRef.quaternary, TRef.unary, TRef.toBuf, TRef.ofBuf, cast_eq]
  after_results_simp
  simp only [val2_main_cst_4, val2_main_v112, val2_main_v111, val2_main_v108] <;> rfl
set_option maxRecDepth 8192 in
set_option maxHeartbeats 2000000 in
theorem val2_1_main_v133 (V0 : Valuation τ sig (Elt F)) : val2_1 V0 (no_index (Proc.devRef .tc main_v133)) = Host.divf (Host.reduceAdd (mulf (res_main_v130 V0) (res_main_v130 V0)) (constant S_ .f32 0x00000000#32) reducesTo_S8x2048x64_S_d0_1_2 h_S_) (constant S_ .f32 0x49800000#32) := by
  unfold val2_1
  simp only [ops_part2_0, TRef.binary, TRef.nullary, TRef.quaternary, TRef.unary, TRef.toBuf, TRef.ofBuf, cast_eq]
  after_results_simp
  simp only [val2_main_v108, val2_main_cst_4, val2_main_v112, val2_main_v111] <;> rfl

/-- The device's buffer contents after @main's first 182 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v134, main_v135, main_v136, main_v137, main_v138, main_cst_9, main_v139, main_v140, main_v141, main_v142, main_cst_10, main_v143, main_v144, main_v145, main_v146, main_v147, main_cst_11, main_v148, main_v149, main_v150, main_v151, main_call4_v0, main_call4_cst, main_call4_c, main_call4_v1_0, main_v152, main_call5_v0, main_v153, main_v154, main_v155]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
theorem val2_2_main_arg8 (V0 : Valuation τ sig (Elt F)) : val2_2 V0 (no_index (Proc.devRef .tc main_arg8)) = V0 (Proc.devRef .tc main_arg8) :=
  (val2_2_keep V0 main_arg8 (by decide)).trans (val2_1_main_arg8 V0)
theorem val2_2_main_arg9 (V0 : Valuation τ sig (Elt F)) : val2_2 V0 (no_index (Proc.devRef .tc main_arg9)) = V0 (Proc.devRef .tc main_arg9) :=
  (val2_2_keep V0 main_arg9 (by decide)).trans (val2_1_main_arg9 V0)
theorem val2_2_main_arg10 (V0 : Valuation τ sig (Elt F)) : val2_2 V0 (no_index (Proc.devRef .tc main_arg10)) = V0 (Proc.devRef .tc main_arg10) :=
  (val2_2_keep V0 main_arg10 (by decide)).trans (val2_1_main_arg10 V0)
theorem val2_2_main_arg11 (V0 : Valuation τ sig (Elt F)) : val2_2 V0 (no_index (Proc.devRef .tc main_arg11)) = V0 (Proc.devRef .tc main_arg11) :=
  (val2_2_keep V0 main_arg11 (by decide)).trans (val2_1_main_arg11 V0)
theorem val2_2_main_v126 (V0 : Valuation τ sig (Elt F)) : val2_2 V0 (no_index (Proc.devRef .tc main_v126)) = res_main_v126 V0 :=
  (val2_2_keep V0 main_v126 (by decide)).trans (val2_1_main_v126 V0)
theorem val2_2_main_v133 (V0 : Valuation τ sig (Elt F)) : val2_2 V0 (no_index (Proc.devRef .tc main_v133)) = Host.divf (Host.reduceAdd (mulf (res_main_v130 V0) (res_main_v130 V0)) (constant S_ .f32 0x00000000#32) reducesTo_S8x2048x64_S_d0_1_2 h_S_) (constant S_ .f32 0x49800000#32) :=
  (val2_2_keep V0 main_v133 (by decide)).trans (val2_1_main_v133 V0)
set_option maxRecDepth 8192 in
set_option maxHeartbeats 2000000 in
theorem val2_2_main_v134 (V0 : Valuation τ sig (Elt F)) : val2_2 V0 (no_index (Proc.devRef .tc main_v134)) = addf (broadcastInDim S8x2048x64 ![] bcast_S_S8x2048x64 (constant S_ .f32 0x00000000#32)) (res_main_v129 V0) := by
  unfold val2_2
  simp only [ops_part2_1, TRef.binary, TRef.nullary, TRef.quaternary, TRef.unary, TRef.toBuf, TRef.ofBuf, cast_eq]
  after_results_simp
  simp only [val2_1_main_v129, val2_1_main_v109] <;> rfl
set_option maxRecDepth 8192 in
set_option maxHeartbeats 2000000 in
theorem val2_2_main_v135 (V0 : Valuation τ sig (Elt F)) : val2_2 V0 (no_index (Proc.devRef .tc main_v135)) = res_main_v135 V0 := by
  unfold val2_2
  simp only [ops_part2_1, TRef.binary, TRef.nullary, TRef.quaternary, TRef.unary, TRef.toBuf, TRef.ofBuf, cast_eq]
  after_results_simp
  simp only [val2_1_main_v129, val2_1_main_v108] <;> rfl
set_option maxRecDepth 8192 in
set_option maxHeartbeats 2000000 in
theorem val2_2_main_v152 (V0 : Valuation τ sig (Elt F)) : val2_2 V0 (no_index (Proc.devRef .tc main_v152)) = res_main_v152 V0 := by
  unfold val2_2
  simp only [ops_part2_1, TRef.binary, TRef.nullary, TRef.quaternary, TRef.unary, TRef.toBuf, TRef.ofBuf, cast_eq]
  after_results_simp
  simp only [val2_1_main_arg11, val2_1_main_v129, val2_1_main_v108] <;> rfl
set_option maxRecDepth 8192 in
set_option maxHeartbeats 2000000 in
theorem val2_2_main_v153 (V0 : Valuation τ sig (Elt F)) : val2_2 V0 (no_index (Proc.devRef .tc main_v153)) = res_main_v153 V0 := by
  unfold val2_2
  simp only [ops_part2_1, TRef.binary, TRef.nullary, TRef.quaternary, TRef.unary, TRef.toBuf, TRef.ofBuf, cast_eq]
  after_results_simp
  simp only [val2_1_main_v129, val2_1_main_v108, val2_1_main_arg11] <;> rfl
set_option maxRecDepth 8192 in
set_option maxHeartbeats 2000000 in
theorem val2_2_main_v155 (V0 : Valuation τ sig (Elt F)) : val2_2 V0 (no_index (Proc.devRef .tc main_v155)) = res_main_v155 V0 := by
  unfold val2_2
  simp only [ops_part2_1, TRef.binary, TRef.nullary, TRef.quaternary, TRef.unary, TRef.toBuf, TRef.ofBuf, cast_eq]
  after_results_simp
  simp only [val2_1_main_arg11, val2_1_main_v129, val2_1_main_v108] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v156, main_v157, main_cst_12, main_v158, main_cst_13, main_v159, main_v160, main_v161, main_v162, main_v163]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  refine ⟨?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_2_main_arg11 V0)
theorem val3_main_v133 (V0 : Valuation τ sig (Elt F)) : val3 V0 (no_index (Proc.devRef .tc main_v133)) = Host.divf (Host.reduceAdd (mulf (res_main_v130 V0) (res_main_v130 V0)) (constant S_ .f32 0x00000000#32) reducesTo_S8x2048x64_S_d0_1_2 h_S_) (constant S_ .f32 0x49800000#32) :=
  (val3_keep V0 main_v133 (by decide)).trans (val2_2_main_v133 V0)
set_option maxRecDepth 8192 in
set_option maxHeartbeats 1000000 in
theorem val3_main_v159 (V0 : Valuation τ sig (Elt F)) : val3 V0 (no_index (Proc.devRef .tc main_v159)) = Host.divf (Host.reduceAdd (mulf (res_main_v156 V0) (res_main_v156 V0)) (constant S_ .f32 0x00000000#32) reducesTo_S8x2048x64_S_d0_1_2 h_S_) (constant S_ .f32 0x49800000#32) := by
  unfold val3
  simp only [ops_part2_2]
  after_results_simp
  simp only [val2_2_main_v135, val2_2_main_v153] <;> rfl
set_option maxRecDepth 8192 in
set_option maxHeartbeats 1000000 in
theorem val3_main_v160 (V0 : Valuation τ sig (Elt F)) : val3 V0 (no_index (Proc.devRef .tc main_v160)) = res_main_v160 V0 := by
  unfold val3
  simp only [ops_part2_2]
  after_results_simp
  simp only [val2_2_main_v155, val2_2_main_v134] <;> rfl
set_option maxRecDepth 8192 in
set_option maxHeartbeats 1000000 in
theorem val3_main_v162 (V0 : Valuation τ sig (Elt F)) : val3 V0 (no_index (Proc.devRef .tc main_v162)) = broadcastInDim S8x2048x1 ![0, 1] bcast_S8x2048_S8x2048x1_0_1 (res_main_v126 V0) := by
  unfold val3
  simp only [ops_part2_2]
  after_results_simp
  simp only [val2_2_main_v126] <;> rfl
set_option maxRecDepth 8192 in
set_option maxHeartbeats 1000000 in
theorem val3_main_v163 (V0 : Valuation τ sig (Elt F)) : val3 V0 (no_index (Proc.devRef .tc main_v163)) = broadcastInDim S8x2048x1 ![0, 1] bcast_S8x2048_S8x2048x1_0_1 (res_main_v152 V0) := by
  unfold val3
  simp only [ops_part2_2]
  after_results_simp
  simp only [val2_2_main_v152] <;> rfl

end Cert.ReferenceIdeal.Ref

end
-- ==== Proof.RefRun.lean ====
/- The reference after all of its operations, and its run: every result as a term of the arguments. -/
module

public import proofs.«01_k».proof.Proof.RefFirst

@[expose] public section

set_option Elab.async false

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 222 operations. -/
def val3_1 (V0 : Valuation τ sig (Elt F)) : Valuation τ sig (Elt F) := after ops_part3_0 (val3 V0)
/-- The buffers that window `ops_part3_0`'s operations write. -/
abbrev ops_part3_0_W : List (Ref sig .tc) := [main_v164, main_v165, main_v166, main_v167, main_cst_14, main_v168, main_cst_15, main_v169, main_v170, main_v171, main_call6_v0, main_v172, main_v173, main_v174, main_v175, main_v176, main_v177, main_v178, main_v179, main_v180, main_v181, main_v182, main_v183, main_v184, main_v185, main_v186, main_v187, main_v188, main_v189, main_v190]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_arg4 (V0 : Valuation τ sig (Elt F)) : val3_1 V0 (no_index (Proc.devRef .tc main_arg4)) = V0 (Proc.devRef .tc main_arg4) :=
  (val3_1_keep V0 main_arg4 (by decide)).trans (val3_main_arg4 V0)
theorem val3_1_main_arg5 (V0 : Valuation τ sig (Elt F)) : val3_1 V0 (no_index (Proc.devRef .tc main_arg5)) = V0 (Proc.devRef .tc main_arg5) :=
  (val3_1_keep V0 main_arg5 (by decide)).trans (val3_main_arg5 V0)
theorem val3_1_main_arg6 (V0 : Valuation τ sig (Elt F)) : val3_1 V0 (no_index (Proc.devRef .tc main_arg6)) = V0 (Proc.devRef .tc main_arg6) :=
  (val3_1_keep V0 main_arg6 (by decide)).trans (val3_main_arg6 V0)
theorem val3_1_main_arg7 (V0 : Valuation τ sig (Elt F)) : val3_1 V0 (no_index (Proc.devRef .tc main_arg7)) = V0 (Proc.devRef .tc main_arg7) :=
  (val3_1_keep V0 main_arg7 (by decide)).trans (val3_main_arg7 V0)
theorem val3_1_main_arg8 (V0 : Valuation τ sig (Elt F)) : val3_1 V0 (no_index (Proc.devRef .tc main_arg8)) = V0 (Proc.devRef .tc main_arg8) :=
  (val3_1_keep V0 main_arg8 (by decide)).trans (val3_main_arg8 V0)
theorem val3_1_main_arg9 (V0 : Valuation τ sig (Elt F)) : val3_1 V0 (no_index (Proc.devRef .tc main_arg9)) = V0 (Proc.devRef .tc main_arg9) :=
  (val3_1_keep V0 main_arg9 (by decide)).trans (val3_main_arg9 V0)
theorem val3_1_main_arg10 (V0 : Valuation τ sig (Elt F)) : val3_1 V0 (no_index (Proc.devRef .tc main_arg10)) = V0 (Proc.devRef .tc main_arg10) :=
  (val3_1_keep V0 main_arg10 (by decide)).trans (val3_main_arg10 V0)
theorem val3_1_main_arg11 (V0 : Valuation τ sig (Elt F)) : val3_1 V0 (no_index (Proc.devRef .tc main_arg11)) = V0 (Proc.devRef .tc main_arg11) :=
  (val3_1_keep V0 main_arg11 (by decide)).trans (val3_main_arg11 V0)
theorem val3_1_main_v160 (V0 : Valuation τ sig (Elt F)) : val3_1 V0 (no_index (Proc.devRef .tc main_v160)) = res_main_v160 V0 :=
  (val3_1_keep V0 main_v160 (by decide)).trans (val3_main_v160 V0)
set_option maxRecDepth 8192 in
set_option maxHeartbeats 2000000 in
theorem val3_1_main_v164 (V0 : Valuation τ sig (Elt F)) : val3_1 V0 (no_index (Proc.devRef .tc main_v164)) = concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2 := by
  unfold val3_1
  simp only [ops_part3_0, TRef.binary, TRef.unary, TRef.toBuf, TRef.ofBuf, cast_eq]
  after_results_simp
  simp only [val3_main_v163, val3_main_v162] <;> rfl
set_option maxRecDepth 8192 in
set_option maxHeartbeats 2000000 in
theorem val3_1_main_v169 (V0 : Valuation τ sig (Elt F)) : val3_1 V0 (no_index (Proc.devRef .tc main_v169)) = Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32) := by
  unfold val3_1
  simp only [ops_part3_0, TRef.binary, TRef.unary, TRef.toBuf, TRef.ofBuf, cast_eq]
  after_results_simp
  simp only [val3_main_v159, val3_main_v133] <;> rfl
set_option maxRecDepth 8192 in
set_option maxHeartbeats 2000000 in
theorem val3_1_main_v171 (V0 : Valuation τ sig (Elt F)) : val3_1 V0 (no_index (Proc.devRef .tc main_v171)) = res_main_v171 V0 := by
  unfold val3_1
  simp only [ops_part3_0, TRef.binary, TRef.unary, TRef.toBuf, TRef.ofBuf, cast_eq]
  after_results_simp
  simp only [val3_main_v163, val3_main_v162] <;> rfl
set_option maxRecDepth 8192 in
set_option maxHeartbeats 2000000 in
theorem val3_1_main_v181 (V0 : Valuation τ sig (Elt F)) : val3_1 V0 (no_index (Proc.devRef .tc main_v181)) = extractStridedSlice S8x2019x128 ![0, 7, 0] (res_main_v173 V0) slices_S8x2048x128_S8x2019x128_0_7_0 := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v182 (V0 : Valuation τ sig (Elt F)) : val3_1 V0 (no_index (Proc.devRef .tc main_v182)) = extractStridedSlice S8x2019x128 ![0, 8, 0] (res_main_v173 V0) slices_S8x2048x128_S8x2019x128_0_8_0 := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v183 (V0 : Valuation τ sig (Elt F)) : val3_1 V0 (no_index (Proc.devRef .tc main_v183)) = extractStridedSlice S8x2019x128 ![0, 9, 0] (res_main_v173 V0) slices_S8x2048x128_S8x2019x128_0_9_0 := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v184 (V0 : Valuation τ sig (Elt F)) : val3_1 V0 (no_index (Proc.devRef .tc main_v184)) = broadcastInDim S8x2019x1x128 ![0, 1, 3] bcast_S8x2019x128_S8x2019x1x128_0_1_3 (extractStridedSlice S8x2019x128 ![0, 0, 0] (res_main_v173 V0) slices_S8x2048x128_S8x2019x128_0_0_0) := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v185 (V0 : Valuation τ sig (Elt F)) : val3_1 V0 (no_index (Proc.devRef .tc main_v185)) = broadcastInDim S8x2019x1x128 ![0, 1, 3] bcast_S8x2019x128_S8x2019x1x128_0_1_3 (extractStridedSlice S8x2019x128 ![0, 1, 0] (res_main_v173 V0) slices_S8x2048x128_S8x2019x128_0_1_0) := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v186 (V0 : Valuation τ sig (Elt F)) : val3_1 V0 (no_index (Proc.devRef .tc main_v186)) = broadcastInDim S8x2019x1x128 ![0, 1, 3] bcast_S8x2019x128_S8x2019x1x128_0_1_3 (extractStridedSlice S8x2019x128 ![0, 2, 0] (res_main_v173 V0) slices_S8x2048x128_S8x2019x128_0_2_0) := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v187 (V0 : Valuation τ sig (Elt F)) : val3_1 V0 (no_index (Proc.devRef .tc main_v187)) = broadcastInDim S8x2019x1x128 ![0, 1, 3] bcast_S8x2019x128_S8x2019x1x128_0_1_3 (extractStridedSlice S8x2019x128 ![0, 3, 0] (res_main_v173 V0) slices_S8x2048x128_S8x2019x128_0_3_0) := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v188 (V0 : Valuation τ sig (Elt F)) : val3_1 V0 (no_index (Proc.devRef .tc main_v188)) = broadcastInDim S8x2019x1x128 ![0, 1, 3] bcast_S8x2019x128_S8x2019x1x128_0_1_3 (extractStridedSlice S8x2019x128 ![0, 4, 0] (res_main_v173 V0) slices_S8x2048x128_S8x2019x128_0_4_0) := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v189 (V0 : Valuation τ sig (Elt F)) : val3_1 V0 (no_index (Proc.devRef .tc main_v189)) = broadcastInDim S8x2019x1x128 ![0, 1, 3] bcast_S8x2019x128_S8x2019x1x128_0_1_3 (extractStridedSlice S8x2019x128 ![0, 5, 0] (res_main_v173 V0) slices_S8x2048x128_S8x2019x128_0_5_0) := by
  unfold val3_1
  simp only [ops_part3_0, TRef.binary, TRef.unary, TRef.toBuf, TRef.ofBuf, cast_eq]
  after_results_simp
  simp only [val3_main_v163, val3_main_v162, val3_main_arg10, val3_main_v160] <;> rfl
set_option maxRecDepth 8192 in
set_option maxHeartbeats 2000000 in
theorem val3_1_main_v190 (V0 : Valuation τ sig (Elt F)) : val3_1 V0 (no_index (Proc.devRef .tc main_v190)) = broadcastInDim S8x2019x1x128 ![0, 1, 3] bcast_S8x2019x128_S8x2019x1x128_0_1_3 (extractStridedSlice S8x2019x128 ![0, 6, 0] (res_main_v173 V0) slices_S8x2048x128_S8x2019x128_0_6_0) := by
  unfold val3_1
  simp only [ops_part3_0, TRef.binary, TRef.unary, TRef.toBuf, TRef.ofBuf, cast_eq]
  after_results_simp
  simp only [val3_main_v163, val3_main_v162, val3_main_arg10, val3_main_v160] <;> rfl

/-- The device's buffer contents after @main's first 252 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_arg4 (V0 : Valuation τ sig (Elt F)) : val3_2 V0 (no_index (Proc.devRef .tc main_arg4)) = V0 (Proc.devRef .tc main_arg4) :=
  (val3_2_keep V0 main_arg4 (by decide)).trans (val3_1_main_arg4 V0)
theorem val3_2_main_arg5 (V0 : Valuation τ sig (Elt F)) : val3_2 V0 (no_index (Proc.devRef .tc main_arg5)) = V0 (Proc.devRef .tc main_arg5) :=
  (val3_2_keep V0 main_arg5 (by decide)).trans (val3_1_main_arg5 V0)
theorem val3_2_main_arg6 (V0 : Valuation τ sig (Elt F)) : val3_2 V0 (no_index (Proc.devRef .tc main_arg6)) = V0 (Proc.devRef .tc main_arg6) :=
  (val3_2_keep V0 main_arg6 (by decide)).trans (val3_1_main_arg6 V0)
theorem val3_2_main_arg7 (V0 : Valuation τ sig (Elt F)) : val3_2 V0 (no_index (Proc.devRef .tc main_arg7)) = V0 (Proc.devRef .tc main_arg7) :=
  (val3_2_keep V0 main_arg7 (by decide)).trans (val3_1_main_arg7 V0)
theorem val3_2_main_arg8 (V0 : Valuation τ sig (Elt F)) : val3_2 V0 (no_index (Proc.devRef .tc main_arg8)) = V0 (Proc.devRef .tc main_arg8) :=
  (val3_2_keep V0 main_arg8 (by decide)).trans (val3_1_main_arg8 V0)
theorem val3_2_main_arg9 (V0 : Valuation τ sig (Elt F)) : val3_2 V0 (no_index (Proc.devRef .tc main_arg9)) = V0 (Proc.devRef .tc main_arg9) :=
  (val3_2_keep V0 main_arg9 (by decide)).trans (val3_1_main_arg9 V0)
theorem val3_2_main_arg10 (V0 : Valuation τ sig (Elt F)) : val3_2 V0 (no_index (Proc.devRef .tc main_arg10)) = V0 (Proc.devRef .tc main_arg10) :=
  (val3_2_keep V0 main_arg10 (by decide)).trans (val3_1_main_arg10 V0)
theorem val3_2_main_arg11 (V0 : Valuation τ sig (Elt F)) : val3_2 V0 (no_index (Proc.devRef .tc main_arg11)) = V0 (Proc.devRef .tc main_arg11) :=
  (val3_2_keep V0 main_arg11 (by decide)).trans (val3_1_main_arg11 V0)
theorem val3_2_main_v164 (V0 : Valuation τ sig (Elt F)) : val3_2 V0 (no_index (Proc.devRef .tc main_v164)) = concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2 :=
  (val3_2_keep V0 main_v164 (by decide)).trans (val3_1_main_v164 V0)
theorem val3_2_main_v169 (V0 : Valuation τ sig (Elt F)) : val3_2 V0 (no_index (Proc.devRef .tc main_v169)) = Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32) :=
  (val3_2_keep V0 main_v169 (by decide)).trans (val3_1_main_v169 V0)
theorem val3_2_main_v171 (V0 : Valuation τ sig (Elt F)) : val3_2 V0 (no_index (Proc.devRef .tc main_v171)) = res_main_v171 V0 :=
  (val3_2_keep V0 main_v171 (by decide)).trans (val3_1_main_v171 V0)
set_option maxRecDepth 8192 in
set_option maxHeartbeats 2000000 in
theorem val3_2_main_v195 (V0 : Valuation τ sig (Elt F)) : val3_2 V0 (no_index (Proc.devRef .tc main_v195)) = shapeCast _ ((concatenate S8x2019x10x128 2 [⟨S8x2019x1x128, ((broadcastInDim S8x2019x1x128 ![0, 1, 3] bcast_S8x2019x128_S8x2019x1x128_0_1_3 (extractStridedSlice S8x2019x128 ![0, 0, 0] (res_main_v173 V0) slices_S8x2048x128_S8x2019x128_0_0_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 1, 0] (res_main_v173 V0) slices_S8x2048x128_S8x2019x128_0_1_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 2, 0] (res_main_v173 V0) slices_S8x2048x128_S8x2019x128_0_2_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 3, 0] (res_main_v173 V0) slices_S8x2048x128_S8x2019x128_0_3_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 4, 0] (res_main_v173 V0) slices_S8x2048x128_S8x2019x128_0_4_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 5, 0] (res_main_v173 V0) slices_S8x2048x128_S8x2019x128_0_5_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 6, 0] (res_main_v173 V0) slices_S8x2048x128_S8x2019x128_0_6_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 7, 0] (res_main_v173 V0) slices_S8x2048x128_S8x2019x128_0_7_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 8, 0] (res_main_v173 V0) slices_S8x2048x128_S8x2019x128_0_8_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 9, 0] (res_main_v173 V0) slices_S8x2048x128_S8x2019x128_0_9_0)) : (⟨S8x2019x1x128, .f32⟩ : BufTy).Contents (Elt F))⟩] concatenates_S8x2019x1x128_S8x2019x1x128_S8x2019x1x128_S8x2019x1x128_S8x2019x1x128_S8x2019x1x128_S8x2019x1x128_S8x2019x1x128_S8x2019x1x128_S8x2019x1x128_S8x2019x10x128_d2 : (⟨S8x2019x10x128, .f32⟩ : BufTy).Contents (Elt F))) shapeCasts_S8x2019x10x128_S16152x1280 := by
  unfold val3_2
  simp only [ops_part3_1]
  after_results_simp
  try dsimp only [Matrix.cons_val]
  try after_results_simp
  simp only [val3_1_main_v183, val3_1_main_v182, val3_1_main_v181, val3_1_main_v190, val3_1_main_v189, val3_1_main_v188, val3_1_main_v187, val3_1_main_v186, val3_1_main_v185, val3_1_main_v184] <;> rfl
set_option maxRecDepth 8192 in
set_option maxHeartbeats 2000000 in
theorem val3_2_main_v201 (V0 : Valuation τ sig (Elt F)) : val3_2 V0 (no_index (Proc.devRef .tc main_v201)) = extractStridedSlice S8x2019x64 ![0, 15, 0] (res_main_v160 V0) slices_S8x2048x64_S8x2019x64_0_15_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v202 (V0 : Valuation τ sig (Elt F)) : val3_2 V0 (no_index (Proc.devRef .tc main_v202)) = extractStridedSlice S8x2019x64 ![0, 16, 0] (res_main_v160 V0) slices_S8x2048x64_S8x2019x64_0_16_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v203 (V0 : Valuation τ sig (Elt F)) : val3_2 V0 (no_index (Proc.devRef .tc main_v203)) = extractStridedSlice S8x2019x64 ![0, 17, 0] (res_main_v160 V0) slices_S8x2048x64_S8x2019x64_0_17_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v204 (V0 : Valuation τ sig (Elt F)) : val3_2 V0 (no_index (Proc.devRef .tc main_v204)) = extractStridedSlice S8x2019x64 ![0, 18, 0] (res_main_v160 V0) slices_S8x2048x64_S8x2019x64_0_18_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v205 (V0 : Valuation τ sig (Elt F)) : val3_2 V0 (no_index (Proc.devRef .tc main_v205)) = extractStridedSlice S8x2019x64 ![0, 19, 0] (res_main_v160 V0) slices_S8x2048x64_S8x2019x64_0_19_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v206 (V0 : Valuation τ sig (Elt F)) : val3_2 V0 (no_index (Proc.devRef .tc main_v206)) = extractStridedSlice S8x2019x64 ![0, 20, 0] (res_main_v160 V0) slices_S8x2048x64_S8x2019x64_0_20_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v207 (V0 : Valuation τ sig (Elt F)) : val3_2 V0 (no_index (Proc.devRef .tc main_v207)) = extractStridedSlice S8x2019x64 ![0, 21, 0] (res_main_v160 V0) slices_S8x2048x64_S8x2019x64_0_21_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v208 (V0 : Valuation τ sig (Elt F)) : val3_2 V0 (no_index (Proc.devRef .tc main_v208)) = extractStridedSlice S8x2019x64 ![0, 22, 0] (res_main_v160 V0) slices_S8x2048x64_S8x2019x64_0_22_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v209 (V0 : Valuation τ sig (Elt F)) : val3_2 V0 (no_index (Proc.devRef .tc main_v209)) = extractStridedSlice S8x2019x64 ![0, 23, 0] (res_main_v160 V0) slices_S8x2048x64_S8x2019x64_0_23_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v210 (V0 : Valuation τ sig (Elt F)) : val3_2 V0 (no_index (Proc.devRef .tc main_v210)) = extractStridedSlice S8x2019x64 ![0, 24, 0] (res_main_v160 V0) slices_S8x2048x64_S8x2019x64_0_24_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v211 (V0 : Valuation τ sig (Elt F)) : val3_2 V0 (no_index (Proc.devRef .tc main_v211)) = extractStridedSlice S8x2019x64 ![0, 25, 0] (res_main_v160 V0) slices_S8x2048x64_S8x2019x64_0_25_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v212 (V0 : Valuation τ sig (Elt F)) : val3_2 V0 (no_index (Proc.devRef .tc main_v212)) = extractStridedSlice S8x2019x64 ![0, 26, 0] (res_main_v160 V0) slices_S8x2048x64_S8x2019x64_0_26_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v213 (V0 : Valuation τ sig (Elt F)) : val3_2 V0 (no_index (Proc.devRef .tc main_v213)) = extractStridedSlice S8x2019x64 ![0, 27, 0] (res_main_v160 V0) slices_S8x2048x64_S8x2019x64_0_27_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v214 (V0 : Valuation τ sig (Elt F)) : val3_2 V0 (no_index (Proc.devRef .tc main_v214)) = extractStridedSlice S8x2019x64 ![0, 28, 0] (res_main_v160 V0) slices_S8x2048x64_S8x2019x64_0_28_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v215 (V0 : Valuation τ sig (Elt F)) : val3_2 V0 (no_index (Proc.devRef .tc main_v215)) = extractStridedSlice S8x2019x64 ![0, 29, 0] (res_main_v160 V0) slices_S8x2048x64_S8x2019x64_0_29_0 := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v216 (V0 : Valuation τ sig (Elt F)) : val3_2 V0 (no_index (Proc.devRef .tc main_v216)) = broadcastInDim S8x2019x1x64 ![0, 1, 3] bcast_S8x2019x64_S8x2019x1x64_0_1_3 (extractStridedSlice S8x2019x64 ![0, 10, 0] (res_main_v160 V0) slices_S8x2048x64_S8x2019x64_0_10_0) := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v217 (V0 : Valuation τ sig (Elt F)) : val3_2 V0 (no_index (Proc.devRef .tc main_v217)) = broadcastInDim S8x2019x1x64 ![0, 1, 3] bcast_S8x2019x64_S8x2019x1x64_0_1_3 (extractStridedSlice S8x2019x64 ![0, 11, 0] (res_main_v160 V0) slices_S8x2048x64_S8x2019x64_0_11_0) := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v218 (V0 : Valuation τ sig (Elt F)) : val3_2 V0 (no_index (Proc.devRef .tc main_v218)) = broadcastInDim S8x2019x1x64 ![0, 1, 3] bcast_S8x2019x64_S8x2019x1x64_0_1_3 (extractStridedSlice S8x2019x64 ![0, 12, 0] (res_main_v160 V0) slices_S8x2048x64_S8x2019x64_0_12_0) := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v219 (V0 : Valuation τ sig (Elt F)) : val3_2 V0 (no_index (Proc.devRef .tc main_v219)) = broadcastInDim S8x2019x1x64 ![0, 1, 3] bcast_S8x2019x64_S8x2019x1x64_0_1_3 (extractStridedSlice S8x2019x64 ![0, 13, 0] (res_main_v160 V0) slices_S8x2048x64_S8x2019x64_0_13_0) := by
  unfold val3_2
  simp only [ops_part3_1]
  after_results_simp
  try dsimp only [Matrix.cons_val]
  try after_results_simp
  simp only [val3_1_main_v160] <;> rfl
set_option maxRecDepth 8192 in
set_option maxHeartbeats 2000000 in
theorem val3_2_main_v220 (V0 : Valuation τ sig (Elt F)) : val3_2 V0 (no_index (Proc.devRef .tc main_v220)) = broadcastInDim S8x2019x1x64 ![0, 1, 3] bcast_S8x2019x64_S8x2019x1x64_0_1_3 (extractStridedSlice S8x2019x64 ![0, 14, 0] (res_main_v160 V0) slices_S8x2048x64_S8x2019x64_0_14_0) := by
  unfold val3_2
  simp only [ops_part3_1]
  after_results_simp
  try dsimp only [Matrix.cons_val]
  try after_results_simp
  simp only [val3_1_main_v160] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v221]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_arg3 (V0 : Valuation τ sig (Elt F)) : val4 V0 (no_index (Proc.devRef .tc main_arg3)) = V0 (Proc.devRef .tc main_arg3) :=
  (val4_keep V0 main_arg3 (by decide)).trans (val3_2_main_arg3 V0)
theorem val4_main_arg4 (V0 : Valuation τ sig (Elt F)) : val4 V0 (no_index (Proc.devRef .tc main_arg4)) = V0 (Proc.devRef .tc main_arg4) :=
  (val4_keep V0 main_arg4 (by decide)).trans (val3_2_main_arg4 V0)
theorem val4_main_arg5 (V0 : Valuation τ sig (Elt F)) : val4 V0 (no_index (Proc.devRef .tc main_arg5)) = V0 (Proc.devRef .tc main_arg5) :=
  (val4_keep V0 main_arg5 (by decide)).trans (val3_2_main_arg5 V0)
theorem val4_main_arg6 (V0 : Valuation τ sig (Elt F)) : val4 V0 (no_index (Proc.devRef .tc main_arg6)) = V0 (Proc.devRef .tc main_arg6) :=
  (val4_keep V0 main_arg6 (by decide)).trans (val3_2_main_arg6 V0)
theorem val4_main_arg7 (V0 : Valuation τ sig (Elt F)) : val4 V0 (no_index (Proc.devRef .tc main_arg7)) = V0 (Proc.devRef .tc main_arg7) :=
  (val4_keep V0 main_arg7 (by decide)).trans (val3_2_main_arg7 V0)
theorem val4_main_arg8 (V0 : Valuation τ sig (Elt F)) : val4 V0 (no_index (Proc.devRef .tc main_arg8)) = V0 (Proc.devRef .tc main_arg8) :=
  (val4_keep V0 main_arg8 (by decide)).trans (val3_2_main_arg8 V0)
theorem val4_main_arg9 (V0 : Valuation τ sig (Elt F)) : val4 V0 (no_index (Proc.devRef .tc main_arg9)) = V0 (Proc.devRef .tc main_arg9) :=
  (val4_keep V0 main_arg9 (by decide)).trans (val3_2_main_arg9 V0)
theorem val4_main_arg10 (V0 : Valuation τ sig (Elt F)) : val4 V0 (no_index (Proc.devRef .tc main_arg10)) = V0 (Proc.devRef .tc main_arg10) :=
  (val4_keep V0 main_arg10 (by decide)).trans (val3_2_main_arg10 V0)
theorem val4_main_arg11 (V0 : Valuation τ sig (Elt F)) : val4 V0 (no_index (Proc.devRef .tc main_arg11)) = V0 (Proc.devRef .tc main_arg11) :=
  (val4_keep V0 main_arg11 (by decide)).trans (val3_2_main_arg11 V0)
theorem val4_main_v164 (V0 : Valuation τ sig (Elt F)) : val4 V0 (no_index (Proc.devRef .tc main_v164)) = concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2 :=
  (val4_keep V0 main_v164 (by decide)).trans (val3_2_main_v164 V0)
theorem val4_main_v169 (V0 : Valuation τ sig (Elt F)) : val4 V0 (no_index (Proc.devRef .tc main_v169)) = Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32) :=
  (val4_keep V0 main_v169 (by decide)).trans (val3_2_main_v169 V0)
theorem val4_main_v171 (V0 : Valuation τ sig (Elt F)) : val4 V0 (no_index (Proc.devRef .tc main_v171)) = res_main_v171 V0 :=
  (val4_keep V0 main_v171 (by decide)).trans (val3_2_main_v171 V0)
theorem val4_main_v195 (V0 : Valuation τ sig (Elt F)) : val4 V0 (no_index (Proc.devRef .tc main_v195)) = shapeCast _ ((concatenate S8x2019x10x128 2 [⟨S8x2019x1x128, ((broadcastInDim S8x2019x1x128 ![0, 1, 3] bcast_S8x2019x128_S8x2019x1x128_0_1_3 (extractStridedSlice S8x2019x128 ![0, 0, 0] (res_main_v173 V0) slices_S8x2048x128_S8x2019x128_0_0_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 1, 0] (res_main_v173 V0) slices_S8x2048x128_S8x2019x128_0_1_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 2, 0] (res_main_v173 V0) slices_S8x2048x128_S8x2019x128_0_2_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 3, 0] (res_main_v173 V0) slices_S8x2048x128_S8x2019x128_0_3_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 4, 0] (res_main_v173 V0) slices_S8x2048x128_S8x2019x128_0_4_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 5, 0] (res_main_v173 V0) slices_S8x2048x128_S8x2019x128_0_5_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 6, 0] (res_main_v173 V0) slices_S8x2048x128_S8x2019x128_0_6_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 7, 0] (res_main_v173 V0) slices_S8x2048x128_S8x2019x128_0_7_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 8, 0] (res_main_v173 V0) slices_S8x2048x128_S8x2019x128_0_8_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 9, 0] (res_main_v173 V0) slices_S8x2048x128_S8x2019x128_0_9_0)) : (⟨S8x2019x1x128, .f32⟩ : BufTy).Contents (Elt F))⟩] concatenates_S8x2019x1x128_S8x2019x1x128_S8x2019x1x128_S8x2019x1x128_S8x2019x1x128_S8x2019x1x128_S8x2019x1x128_S8x2019x1x128_S8x2019x1x128_S8x2019x1x128_S8x2019x10x128_d2 : (⟨S8x2019x10x128, .f32⟩ : BufTy).Contents (Elt F))) shapeCasts_S8x2019x10x128_S16152x1280 :=
  (val4_keep V0 main_v195 (by decide)).trans (val3_2_main_v195 V0)
theorem val4_main_v202 (V0 : Valuation τ sig (Elt F)) : val4 V0 (no_index (Proc.devRef .tc main_v202)) = extractStridedSlice S8x2019x64 ![0, 16, 0] (res_main_v160 V0) slices_S8x2048x64_S8x2019x64_0_16_0 :=
  (val4_keep V0 main_v202 (by decide)).trans (val3_2_main_v202 V0)
theorem val4_main_v203 (V0 : Valuation τ sig (Elt F)) : val4 V0 (no_index (Proc.devRef .tc main_v203)) = extractStridedSlice S8x2019x64 ![0, 17, 0] (res_main_v160 V0) slices_S8x2048x64_S8x2019x64_0_17_0 :=
  (val4_keep V0 main_v203 (by decide)).trans (val3_2_main_v203 V0)
theorem val4_main_v204 (V0 : Valuation τ sig (Elt F)) : val4 V0 (no_index (Proc.devRef .tc main_v204)) = extractStridedSlice S8x2019x64 ![0, 18, 0] (res_main_v160 V0) slices_S8x2048x64_S8x2019x64_0_18_0 :=
  (val4_keep V0 main_v204 (by decide)).trans (val3_2_main_v204 V0)
theorem val4_main_v205 (V0 : Valuation τ sig (Elt F)) : val4 V0 (no_index (Proc.devRef .tc main_v205)) = extractStridedSlice S8x2019x64 ![0, 19, 0] (res_main_v160 V0) slices_S8x2048x64_S8x2019x64_0_19_0 :=
  (val4_keep V0 main_v205 (by decide)).trans (val3_2_main_v205 V0)
theorem val4_main_v206 (V0 : Valuation τ sig (Elt F)) : val4 V0 (no_index (Proc.devRef .tc main_v206)) = extractStridedSlice S8x2019x64 ![0, 20, 0] (res_main_v160 V0) slices_S8x2048x64_S8x2019x64_0_20_0 :=
  (val4_keep V0 main_v206 (by decide)).trans (val3_2_main_v206 V0)
theorem val4_main_v207 (V0 : Valuation τ sig (Elt F)) : val4 V0 (no_index (Proc.devRef .tc main_v207)) = extractStridedSlice S8x2019x64 ![0, 21, 0] (res_main_v160 V0) slices_S8x2048x64_S8x2019x64_0_21_0 :=
  (val4_keep V0 main_v207 (by decide)).trans (val3_2_main_v207 V0)
theorem val4_main_v208 (V0 : Valuation τ sig (Elt F)) : val4 V0 (no_index (Proc.devRef .tc main_v208)) = extractStridedSlice S8x2019x64 ![0, 22, 0] (res_main_v160 V0) slices_S8x2048x64_S8x2019x64_0_22_0 :=
  (val4_keep V0 main_v208 (by decide)).trans (val3_2_main_v208 V0)
theorem val4_main_v209 (V0 : Valuation τ sig (Elt F)) : val4 V0 (no_index (Proc.devRef .tc main_v209)) = extractStridedSlice S8x2019x64 ![0, 23, 0] (res_main_v160 V0) slices_S8x2048x64_S8x2019x64_0_23_0 :=
  (val4_keep V0 main_v209 (by decide)).trans (val3_2_main_v209 V0)
theorem val4_main_v210 (V0 : Valuation τ sig (Elt F)) : val4 V0 (no_index (Proc.devRef .tc main_v210)) = extractStridedSlice S8x2019x64 ![0, 24, 0] (res_main_v160 V0) slices_S8x2048x64_S8x2019x64_0_24_0 :=
  (val4_keep V0 main_v210 (by decide)).trans (val3_2_main_v210 V0)
theorem val4_main_v211 (V0 : Valuation τ sig (Elt F)) : val4 V0 (no_index (Proc.devRef .tc main_v211)) = extractStridedSlice S8x2019x64 ![0, 25, 0] (res_main_v160 V0) slices_S8x2048x64_S8x2019x64_0_25_0 :=
  (val4_keep V0 main_v211 (by decide)).trans (val3_2_main_v211 V0)
theorem val4_main_v212 (V0 : Valuation τ sig (Elt F)) : val4 V0 (no_index (Proc.devRef .tc main_v212)) = extractStridedSlice S8x2019x64 ![0, 26, 0] (res_main_v160 V0) slices_S8x2048x64_S8x2019x64_0_26_0 :=
  (val4_keep V0 main_v212 (by decide)).trans (val3_2_main_v212 V0)
theorem val4_main_v213 (V0 : Valuation τ sig (Elt F)) : val4 V0 (no_index (Proc.devRef .tc main_v213)) = extractStridedSlice S8x2019x64 ![0, 27, 0] (res_main_v160 V0) slices_S8x2048x64_S8x2019x64_0_27_0 :=
  (val4_keep V0 main_v213 (by decide)).trans (val3_2_main_v213 V0)
theorem val4_main_v214 (V0 : Valuation τ sig (Elt F)) : val4 V0 (no_index (Proc.devRef .tc main_v214)) = extractStridedSlice S8x2019x64 ![0, 28, 0] (res_main_v160 V0) slices_S8x2048x64_S8x2019x64_0_28_0 :=
  (val4_keep V0 main_v214 (by decide)).trans (val3_2_main_v214 V0)
theorem val4_main_v215 (V0 : Valuation τ sig (Elt F)) : val4 V0 (no_index (Proc.devRef .tc main_v215)) = extractStridedSlice S8x2019x64 ![0, 29, 0] (res_main_v160 V0) slices_S8x2048x64_S8x2019x64_0_29_0 :=
  (val4_keep V0 main_v215 (by decide)).trans (val3_2_main_v215 V0)
theorem val4_main_v216 (V0 : Valuation τ sig (Elt F)) : val4 V0 (no_index (Proc.devRef .tc main_v216)) = broadcastInDim S8x2019x1x64 ![0, 1, 3] bcast_S8x2019x64_S8x2019x1x64_0_1_3 (extractStridedSlice S8x2019x64 ![0, 10, 0] (res_main_v160 V0) slices_S8x2048x64_S8x2019x64_0_10_0) :=
  (val4_keep V0 main_v216 (by decide)).trans (val3_2_main_v216 V0)
theorem val4_main_v217 (V0 : Valuation τ sig (Elt F)) : val4 V0 (no_index (Proc.devRef .tc main_v217)) = broadcastInDim S8x2019x1x64 ![0, 1, 3] bcast_S8x2019x64_S8x2019x1x64_0_1_3 (extractStridedSlice S8x2019x64 ![0, 11, 0] (res_main_v160 V0) slices_S8x2048x64_S8x2019x64_0_11_0) :=
  (val4_keep V0 main_v217 (by decide)).trans (val3_2_main_v217 V0)
theorem val4_main_v218 (V0 : Valuation τ sig (Elt F)) : val4 V0 (no_index (Proc.devRef .tc main_v218)) = broadcastInDim S8x2019x1x64 ![0, 1, 3] bcast_S8x2019x64_S8x2019x1x64_0_1_3 (extractStridedSlice S8x2019x64 ![0, 12, 0] (res_main_v160 V0) slices_S8x2048x64_S8x2019x64_0_12_0) :=
  (val4_keep V0 main_v218 (by decide)).trans (val3_2_main_v218 V0)
theorem val4_main_v219 (V0 : Valuation τ sig (Elt F)) : val4 V0 (no_index (Proc.devRef .tc main_v219)) = broadcastInDim S8x2019x1x64 ![0, 1, 3] bcast_S8x2019x64_S8x2019x1x64_0_1_3 (extractStridedSlice S8x2019x64 ![0, 13, 0] (res_main_v160 V0) slices_S8x2048x64_S8x2019x64_0_13_0) :=
  (val4_keep V0 main_v219 (by decide)).trans (val3_2_main_v219 V0)
theorem val4_main_v220 (V0 : Valuation τ sig (Elt F)) : val4 V0 (no_index (Proc.devRef .tc main_v220)) = broadcastInDim S8x2019x1x64 ![0, 1, 3] bcast_S8x2019x64_S8x2019x1x64_0_1_3 (extractStridedSlice S8x2019x64 ![0, 14, 0] (res_main_v160 V0) slices_S8x2048x64_S8x2019x64_0_14_0) :=
  (val4_keep V0 main_v220 (by decide)).trans (val3_2_main_v220 V0)
set_option maxRecDepth 8192 in
theorem val4_main_v221 (V0 : Valuation τ sig (Elt F)) : val4 V0 (no_index (Proc.devRef .tc main_v221)) = broadcastInDim S8x2019x1x64 ![0, 1, 3] bcast_S8x2019x64_S8x2019x1x64_0_1_3 (extractStridedSlice S8x2019x64 ![0, 15, 0] (res_main_v160 V0) slices_S8x2048x64_S8x2019x64_0_15_0) := by
  unfold val4
  simp only [ops_part3_2]
  after_results_simp
  simp only [val3_2_main_v201] <;> rfl

/-- The device's buffer contents after @main's first 283 operations. -/
def val4_1 (V0 : Valuation τ sig (Elt F)) : Valuation τ sig (Elt F) := after ops_part4_0 (val4 V0)
/-- The buffers that window `ops_part4_0`'s operations write. -/
abbrev ops_part4_0_W : List (Ref sig .tc) := [main_v222, main_v223, main_v224, main_v225, main_v226, main_v227, main_v228, main_v229, main_v230, main_v231, main_v232, main_v233, main_v234, main_v235, main_v236, main_v237, main_v238, main_v239, main_v240, main_v241, main_v242, main_v243, main_cst_16, main_v244, main_v245, main_v246, main_v247, main_v248, main_v249, main_v250]
set_option maxRecDepth 8192 in
theorem ops_part4_0_writes : (ops_part4_0 : List (HloOp τ sig (Elt F))).Forall fun op => op.writes ⊆ (ops_part4_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h
theorem val4_1_main_arg0 (V0 : Valuation τ sig (Elt F)) : val4_1 V0 (no_index (Proc.devRef .tc main_arg0)) = V0 (Proc.devRef .tc main_arg0) :=
  (val4_1_keep V0 main_arg0 (by decide)).trans (val4_main_arg0 V0)
theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)
theorem val4_1_main_arg2 (V0 : Valuation τ sig (Elt F)) : val4_1 V0 (no_index (Proc.devRef .tc main_arg2)) = V0 (Proc.devRef .tc main_arg2) :=
  (val4_1_keep V0 main_arg2 (by decide)).trans (val4_main_arg2 V0)
theorem val4_1_main_arg3 (V0 : Valuation τ sig (Elt F)) : val4_1 V0 (no_index (Proc.devRef .tc main_arg3)) = V0 (Proc.devRef .tc main_arg3) :=
  (val4_1_keep V0 main_arg3 (by decide)).trans (val4_main_arg3 V0)
theorem val4_1_main_arg4 (V0 : Valuation τ sig (Elt F)) : val4_1 V0 (no_index (Proc.devRef .tc main_arg4)) = V0 (Proc.devRef .tc main_arg4) :=
  (val4_1_keep V0 main_arg4 (by decide)).trans (val4_main_arg4 V0)
theorem val4_1_main_arg5 (V0 : Valuation τ sig (Elt F)) : val4_1 V0 (no_index (Proc.devRef .tc main_arg5)) = V0 (Proc.devRef .tc main_arg5) :=
  (val4_1_keep V0 main_arg5 (by decide)).trans (val4_main_arg5 V0)
theorem val4_1_main_arg6 (V0 : Valuation τ sig (Elt F)) : val4_1 V0 (no_index (Proc.devRef .tc main_arg6)) = V0 (Proc.devRef .tc main_arg6) :=
  (val4_1_keep V0 main_arg6 (by decide)).trans (val4_main_arg6 V0)
theorem val4_1_main_arg7 (V0 : Valuation τ sig (Elt F)) : val4_1 V0 (no_index (Proc.devRef .tc main_arg7)) = V0 (Proc.devRef .tc main_arg7) :=
  (val4_1_keep V0 main_arg7 (by decide)).trans (val4_main_arg7 V0)
theorem val4_1_main_arg8 (V0 : Valuation τ sig (Elt F)) : val4_1 V0 (no_index (Proc.devRef .tc main_arg8)) = V0 (Proc.devRef .tc main_arg8) :=
  (val4_1_keep V0 main_arg8 (by decide)).trans (val4_main_arg8 V0)
theorem val4_1_main_arg9 (V0 : Valuation τ sig (Elt F)) : val4_1 V0 (no_index (Proc.devRef .tc main_arg9)) = V0 (Proc.devRef .tc main_arg9) :=
  (val4_1_keep V0 main_arg9 (by decide)).trans (val4_main_arg9 V0)
theorem val4_1_main_arg10 (V0 : Valuation τ sig (Elt F)) : val4_1 V0 (no_index (Proc.devRef .tc main_arg10)) = V0 (Proc.devRef .tc main_arg10) :=
  (val4_1_keep V0 main_arg10 (by decide)).trans (val4_main_arg10 V0)
theorem val4_1_main_arg11 (V0 : Valuation τ sig (Elt F)) : val4_1 V0 (no_index (Proc.devRef .tc main_arg11)) = V0 (Proc.devRef .tc main_arg11) :=
  (val4_1_keep V0 main_arg11 (by decide)).trans (val4_main_arg11 V0)
theorem val4_1_main_v164 (V0 : Valuation τ sig (Elt F)) : val4_1 V0 (no_index (Proc.devRef .tc main_v164)) = concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2 :=
  (val4_1_keep V0 main_v164 (by decide)).trans (val4_main_v164 V0)
theorem val4_1_main_v169 (V0 : Valuation τ sig (Elt F)) : val4_1 V0 (no_index (Proc.devRef .tc main_v169)) = Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32) :=
  (val4_1_keep V0 main_v169 (by decide)).trans (val4_main_v169 V0)
theorem val4_1_main_v171 (V0 : Valuation τ sig (Elt F)) : val4_1 V0 (no_index (Proc.devRef .tc main_v171)) = res_main_v171 V0 :=
  (val4_1_keep V0 main_v171 (by decide)).trans (val4_main_v171 V0)
set_option maxRecDepth 8192 in
set_option maxHeartbeats 2000000 in
theorem val4_1_main_v238 (V0 : Valuation τ sig (Elt F)) : val4_1 V0 (no_index (Proc.devRef .tc main_v238)) = res_main_v238 V0 := by
  unfold val4_1
  simp only [ops_part4_0]
  after_results_simp
  try dsimp only [Matrix.cons_val]
  try after_results_simp
  simp only [val4_main_v215, val4_main_v214, val4_main_v213, val4_main_v212, val4_main_v211, val4_main_v210, val4_main_v209, val4_main_v208, val4_main_v207, val4_main_v206, val4_main_v205, val4_main_v204, val4_main_v203, val4_main_v202, val4_main_v221, val4_main_v220, val4_main_v219, val4_main_v218, val4_main_v217, val4_main_v216] <;> rfl
set_option maxRecDepth 8192 in
set_option maxHeartbeats 2000000 in
theorem val4_1_main_v250 (V0 : Valuation τ sig (Elt F)) : val4_1 V0 (no_index (Proc.devRef .tc main_v250)) = addf (Host.dotGeneral dot_S16152x1280_S1280x1280_S16152x1280_1_0_0_1_n_n none (maximumf (addf (Host.dotGeneral dot_S16152x1280_S1280x1280_S16152x1280_1_0_0_1_n_n none (shapeCast _ ((concatenate S8x2019x10x128 2 [⟨S8x2019x1x128, ((broadcastInDim S8x2019x1x128 ![0, 1, 3] bcast_S8x2019x128_S8x2019x1x128_0_1_3 (extractStridedSlice S8x2019x128 ![0, 0, 0] (res_main_v173 V0) slices_S8x2048x128_S8x2019x128_0_0_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 1, 0] (res_main_v173 V0) slices_S8x2048x128_S8x2019x128_0_1_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 2, 0] (res_main_v173 V0) slices_S8x2048x128_S8x2019x128_0_2_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 3, 0] (res_main_v173 V0) slices_S8x2048x128_S8x2019x128_0_3_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 4, 0] (res_main_v173 V0) slices_S8x2048x128_S8x2019x128_0_4_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 5, 0] (res_main_v173 V0) slices_S8x2048x128_S8x2019x128_0_5_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 6, 0] (res_main_v173 V0) slices_S8x2048x128_S8x2019x128_0_6_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 7, 0] (res_main_v173 V0) slices_S8x2048x128_S8x2019x128_0_7_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 8, 0] (res_main_v173 V0) slices_S8x2048x128_S8x2019x128_0_8_0)) : (⟨S8x2019x1x128, .f32⟩ : BufTy).Contents (Elt F))⟩, ⟨S8x2019x1x128, ((broadcastInDim S8x2019x1x128 ![0, 1, 3] bcast_S8x2019x128_S8x2019x1x128_0_1_3 (extractStridedSlice S8x2019x128 ![0, 9, 0] (res_main_v173 V0) slices_S8x2048x128_S8x2019x128_0_9_0)) : (⟨S8x2019x1x128, .f32⟩ : BufTy).Contents (Elt F))⟩] concatenates_S8x2019x1x128_S8x2019x1x128_S8x2019x1x128_S8x2019x1x128_S8x2019x1x128_S8x2019x1x128_S8x2019x1x128_S8x2019x1x128_S8x2019x1x128_S8x2019x1x128_S8x2019x10x128_d2 : (⟨S8x2019x10x128, .f32⟩ : BufTy).Contents (Elt F))) shapeCasts_S8x2019x10x128_S16152x1280) (transpose S1280x1280 [1, 0] (V0 (Proc.devRef .tc main_arg6)) transposes_S1280x1280_S1280x1280_1_0)) (broadcastInDim S16152x1280 ![0, 1] bcast_S1x1280_S16152x1280_0_1 (broadcastInDim S1x1280 ![1] bcast_S1280_S1x1280_1 (V0 (Proc.devRef .tc main_arg7))))) (broadcastInDim S16152x1280 ![] bcast_S_S16152x1280 (constant S_ .f32 0x00000000#32))) (transpose S1280x1280 [1, 0] (V0 (Proc.devRef .tc main_arg8)) transposes_S1280x1280_S1280x1280_1_0)) (broadcastInDim S16152x1280 ![0, 1] bcast_S1x1280_S16152x1280_0_1 (broadcastInDim S1x1280 ![1] bcast_S1280_S1x1280_1 (V0 (Proc.devRef .tc main_arg9)))) := by
  unfold val4_1
  simp only [ops_part4_0]
  after_results_simp
  try dsimp only [Matrix.cons_val]
  try after_results_simp
  simp only [val4_main_arg9, val4_main_arg8, val4_main_arg7, val4_main_arg6, val4_main_v195] <;> rfl

/-- The device's buffer contents after @main's first 313 operations. -/
def val4_2 (V0 : Valuation τ sig (Elt F)) : Valuation τ sig (Elt F) := after ops_part4_1 (val4_1 V0)
/-- The buffers that window `ops_part4_1`'s operations write. -/
abbrev ops_part4_1_W : List (Ref sig .tc) := [main_v251, main_v252, main_cst_17, main_v253, main_call7_v0, main_call7_cst, main_call7_v1, main_v254, main_cst_18, main_v255, main_v256, main_call8_v0, main_call8_cst, main_call8_v1, main_v257, main_cst_19, main_v258, main_v259, main_v260, main_v261, main_v262, main_v263, main_v264, main_v265, main_v266, main_cst_20, main_v267, main_v268, main_v269, main_v270]
set_option maxRecDepth 8192 in
theorem ops_part4_1_writes : (ops_part4_1 : List (HloOp τ sig (Elt F))).Forall fun op => op.writes ⊆ (ops_part4_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h
theorem val4_2_main_arg0 (V0 : Valuation τ sig (Elt F)) : val4_2 V0 (no_index (Proc.devRef .tc main_arg0)) = V0 (Proc.devRef .tc main_arg0) :=
  (val4_2_keep V0 main_arg0 (by decide)).trans (val4_1_main_arg0 V0)
theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)
theorem val4_2_main_arg2 (V0 : Valuation τ sig (Elt F)) : val4_2 V0 (no_index (Proc.devRef .tc main_arg2)) = V0 (Proc.devRef .tc main_arg2) :=
  (val4_2_keep V0 main_arg2 (by decide)).trans (val4_1_main_arg2 V0)
theorem val4_2_main_arg3 (V0 : Valuation τ sig (Elt F)) : val4_2 V0 (no_index (Proc.devRef .tc main_arg3)) = V0 (Proc.devRef .tc main_arg3) :=
  (val4_2_keep V0 main_arg3 (by decide)).trans (val4_1_main_arg3 V0)
theorem val4_2_main_arg4 (V0 : Valuation τ sig (Elt F)) : val4_2 V0 (no_index (Proc.devRef .tc main_arg4)) = V0 (Proc.devRef .tc main_arg4) :=
  (val4_2_keep V0 main_arg4 (by decide)).trans (val4_1_main_arg4 V0)
theorem val4_2_main_arg5 (V0 : Valuation τ sig (Elt F)) : val4_2 V0 (no_index (Proc.devRef .tc main_arg5)) = V0 (Proc.devRef .tc main_arg5) :=
  (val4_2_keep V0 main_arg5 (by decide)).trans (val4_1_main_arg5 V0)
theorem val4_2_main_arg6 (V0 : Valuation τ sig (Elt F)) : val4_2 V0 (no_index (Proc.devRef .tc main_arg6)) = V0 (Proc.devRef .tc main_arg6) :=
  (val4_2_keep V0 main_arg6 (by decide)).trans (val4_1_main_arg6 V0)
theorem val4_2_main_arg7 (V0 : Valuation τ sig (Elt F)) : val4_2 V0 (no_index (Proc.devRef .tc main_arg7)) = V0 (Proc.devRef .tc main_arg7) :=
  (val4_2_keep V0 main_arg7 (by decide)).trans (val4_1_main_arg7 V0)
theorem val4_2_main_arg8 (V0 : Valuation τ sig (Elt F)) : val4_2 V0 (no_index (Proc.devRef .tc main_arg8)) = V0 (Proc.devRef .tc main_arg8) :=
  (val4_2_keep V0 main_arg8 (by decide)).trans (val4_1_main_arg8 V0)
theorem val4_2_main_arg9 (V0 : Valuation τ sig (Elt F)) : val4_2 V0 (no_index (Proc.devRef .tc main_arg9)) = V0 (Proc.devRef .tc main_arg9) :=
  (val4_2_keep V0 main_arg9 (by decide)).trans (val4_1_main_arg9 V0)
theorem val4_2_main_arg10 (V0 : Valuation τ sig (Elt F)) : val4_2 V0 (no_index (Proc.devRef .tc main_arg10)) = V0 (Proc.devRef .tc main_arg10) :=
  (val4_2_keep V0 main_arg10 (by decide)).trans (val4_1_main_arg10 V0)
theorem val4_2_main_arg11 (V0 : Valuation τ sig (Elt F)) : val4_2 V0 (no_index (Proc.devRef .tc main_arg11)) = V0 (Proc.devRef .tc main_arg11) :=
  (val4_2_keep V0 main_arg11 (by decide)).trans (val4_1_main_arg11 V0)
theorem val4_2_main_v164 (V0 : Valuation τ sig (Elt F)) : val4_2 V0 (no_index (Proc.devRef .tc main_v164)) = concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2 :=
  (val4_2_keep V0 main_v164 (by decide)).trans (val4_1_main_v164 V0)
theorem val4_2_main_v169 (V0 : Valuation τ sig (Elt F)) : val4_2 V0 (no_index (Proc.devRef .tc main_v169)) = Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32) :=
  (val4_2_keep V0 main_v169 (by decide)).trans (val4_1_main_v169 V0)
theorem val4_2_main_v171 (V0 : Valuation τ sig (Elt F)) : val4_2 V0 (no_index (Proc.devRef .tc main_v171)) = res_main_v171 V0 :=
  (val4_2_keep V0 main_v171 (by decide)).trans (val4_1_main_v171 V0)
set_option maxRecDepth 8192 in
set_option maxHeartbeats 2000000 in
theorem val4_2_main_v261 (V0 : Valuation τ sig (Elt F)) : val4_2 V0 (no_index (Proc.devRef .tc main_v261)) = Host.divf (Host.reduceAdd (mulf (res_main_v238 V0) (res_main_v251 V0)) (constant S_ .f32 0x00000000#32) reducesTo_S8x2019x20x64_S8x2019x20_d3 h_S_) (mulf (maximumf (Host.sqrt (Host.reduceAdd (mulf (res_main_v238 V0) (res_main_v238 V0)) (constant S_ .f32 0x00000000#32) reducesTo_S8x2019x20x64_S8x2019x20_d3 h_S_)) (broadcastInDim S8x2019x20 ![] bcast_S_S8x2019x20 (constant S_ .f32 0x322BCC77#32))) (maximumf (Host.sqrt (Host.reduceAdd (mulf (res_main_v251 V0) (res_main_v251 V0)) (constant S_ .f32 0x00000000#32) reducesTo_S8x2019x20x64_S8x2019x20_d3 h_S_)) (broadcastInDim S8x2019x20 ![] bcast_S_S8x2019x20 (constant S_ .f32 0x322BCC77#32)))) := by
  unfold val4_2
  simp only [ops_part4_1, TRef.binary, TRef.nullary, TRef.unary, TRef.toBuf, TRef.ofBuf, cast_eq]
  after_results_simp
  simp only [val4_1_main_v250, val4_1_main_v238] <;> rfl
set_option maxRecDepth 8192 in
set_option maxHeartbeats 2000000 in
theorem val4_2_main_v270 (V0 : Valuation τ sig (Elt F)) : val4_2 V0 (no_index (Proc.devRef .tc main_v270)) = mulf (broadcastInDim S8x2019x20 ![0, 1, 2] bcast_S8x2019x1_S8x2019x20_0_1_2 (broadcastInDim S8x2019x1 ![0, 1] bcast_S8x2019_S8x2019x1_0_1 (uitofp .f32 (cmpi .eq (extractStridedSlice S8x2019 ![0, 10] (res_main_v171 V0) slices_S8x2048_S8x2019_0_10) (extractStridedSlice S8x2019 ![0, 11] (res_main_v171 V0) slices_S8x2048_S8x2019_0_11))))) (broadcastInDim S8x2019x20 ![0, 1, 2] bcast_S1x1x20_S8x2019x20_0_1_2 (broadcastInDim S1x1x20 ![] bcast_S_S1x1x20 (constant S_ .f32 0x3F800000#32))) := by
  unfold val4_2
  simp only [ops_part4_1, TRef.binary, TRef.nullary, TRef.unary, TRef.toBuf, TRef.ofBuf, cast_eq]
  after_results_simp
  simp only [val4_1_main_v171] <;> rfl

/-- The device's buffer contents after @main's first 5 windows. -/
def val5 (V0 : Valuation τ sig (Elt F)) : Valuation τ sig (Elt F) := after ops_part4_2 (val4_2 V0)
/-- The buffers that window `ops_part4_2`'s operations write. -/
abbrev ops_part4_2_W : List (Ref sig .tc) := [main_v271, main_v272, main_cst_21, main_v273, main_cst_22, main_v274]
set_option maxRecDepth 8192 in
theorem ops_part4_2_writes : (ops_part4_2 : List (HloOp τ sig (Elt F))).Forall fun op => op.writes ⊆ (ops_part4_2_W.map (Proc.devRef (τ := τ) .tc)).toFinset := by
  simp only [List.Forall]
  refine ⟨?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part4_2` does not write keeps its contents through it. -/
theorem val5_keep (V0 : Valuation τ sig (Elt F)) (r : Ref sig .tc) (h : r ∉ ops_part4_2_W) :
    val5 V0 (Proc.devRef .tc r) = val4_2 V0 (Proc.devRef .tc r) :=
  after_of_writes_sub ops_part4_2 _ ops_part4_2_writes h
theorem val5_main_arg0 (V0 : Valuation τ sig (Elt F)) : val5 V0 (no_index (Proc.devRef .tc main_arg0)) = V0 (Proc.devRef .tc main_arg0) :=
  (val5_keep V0 main_arg0 (by decide)).trans (val4_2_main_arg0 V0)
theorem val5_main_arg1 (V0 : Valuation τ sig (Elt F)) : val5 V0 (no_index (Proc.devRef .tc main_arg1)) = V0 (Proc.devRef .tc main_arg1) :=
  (val5_keep V0 main_arg1 (by decide)).trans (val4_2_main_arg1 V0)
theorem val5_main_arg2 (V0 : Valuation τ sig (Elt F)) : val5 V0 (no_index (Proc.devRef .tc main_arg2)) = V0 (Proc.devRef .tc main_arg2) :=
  (val5_keep V0 main_arg2 (by decide)).trans (val4_2_main_arg2 V0)
theorem val5_main_arg3 (V0 : Valuation τ sig (Elt F)) : val5 V0 (no_index (Proc.devRef .tc main_arg3)) = V0 (Proc.devRef .tc main_arg3) :=
  (val5_keep V0 main_arg3 (by decide)).trans (val4_2_main_arg3 V0)
theorem val5_main_arg4 (V0 : Valuation τ sig (Elt F)) : val5 V0 (no_index (Proc.devRef .tc main_arg4)) = V0 (Proc.devRef .tc main_arg4) :=
  (val5_keep V0 main_arg4 (by decide)).trans (val4_2_main_arg4 V0)
theorem val5_main_arg5 (V0 : Valuation τ sig (Elt F)) : val5 V0 (no_index (Proc.devRef .tc main_arg5)) = V0 (Proc.devRef .tc main_arg5) :=
  (val5_keep V0 main_arg5 (by decide)).trans (val4_2_main_arg5 V0)
theorem val5_main_arg6 (V0 : Valuation τ sig (Elt F)) : val5 V0 (no_index (Proc.devRef .tc main_arg6)) = V0 (Proc.devRef .tc main_arg6) :=
  (val5_keep V0 main_arg6 (by decide)).trans (val4_2_main_arg6 V0)
theorem val5_main_arg7 (V0 : Valuation τ sig (Elt F)) : val5 V0 (no_index (Proc.devRef .tc main_arg7)) = V0 (Proc.devRef .tc main_arg7) :=
  (val5_keep V0 main_arg7 (by decide)).trans (val4_2_main_arg7 V0)
theorem val5_main_arg8 (V0 : Valuation τ sig (Elt F)) : val5 V0 (no_index (Proc.devRef .tc main_arg8)) = V0 (Proc.devRef .tc main_arg8) :=
  (val5_keep V0 main_arg8 (by decide)).trans (val4_2_main_arg8 V0)
theorem val5_main_arg9 (V0 : Valuation τ sig (Elt F)) : val5 V0 (no_index (Proc.devRef .tc main_arg9)) = V0 (Proc.devRef .tc main_arg9) :=
  (val5_keep V0 main_arg9 (by decide)).trans (val4_2_main_arg9 V0)
theorem val5_main_arg10 (V0 : Valuation τ sig (Elt F)) : val5 V0 (no_index (Proc.devRef .tc main_arg10)) = V0 (Proc.devRef .tc main_arg10) :=
  (val5_keep V0 main_arg10 (by decide)).trans (val4_2_main_arg10 V0)
theorem val5_main_arg11 (V0 : Valuation τ sig (Elt F)) : val5 V0 (no_index (Proc.devRef .tc main_arg11)) = V0 (Proc.devRef .tc main_arg11) :=
  (val5_keep V0 main_arg11 (by decide)).trans (val4_2_main_arg11 V0)
theorem val5_main_v164 (V0 : Valuation τ sig (Elt F)) : val5 V0 (no_index (Proc.devRef .tc main_v164)) = concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2 :=
  (val5_keep V0 main_v164 (by decide)).trans (val4_2_main_v164 V0)
theorem val5_main_v169 (V0 : Valuation τ sig (Elt F)) : val5 V0 (no_index (Proc.devRef .tc main_v169)) = Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32) :=
  (val5_keep V0 main_v169 (by decide)).trans (val4_2_main_v169 V0)
theorem val5_main_v171 (V0 : Valuation τ sig (Elt F)) : val5 V0 (no_index (Proc.devRef .tc main_v171)) = res_main_v171 V0 :=
  (val5_keep V0 main_v171 (by decide)).trans (val4_2_main_v171 V0)
set_option maxRecDepth 8192 in
theorem val5_main_v274 (V0 : Valuation τ sig (Elt F)) : val5 V0 (no_index (Proc.devRef .tc main_v274)) = Host.divf (Host.reduceAdd (mulf (res_main_v271 V0) (res_main_v271 V0)) (constant S_ .f32 0x00000000#32) reducesTo_S8x2019x20_S_d0_1_2 h_S_) (constant S_ .f32 0x489DBC00#32) := by
  unfold val5
  simp only [ops_part4_2]
  after_results_simp
  simp only [val4_2_main_v270, val4_2_main_v261] <;> rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v275, main_v276, main_v277, main_v278, main_cst_23, main_v279, main_cst_24, main_v280, main_cst_25, main_v281, main_cst_26, main_v282, main_v283, main_cst_27, main_v284, main_v285]
set_option maxRecDepth 8192 in
theorem ops_part5_writes : (ops_part5 : List (HloOp τ sig (Elt F))).Forall fun op => op.writes ⊆ (ops_part5_W.map (Proc.devRef (τ := τ) .tc)).toFinset := by
  simp only [List.Forall]
  refine ⟨?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_v164 (V0 : Valuation τ sig (Elt F)) : val6 V0 (no_index (Proc.devRef .tc main_v164)) = concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2 :=
  (val6_keep V0 main_v164 (by decide)).trans (val5_main_v164 V0)
theorem val6_main_v169 (V0 : Valuation τ sig (Elt F)) : val6 V0 (no_index (Proc.devRef .tc main_v169)) = Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32) :=
  (val6_keep V0 main_v169 (by decide)).trans (val5_main_v169 V0)
theorem val6_main_v274 (V0 : Valuation τ sig (Elt F)) : val6 V0 (no_index (Proc.devRef .tc main_v274)) = Host.divf (Host.reduceAdd (mulf (res_main_v271 V0) (res_main_v271 V0)) (constant S_ .f32 0x00000000#32) reducesTo_S8x2019x20_S_d0_1_2 h_S_) (constant S_ .f32 0x489DBC00#32) :=
  (val6_keep V0 main_v274 (by decide)).trans (val5_main_v274 V0)
set_option maxRecDepth 8192 in
set_option maxHeartbeats 1600000 in
theorem val6_main_v280 (V0 : Valuation τ sig (Elt F)) : val6 V0 (no_index (Proc.devRef .tc main_v280)) = Host.divf (Host.reduceAdd (uitofp .f32 (cmpi .ne (extractStridedSlice S8x2047 ![0, 1] (res_main_v171 V0) slices_S8x2048_S8x2047_0_1) (extractStridedSlice S8x2047 ![0, 0] (res_main_v171 V0) slices_S8x2048_S8x2047_0_0))) (constant S_ .f32 0x00000000#32) reducesTo_S8x2047_S_d0_1 h_S_) (constant S_ .f32 0x467FE000#32) := by
  unfold val6
  simp only [ops_part5]
  after_results_simp
  simp only [val5_main_v171] <;> rfl
set_option maxRecDepth 8192 in
set_option maxHeartbeats 1600000 in
theorem val6_main_v285 (V0 : Valuation τ sig (Elt F)) : val6 V0 (no_index (Proc.devRef .tc main_v285)) = addf (addf (mulf (Host.divf (Host.reduceAdd (mulf (res_main_v271 V0) (res_main_v271 V0)) (constant S_ .f32 0x00000000#32) reducesTo_S8x2019x20_S_d0_1_2 h_S_) (constant S_ .f32 0x489DBC00#32)) (constant S_ .f32 0x3F800000#32)) (mulf (Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32)) (constant S_ .f32 0x3E800000#32))) (mulf (Host.divf (Host.reduceAdd (uitofp .f32 (cmpi .ne (extractStridedSlice S8x2047 ![0, 1] (res_main_v171 V0) slices_S8x2048_S8x2047_0_1) (extractStridedSlice S8x2047 ![0, 0] (res_main_v171 V0) slices_S8x2048_S8x2047_0_0))) (constant S_ .f32 0x00000000#32) reducesTo_S8x2047_S_d0_1 h_S_) (constant S_ .f32 0x467FE000#32)) (constant S_ .f32 0x3DCCCCCD#32)) := by
  unfold val6
  simp only [ops_part5]
  after_results_simp
  simp only [val5_main_v171, val5_main_v169, val5_main_v274] <;> rfl

theorem after_ops (V0 : Valuation τ sig (Elt F)) : after ops V0 = val6 V0 := by
  simp only [ops, ops_part0, ops_part2, ops_part3, ops_part4, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = concatenate S8x2048x2 2 [⟨S8x2048x1, (broadcastInDim S8x2048x1 ![0, 1] bcast_S8x2048_S8x2048x1_0_1 (res_main_v126 (launchContents m c)))⟩, ⟨S8x2048x1, (broadcastInDim S8x2048x1 ![0, 1] bcast_S8x2048_S8x2048x1_0_1 (res_main_v152 (launchContents m c)))⟩] concatenates_S8x2048x1_S8x2048x1_S8x2048x2_d2
      ∧ r.2.mem ((c.tc : Thread nD τ).loc main_v285) = addf (addf (mulf (Host.divf (Host.reduceAdd (mulf (res_main_v271 (launchContents m c)) (res_main_v271 (launchContents m c))) (constant S_ .f32 0x00000000#32) reducesTo_S8x2019x20_S_d0_1_2 h_S_) (constant S_ .f32 0x489DBC00#32)) (constant S_ .f32 0x3F800000#32)) (mulf (Host.divf (Host.reduceAdd (concatenate S2 0 [⟨S1, (broadcastInDim S1 ![] bcast_S_S1 (Host.divf (Host.reduceAdd (mulf (res_main_v130 (launchContents m c)) (res_main_v130 (launchContents m c))) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 (launchContents m c)) (res_main_v156 (launchContents m c))) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32)) (constant S_ .f32 0x3E800000#32))) (mulf (Host.divf (Host.reduceAdd (uitofp .f32 (cmpi .ne (extractStridedSlice S8x2047 ![0, 1] (res_main_v171 (launchContents m c)) slices_S8x2048_S8x2047_0_1) (extractStridedSlice S8x2047 ![0, 0] (res_main_v171 (launchContents m c)) slices_S8x2048_S8x2047_0_0))) (constant S_ .f32 0x00000000#32) reducesTo_S8x2047_S_d0_1 h_S_) (constant S_ .f32 0x467FE000#32)) (constant S_ .f32 0x3DCCCCCD#32))
      ∧ r.2.mem ((c.tc : Thread nD τ).loc main_v274) = Host.divf (Host.reduceAdd (mulf (res_main_v271 (launchContents m c)) (res_main_v271 (launchContents m c))) (constant S_ .f32 0x00000000#32) reducesTo_S8x2019x20_S_d0_1_2 h_S_) (constant S_ .f32 0x489DBC00#32)
      ∧ r.2.mem ((c.tc : Thread nD τ).loc main_v169) = Host.divf (Host.reduceAdd (concatenate S2 0 [⟨S1, (broadcastInDim S1 ![] bcast_S_S1 (Host.divf (Host.reduceAdd (mulf (res_main_v130 (launchContents m c)) (res_main_v130 (launchContents m c))) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 (launchContents m c)) (res_main_v156 (launchContents m c))) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32)
      ∧ r.2.mem ((c.tc : Thread nD τ).loc main_v280) = Host.divf (Host.reduceAdd (uitofp .f32 (cmpi .ne (extractStridedSlice S8x2047 ![0, 1] (res_main_v171 (launchContents m c)) slices_S8x2048_S8x2047_0_1) (extractStridedSlice S8x2047 ![0, 0] (res_main_v171 (launchContents m c)) slices_S8x2048_S8x2047_0_0))) (constant S_ .f32 0x00000000#32) reducesTo_S8x2047_S_d0_1 h_S_) (constant S_ .f32 0x467FE000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v164).trans ((congrFun (after_ops (launchContents m c)) (Proc.devRef .tc main_v164)).trans (val6_main_v164 (launchContents m c))),
      (h c main_v285).trans ((congrFun (after_ops (launchContents m c)) (Proc.devRef .tc main_v285)).trans (val6_main_v285 (launchContents m c))),
      (h c main_v274).trans ((congrFun (after_ops (launchContents m c)) (Proc.devRef .tc main_v274)).trans (val6_main_v274 (launchContents m c))),
      (h c main_v169).trans ((congrFun (after_ops (launchContents m c)) (Proc.devRef .tc main_v169)).trans (val6_main_v169 (launchContents m c))),
      (h c main_v280).trans ((congrFun (after_ops (launchContents m c)) (Proc.devRef .tc main_v280)).trans (val6_main_v280 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c))),
      (h c main_arg2).trans ((congrFun (after_ops (launchContents m c)) (Proc.devRef .tc main_arg2)).trans (val6_main_arg2 (launchContents m c))),
      (h c main_arg3).trans ((congrFun (after_ops (launchContents m c)) (Proc.devRef .tc main_arg3)).trans (val6_main_arg3 (launchContents m c))),
      (h c main_arg4).trans ((congrFun (after_ops (launchContents m c)) (Proc.devRef .tc main_arg4)).trans (val6_main_arg4 (launchContents m c))),
      (h c main_arg5).trans ((congrFun (after_ops (launchContents m c)) (Proc.devRef .tc main_arg5)).trans (val6_main_arg5 (launchContents m c))),
      (h c main_arg6).trans ((congrFun (after_ops (launchContents m c)) (Proc.devRef .tc main_arg6)).trans (val6_main_arg6 (launchContents m c))),
      (h c main_arg7).trans ((congrFun (after_ops (launchContents m c)) (Proc.devRef .tc main_arg7)).trans (val6_main_arg7 (launchContents m c))),
      (h c main_arg8).trans ((congrFun (after_ops (launchContents m c)) (Proc.devRef .tc main_arg8)).trans (val6_main_arg8 (launchContents m c))),
      (h c main_arg9).trans ((congrFun (after_ops (launchContents m c)) (Proc.devRef .tc main_arg9)).trans (val6_main_arg9 (launchContents m c))),
      (h c main_arg10).trans ((congrFun (after_ops (launchContents m c)) (Proc.devRef .tc main_arg10)).trans (val6_main_arg10 (launchContents m c))),
      (h c main_arg11).trans ((congrFun (after_ops (launchContents m c)) (Proc.devRef .tc main_arg11)).trans (val6_main_arg11 (launchContents m c)))⟩)
    (run_seq scopedRefs_eq scopedSems_eq defs main (fun _ => ops) main_eq (fun _ => ops_sub) m ρ fun _ => ops_fresh)

end Cert.ReferenceIdeal.Ref

end
-- ==== Proof.RefIdx.lean ====
/- The reference's index-valued operations read at an index: the arg-min over a codebook, the rows it gathers, the code column. -/
module
public import proofs.«01_k».proof.Proof.Args
public import proofs.«01_k».proof.Proof.RefFirst
public import Idealize.ShloMosaic.Lib.StableHlo.ReadAt
@[expose] public section
set_option maxRecDepth 16384
noncomputable section
namespace Cert.ReferenceIdeal.Ref
open Cert.ReferenceIdeal Cert.ReferenceIdeal.Gen Idealize.ShloMosaic Idealize.ShloMosaic.TcCoe Idealize.SL.Sem Idealize.ShloMosaic.StableHlo
open Idealize.ShloMosaic.Pointwise

/-- The order the arg-min's body folds by: value first, then the signed index. -/
def Before (p q : EReal × BitVec 32) : Prop := p.1 < q.1 ∨ (p.1 = q.1 ∧ p.2.toInt < q.2.toInt)

instance (p q : EReal × BitVec 32) : Decidable (Before p q) := Classical.propDecidable _

/-- One step of the arg-min keeps the lesser value, and of equal values the lesser index. -/
theorem reducer_eq (p q : EReal × BitVec 32) : reducer_argmin_f32_i32 (F := Ideal) p q = if Before p q then p else q := by
  obtain ⟨a, i⟩ := p
  obtain ⟨b, j⟩ := q
  have hne : Ideal.cmp .une a a = 0#1 := by simp [Ideal.cmp]
  unfold reducer_argmin_f32_i32 Before
  simp only [Ideal.cmpf_def, hne]
  by_cases h1 : a < b
  · have : Ideal.cmp .olt a b = 1#1 := by simp [Ideal.cmp, h1]
    have ho (z : BitVec 1) : 1#1 ||| z = 1#1 := by revert z; decide
    simp [this, h1, IntOp.ori, Scalar.select, ho]
  · have e1 : Ideal.cmp .olt a b = 0#1 := by simp [Ideal.cmp, h1]
    by_cases h2 : a = b
    · subst h2
      have e2 : Ideal.cmp .oeq a a = 1#1 := by simp [Ideal.cmp]
      by_cases h3 : i.toInt < j.toInt
      · have e3 : IntOp.cmpi .slt i j = 1#1 := by simp [IntOp.cmpi, BitVec.slt, h3]
        simp [e1, e2, e3, h3, IntOp.ori, IntOp.andi, Scalar.select]
      · have e3 : IntOp.cmpi .slt i j = 0#1 := by simp [IntOp.cmpi, BitVec.slt, h3]
        simp [e1, e2, e3, h3, IntOp.ori, IntOp.andi, Scalar.select]
    · have e2 : Ideal.cmp .oeq a b = 0#1 := by simp [Ideal.cmp, h2]
      simp [e1, e2, h1, h2, IntOp.ori, IntOp.andi, Scalar.select]

/-- The fold ends at one of its pairs, none of them before it. -/
theorem foldl_least (l : List (EReal × BitVec 32)) (a : EReal × BitVec 32) :
    (l.foldl (reducer_argmin_f32_i32 (F := Ideal)) a = a ∨ l.foldl (reducer_argmin_f32_i32 (F := Ideal)) a ∈ l)
      ∧ ¬ Before a (l.foldl (reducer_argmin_f32_i32 (F := Ideal)) a)
      ∧ ∀ p ∈ l, ¬ Before p (l.foldl (reducer_argmin_f32_i32 (F := Ideal)) a) := by
  have irrefl (p : EReal × BitVec 32) : ¬ Before p p := by rintro (h | ⟨-, h⟩) <;> exact lt_irrefl _ h
  have trans (p q r : EReal × BitVec 32) (h : ¬ Before p q) (h' : ¬ Before q r) : ¬ Before p r := by
    unfold Before at *
    simp only [not_or, not_and, not_lt] at *
    refine ⟨h'.1.trans h.1, fun e => ?_⟩
    have e1 : q.1 = r.1 := le_antisymm (h.1.trans e.le) h'.1
    exact (h'.2 e1).trans (h.2 (e.trans e1.symm))
  have asymm (p q : EReal × BitVec 32) (h : Before p q) : ¬ Before q p := by
    rintro (h' | ⟨e, h'⟩) <;> rcases h with h | ⟨e', h⟩
    · exact lt_asymm h h'
    · exact absurd e'.symm (ne_of_lt h')
    · exact absurd e.symm (ne_of_lt h)
    · exact lt_asymm h h'
  induction l generalizing a with
  | nil => exact ⟨Or.inl rfl, irrefl a, fun p hp => absurd hp List.not_mem_nil⟩
  | cons q l ih =>
    rw [List.foldl_cons, reducer_eq]
    by_cases h : Before a q
    · rw [if_pos h]
      obtain ⟨h1, h2, h3⟩ := ih a
      refine ⟨h1.imp id (List.mem_cons_of_mem _), h2, fun p hp => ?_⟩
      rcases List.mem_cons.mp hp with rfl | hp
      · exact trans _ _ _ (asymm _ _ h) h2
      · exact h3 p hp
    · rw [if_neg h]
      obtain ⟨h1, h2, h3⟩ := ih q
      refine ⟨Or.inr ?_, trans _ _ _ h h2, fun p hp => ?_⟩
      · rcases h1 with h1 | h1
        · exact List.mem_cons.mpr (Or.inl h1)
        · exact List.mem_cons_of_mem _ h1
      · rcases List.mem_cons.mp hp with rfl | hp
        · exact h2
        · exact h3 p hp

/-- A small index read back from its word. -/
theorem toInt_small (n : ℕ) (h : n < 2048) : (BitVec.ofNat 32 n).toInt = n := by
  rw [BitVec.toInt_eq_toNat_cond, BitVec.toNat_ofNat, Nat.mod_eq_of_lt (by omega), if_pos (by omega)]

/-- The arg-min along the last axis is the first least index. -/
theorem argmin_apply (x : FVec Ideal S8x2048x1024 .f32) (b : Fin 8) (s : Fin 2048) :
    (Host.argReduce reducer_argmin_f32_i32 x (iotaInDim S8x2048x1024 32 2) (constant (F := Ideal) S_ .f32 0x7F800000#32)
      (constantI S_ 32 0#32) reducesTo_S8x2048x1024_S8x2048_d2 h_S_ (ix2 b s)).2
      = BitVec.ofNat 32 (Spec.first fun j => x (ix3 b s j)).val := by
  rw [Ideal.argReduce_eq_reduce2, Host.reduce2_eq_foldl_fiber]
  have mem (p : EReal × BitVec 32) : p ∈ Host.argReduceFiber x (iotaInDim S8x2048x1024 32 2) reducesTo_S8x2048x1024_S8x2048_d2 (ix2 b s)
      ↔ ∃ j : Fin 1024, p = (x (ix3 b s j), BitVec.ofNat 32 j.val) := by
    unfold Host.argReduceFiber
    simp only [List.mem_map, List.mem_filter, List.mem_finRange, true_and, decide_eq_true_eq]
    constructor
    · rintro ⟨n, hn, rfl⟩
      obtain ⟨k, hk⟩ := (Shape.ReducesTo.fiber_r3_a2 reducesTo_S8x2048x1024_S8x2048_d2 (ix2 b s) _).mp hn
      exact ⟨k, by rw [← hk]; rfl⟩
    · rintro ⟨k, rfl⟩
      refine ⟨S8x2048x1024.rowMajor (ix3 b s k), ?_, ?_⟩
      · rw [Equiv.symm_apply_apply]
        exact (Shape.ReducesTo.fiber_r3_a2 reducesTo_S8x2048x1024_S8x2048_d2 (ix2 b s) _).mpr ⟨k, rfl⟩
      · rw [Equiv.symm_apply_apply]; rfl
  have hinf : Ideal.ofBits .f32 0x7F800000#32 = ⊤ := by simp [Ideal.ofBits, Ideal.ieee]
  obtain ⟨h1, h2, h3⟩ := foldl_least (Host.argReduceFiber x (iotaInDim S8x2048x1024 32 2) reducesTo_S8x2048x1024_S8x2048_d2 (ix2 b s))
    (Ideal.ofBits .f32 0x7F800000#32, 0#32)
  change (List.foldl (reducer_argmin_f32_i32 (F := Ideal)) (Ideal.ofBits .f32 0x7F800000#32, 0#32) _).2 = _
  generalize List.foldl (reducer_argmin_f32_i32 (F := Ideal)) (Ideal.ofBits .f32 0x7F800000#32, 0#32)
    (Host.argReduceFiber x (iotaInDim S8x2048x1024 32 2) reducesTo_S8x2048x1024_S8x2048_d2 (ix2 b s)) = r at *
  obtain ⟨g, hg⟩ : ∃ g : Fin 1024 → EReal, g = fun j => x (ix3 b s j) := ⟨_, rfl⟩
  have hF := Spec.first_spec g
  have hm := h3 _ ((mem _).mpr ⟨Spec.first g, rfl⟩)
  change r.2 = BitVec.ofNat 32 (Spec.first fun j => x (ix3 b s j)).val
  rw [← hg]
  have hx (j : Fin 1024) : x (ix3 b s j) = g j := by rw [hg]
  unfold Before at hm
  simp only [not_or, not_and, not_lt, hx] at hm
  rcases h1 with h1 | h1
  · rw [h1, hinf] at hm
    have ht : g (Spec.first g) = ⊤ := top_le_iff.mp hm.1
    have h0 : Spec.first g = 0 := by
      by_contra hne
      have := hF.2 0 (Fin.pos_iff_ne_zero.mpr hne)
      rw [ht] at this
      exact absurd this not_top_lt
    rw [h1, h0]; rfl
  · obtain ⟨j, rfl⟩ := (mem _).mp h1
    simp only [hx] at hm
    have e : g (Spec.first g) = g j := le_antisymm (hF.1 j) hm.1
    have hle := hm.2 e
    rw [toInt_small _ (by have := j.isLt; omega), toInt_small _ (by have := (Spec.first g).isLt; omega)] at hle
    have : j = Spec.first g := by
      by_contra hne
      have hlt : j < Spec.first g := lt_of_le_of_ne (Fin.le_def.mpr (by exact_mod_cast hle)) hne
      exact absurd e (ne_of_lt (hF.2 j hlt))
    rw [← this]

/-- The rows a gather takes from a table: at each place the row its index names, clamped. -/
theorem gather_apply {α : Type} (x : S1024x64.Idx → α) (i : IVec S8x2048x1 32) (b : Fin 8) (s : Fin 2048) (k : Fin 64) :
    Host.gather gather_S1024x64_S8x2048x1_S8x2048x64_2_0_n_n_0_2_164 x i (ix3 b s k)
      = x (ix2 ⟨min (i (ix3 b s 0)).toInt.toNat 1023, by omega⟩ k) := by
  unfold Host.gather
  refine congrArg x (funext fun a => Fin.ext ?_)
  change GatherDims.start _ _ i a + GatherDims.batchCoord _ _ a + GatherDims.offCoord _ _ a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1024x64_S8x2048x1_S8x2048x64_2_0_n_n_0_2_164.startIndexMap from List.mem_singleton.mpr rfl)]
    have hi : gather_S1024x64_S8x2048x1_S8x2048x64_2_0_n_n_0_2_164.siIdx (ix3 b s k)
        ⟨List.idxOf (0 : Fin 2) gather_S1024x64_S8x2048x1_S8x2048x64_2_0_n_n_0_2_164.startIndexMap,
          List.idxOf_lt_length_iff.2 (List.mem_singleton.mpr rfl)⟩ = ix3 b s 0 := by
      funext e
      refine Fin.ext ?_
      match e with
      | ⟨0, _⟩ => rfl
      | ⟨1, _⟩ => rfl
      | ⟨2, _⟩ => rfl
    rw [hi]
    rfl
  · unfold GatherDims.start
    rw [dif_neg (show (1 : Fin 2) ∉ gather_S1024x64_S8x2048x1_S8x2048x64_2_0_n_n_0_2_164.startIndexMap from
      fun h => absurd (List.mem_singleton.mp h) (by decide)), Nat.zero_add]
    unfold GatherDims.offCoord
    rw [dif_pos ((GatherDims.mem_sKept _ _).mpr ⟨fun h => absurd (List.mem_singleton.mp h) (by decide), List.not_mem_nil⟩)]
    rfl

/-- The row of a table a code word names. -/
theorem gather_code {α : Type} (x : S1024x64.Idx → α) (w : IVec S8x2048 32) (b : Fin 8) (s : Fin 2048) (k : Fin 64) (c : Fin 1024)
    (h : w (ix2 b s) = BitVec.ofNat 32 c.val) :
    Host.gather gather_S1024x64_S8x2048x1_S8x2048x64_2_0_n_n_0_2_164 x
      (broadcastInDim S8x2048x1 ![0, 1] bcast_S8x2048_S8x2048x1_0_1 w) (ix3 b s k) = x (ix2 c k) := by
  refine (gather_apply x _ b s k).trans (congrArg x ?_)
  have e : broadcastInDim S8x2048x1 ![0, 1] bcast_S8x2048_S8x2048x1_0_1 w (ix3 b s 0) = BitVec.ofNat 32 c.val := by
    refine Eq.trans (congrArg w (funext fun a => Fin.ext ?_)) h
    match a with
    | ⟨0, _⟩ => rfl
    | ⟨1, _⟩ => rfl
  refine congrArg (ix2 · k) (Fin.ext ?_)
  change min (broadcastInDim S8x2048x1 ![0, 1] bcast_S8x2048_S8x2048x1_0_1 w (ix3 b s 0)).toInt.toNat 1023 = c.val
  rw [e, toInt_small _ (by have := c.isLt; omega), Int.toNat_natCast]
  exact min_eq_left (by have := c.isLt; omega)

/-- The first column of two stacked columns, flattened. -/
theorem column_apply (u w : IVec S8x2048 32) (b : Fin 8) (s : Fin 2048) :
    (shapeCast S8x2048 (extractStridedSlice S8x2048x1 ![0, 0, 0] (concatenate S8x2048x2 2
      [⟨S8x2048x1, broadcastInDim S8x2048x1 ![0, 1] bcast_S8x2048_S8x2048x1_0_1 u⟩,
        ⟨S8x2048x1, broadcastInDim S8x2048x1 ![0, 1] bcast_S8x2048_S8x2048x1_0_1 w⟩] concatenates_S8x2048x1_S8x2048x1_S8x2048x2_d2)
      slices_S8x2048x2_S8x2048x1_0_0_0) shapeCasts_S8x2048x1_S8x2048) (ix2 b s) = u (ix2 b s) := by
  pointwise []

end Cert.ReferenceIdeal.Ref
end
-- ==== Proof.RefEnc.lean ====
/- The reference's encoder read at an index: its two padded inputs and its output. -/
module
public import proofs.«01_k».proof.Proof.Args
public import proofs.«01_k».proof.Proof.RefFirst
public import proofs.«01_k».proof.Proof.RefIdx
public import Idealize.ShloMosaic.Lib.StableHlo.ReadAt
@[expose] public section
set_option maxRecDepth 16384
noncomputable section
namespace Cert.ReferenceIdeal.Ref
open Cert.ReferenceIdeal Cert.ReferenceIdeal.Gen Idealize.ShloMosaic Idealize.ShloMosaic.TcCoe Idealize.SL.Sem Idealize.ShloMosaic.StableHlo
open Idealize.ShloMosaic.Pointwise

variable (V0 : Valuation τ sig (Elt Ideal))

/-- The arguments as the reference's buffers hold them. -/
abbrev args : Spec.Args :=
  Spec.argsOf (V0 (Proc.devRef .tc main_arg0)) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))
    (V0 (Proc.devRef .tc main_arg10)) (V0 (Proc.devRef .tc main_arg11))

/-- The integer zero made a number. -/
theorem zero_word : (FloatOps.sitofp (F := Ideal) .f32 (0#32 : BitVec 32) : EReal) = 0 := by
  have h : (FloatOps.sitofp (F := Ideal) .f32 (0#32 : BitVec 32) : EReal) = (((0#32 : BitVec 32).toInt : ℝ) : EReal) := rfl
  rw [h]; simp

/-- A sequence padded by three zeros on either side. -/
theorem pad3_apply (x : S8x2x2048.Idx → EReal) (b : Fin 8) (i : Fin 2) (t : Fin 2054) :
    pad (α := EReal) S8x2x2054 ![0, 0, 3] ![0, 0, 3] ![0, 0, 0] x (sitofp (F := Ideal) .f32 (constantI S_ 32 0#32))
      pads_S8x2x2048_S8x2x2054_000_000_330 h_S_ (ix3 b i t) = Spec.sh 3 (fun s => x (ix3 b i s)) t.val := by
  pointwise []
  unfold Spec.sh
  split_ifs with h
  · rfl
  · exact zero_word

/-- The encoder's padded input. -/
theorem v0_eq (b : Fin 8) (i : Fin 2) (t : Fin 2054) : res_main_v0 V0 (ix3 b i t) = Spec.sh 3 ((args V0).x b i) t.val :=
  pad3_apply (V0 (Proc.devRef .tc main_arg0)) b i t

/-- Sums of seven equal terms. -/
theorem sum7_congr {a0 a1 a2 a3 a4 a5 a6 b0 b1 b2 b3 b4 b5 b6 : EReal} (h0 : a0 = b0) (h1 : a1 = b1) (h2 : a2 = b2) (h3 : a3 = b3)
    (h4 : a4 = b4) (h5 : a5 = b5) (h6 : a6 = b6) : a0 + a1 + a2 + a3 + a4 + a5 + a6 = b0 + b1 + b2 + b3 + b4 + b5 + b6 := by
  rw [h0, h1, h2, h3, h4, h5, h6]

/-- One tap of a convolution: the terms agree one by one, the factors in the other order. -/
theorem tap_congr {n : ℕ} {w x y : Fin n → EReal} (h : ∀ c, x c = y c) : ∑ c, w c * x c = ∑ c, y c * w c :=
  Finset.sum_congr rfl fun c _ => by rw [h c, mul_comm]

/-- The first layer's padded output. -/
theorem v49_eq (b : Fin 8) (d : Fin 256) (t : Fin 2056) :
    res_main_v49 V0 (ix3 b d t) = Spec.sh 4 (Spec.conv1 ((args V0).x b) (args V0).w1 (args V0).e1 d) t.val := by
  pointwise [res_main_v49]
  unfold Spec.sh
  split_ifs with h
  · have T (k : Fin 7) (m : ℕ) (n : Fin 2054) (hn : n.val = m + k.val) (c : Fin 2) :
        res_main_v0 V0 (ix3 b c n) = Spec.sh 3 ((args V0).x b c) (m + k.val) := (v0_eq V0 b c n).trans (by rw [hn])
    refine congrArg₂ (fun a b : EReal => max a b) (congrArg₂ (fun a b : EReal => a + b) (Eq.trans ?_ (Fin.sum_univ_seven _).symm) rfl) rfl
    exact sum7_congr (tap_congr (T 0 _ ⟨t.val - 4, by omega⟩ rfl)) (tap_congr (T 1 _ ⟨1 + (t.val - 4), by omega⟩ (Nat.add_comm _ _)))
      (tap_congr (T 2 _ ⟨2 + (t.val - 4), by omega⟩ (Nat.add_comm _ _))) (tap_congr (T 3 _ ⟨3 + (t.val - 4), by omega⟩ (Nat.add_comm _ _)))
      (tap_congr (T 4 _ ⟨4 + (t.val - 4), by omega⟩ (Nat.add_comm _ _))) (tap_congr (T 5 _ ⟨5 + (t.val - 4), by omega⟩ (Nat.add_comm _ _)))
      (tap_congr (T 6 _ ⟨6 + (t.val - 4), by omega⟩ (Nat.add_comm _ _)))
  · exact zero_word

/-- Sums of nine equal terms. -/
theorem sum9_congr {a0 a1 a2 a3 a4 a5 a6 a7 a8 b0 b1 b2 b3 b4 b5 b6 b7 b8 : EReal} (h0 : a0 = b0) (h1 : a1 = b1) (h2 : a2 = b2) (h3 : a3 = b3)
    (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  rw [h0, h1, h2, h3, h4, h5, h6, h7, h8]

/-- The encoder's output. -/
theorem v108_eq (b : Fin 8) (s : Fin 2048) (k : Fin 64) : res_main_v108 V0 (ix3 b s k) = (args V0).z b s k := by
  pointwise [res_main_v108]
  have T (k : Fin 9) (m : ℕ) (n : Fin 2056) (hn : n.val = m + k.val) (c : Fin 256) : res_main_v49 V0 (ix3 b c n)
      = Spec.sh 4 (Spec.conv1 ((args V0).x b) (args V0).w1 (args V0).e1 c) (m + k.val) := (v49_eq V0 b c n).trans (by rw [hn])
  refine congrArg₂ (fun a b : EReal => a + b) (Eq.trans ?_ (Spec.sum9 _).symm) rfl
  exact sum9_congr (tap_congr (T 0 _ ⟨s.val, by omega⟩ rfl)) (tap_congr (T 1 _ ⟨1 + s.val, by omega⟩ (Nat.add_comm _ _)))
    (tap_congr (T 2 _ ⟨2 + s.val, by omega⟩ (Nat.add_comm _ _))) (tap_congr (T 3 _ ⟨3 + s.val, by omega⟩ (Nat.add_comm _ _)))
    (tap_congr (T 4 _ ⟨4 + s.val, by omega⟩ (Nat.add_comm _ _))) (tap_congr (T 5 _ ⟨5 + s.val, by omega⟩ (Nat.add_comm _ _)))
    (tap_congr (T 6 _ ⟨6 + s.val, by omega⟩ (Nat.add_comm _ _))) (tap_congr (T 7 _ ⟨7 + s.val, by omega⟩ (Nat.add_comm _ _)))
    (tap_congr (T 8 _ ⟨8 + s.val, by omega⟩ (Nat.add_comm _ _)))

end Cert.ReferenceIdeal.Ref
end
-- ==== Proof.RefVq.lean ====
/- The reference's two quantizer stages read at an index: codes, quantized rows and history rows. -/
module
public import proofs.«01_k».proof.Proof.Args
public import proofs.«01_k».proof.Proof.RefEnc
public import Idealize.ShloMosaic.Lib.StableHlo.ReadAt
@[expose] public section
set_option maxRecDepth 16384
noncomputable section
namespace Cert.ReferenceIdeal.Ref
open Cert.ReferenceIdeal Cert.ReferenceIdeal.Gen Idealize.ShloMosaic Idealize.ShloMosaic.TcCoe Idealize.SL.Sem Idealize.ShloMosaic.StableHlo
open Idealize.ShloMosaic.Pointwise

variable (V0 : Valuation τ sig (Elt Ideal))

/-- The first codebook. -/
theorem v111_eq (j : Fin 1024) (k : Fin 64) : res_main_v111 V0 (ix2 j k) = (args V0).cb 0 j k := by
  pointwise [res_main_v111]
  rfl

/-- The second codebook. -/
theorem v137_eq (j : Fin 1024) (k : Fin 64) : res_main_v137 V0 (ix2 j k) = (args V0).cb 1 j k := by
  pointwise [res_main_v137]
  rfl

/-- The squared distances of rows known to those known. -/
theorem dist_congr {x y : Fin 64 → EReal} {p q : Fin 64 → EReal} (hx : ∀ k, x k = y k) (hp : ∀ k, p k = q k) :
    (∑ k, x k * x k) - Ideal.ofBits .f32 0x40000000#32 * (∑ k, x k * p k) + ∑ k, p k * p k
      = (∑ k, y k * y k) - Ideal.ofBits .f32 0x40000000#32 * (∑ k, y k * q k) + ∑ k, q k * q k := by
  rw [funext hx, funext hp]

/-- The distances to the first codebook. -/
theorem v125_eq (b : Fin 8) (s : Fin 2048) (j : Fin 1024) :
    res_main_v125 V0 (ix3 b s j) = Spec.dist ((args V0).z b s) ((args V0).cb 0) j := by
  pointwise [res_main_v125]
  exact dist_congr (v108_eq V0 b s) (v111_eq V0 j)

/-- The first code as an arg-min of the distances. -/
theorem v126_eq_argmin (x : S8x2048x1024.Idx → EReal) (hx : x = res_main_v125 V0) :
    res_main_v126 V0 = fun j => (Host.argReduce (F := Ideal) reducer_argmin_f32_i32 x (iotaInDim S8x2048x1024 32 2)
      (constant (F := Ideal) S_ .f32 0x7F800000#32) (constantI S_ 32 0#32) reducesTo_S8x2048x1024_S8x2048_d2 h_S_ j).2 := by
  subst hx
  unfold res_main_v126 res_main_call2_v0 res_main_call2_cst res_main_call2_c
  rfl

/-- The first code is the first index of a least distance. -/
theorem v126_first (b : Fin 8) (s : Fin 2048) :
    res_main_v126 V0 (ix2 b s) = BitVec.ofNat 32 (Spec.first fun j => res_main_v125 V0 (ix3 b s j)).val :=
  (congrFun (v126_eq_argmin V0 _ rfl) (ix2 b s)).trans (argmin_apply (res_main_v125 V0) b s)

/-- The first code. -/
theorem v126_eq (b : Fin 8) (s : Fin 2048) : res_main_v126 V0 (ix2 b s) = BitVec.ofNat 32 ((args V0).code0 b s).val := by
  have h : (fun j => res_main_v125 V0 (ix3 b s j)) = Spec.dist ((args V0).z b s) ((args V0).cb 0) := funext (v125_eq V0 b s)
  rw [v126_first, h]
  rfl

/-- The row the first code names. -/
theorem v127_eq (b : Fin 8) (s : Fin 2048) (k : Fin 64) : res_main_v127 V0 (ix3 b s k) = (args V0).cb 0 ((args V0).code0 b s) k :=
  (gather_code (res_main_v111 V0) (res_main_v126 V0) b s k _ (v126_eq V0 b s)).trans (v111_eq V0 _ k)

/-- The chosen row less the encoded row. -/
theorem v130_eq (b : Fin 8) (s : Fin 2048) (k : Fin 64) : res_main_v130 V0 (ix3 b s k) = Spec.d0 ((args V0).cb 0) ((args V0).z b s) k :=
  congrArg₂ (fun a b : EReal => a - b) (v127_eq V0 b s k) (v108_eq V0 b s k)

/-- The first stage's contribution. -/
theorem v129_eq (b : Fin 8) (s : Fin 2048) (k : Fin 64) : res_main_v129 V0 (ix3 b s k) = Spec.q0 ((args V0).cb 0) ((args V0).z b s) k :=
  congrArg₂ (fun a b : EReal => a + b) (v108_eq V0 b s k) (congrArg₂ (fun a b : EReal => a - b) (v127_eq V0 b s k) (v108_eq V0 b s k))

/-- What the first stage leaves. -/
theorem v135_eq (b : Fin 8) (s : Fin 2048) (k : Fin 64) : res_main_v135 V0 (ix3 b s k) = Spec.r1 ((args V0).cb 0) ((args V0).z b s) k :=
  congrArg₂ (fun a b : EReal => a - b) (v108_eq V0 b s k) (v129_eq V0 b s k)

/-- The distances to the second codebook. -/
theorem v151_eq (b : Fin 8) (s : Fin 2048) (j : Fin 1024) :
    res_main_v151 V0 (ix3 b s j) = Spec.dist (Spec.r1 ((args V0).cb 0) ((args V0).z b s)) ((args V0).cb 1) j := by
  pointwise [res_main_v151]
  exact dist_congr (v135_eq V0 b s) (v137_eq V0 j)

/-- The second code as an arg-min of the distances. -/
theorem v152_eq_argmin (x : S8x2048x1024.Idx → EReal) (hx : x = res_main_v151 V0) :
    res_main_v152 V0 = fun j => (Host.argReduce (F := Ideal) reducer_argmin_f32_i32 x (iotaInDim S8x2048x1024 32 2)
      (constant (F := Ideal) S_ .f32 0x7F800000#32) (constantI S_ 32 0#32) reducesTo_S8x2048x1024_S8x2048_d2 h_S_ j).2 := by
  subst hx
  unfold res_main_v152 res_main_call4_v0 res_main_call4_cst res_main_call4_c
  rfl

/-- The second code is the first index of a least distance. -/
theorem v152_first (b : Fin 8) (s : Fin 2048) :
    res_main_v152 V0 (ix2 b s) = BitVec.ofNat 32 (Spec.first fun j => res_main_v151 V0 (ix3 b s j)).val :=
  (congrFun (v152_eq_argmin V0 _ rfl) (ix2 b s)).trans (argmin_apply (res_main_v151 V0) b s)

/-- The second code. -/
theorem v152_eq (b : Fin 8) (s : Fin 2048) : res_main_v152 V0 (ix2 b s) = BitVec.ofNat 32 ((args V0).code1 b s).val := by
  have h : (fun j => res_main_v151 V0 (ix3 b s j)) = Spec.dist (Spec.r1 ((args V0).cb 0) ((args V0).z b s)) ((args V0).cb 1) :=
    funext (v151_eq V0 b s)
  rw [v152_first, h]
  rfl

/-- The row the second code names. -/
theorem v153_eq (b : Fin 8) (s : Fin 2048) (k : Fin 64) : res_main_v153 V0 (ix3 b s k) = (args V0).cb 1 ((args V0).code1 b s) k :=
  (gather_code (res_main_v137 V0) (res_main_v152 V0) b s k _ (v152_eq V0 b s)).trans (v137_eq V0 _ k)

/-- The second chosen row less what the first stage left. -/
theorem v156_eq (b : Fin 8) (s : Fin 2048) (k : Fin 64) :
    res_main_v156 V0 (ix3 b s k) = Spec.d1 ((args V0).cb 0) ((args V0).cb 1) ((args V0).z b s) k :=
  congrArg₂ (fun a b : EReal => a - b) (v153_eq V0 b s k) (v135_eq V0 b s k)

/-- The second stage's contribution. -/
theorem v155_eq (b : Fin 8) (s : Fin 2048) (k : Fin 64) : res_main_v155 V0 (ix3 b s k)
    = Spec.r1 ((args V0).cb 0) ((args V0).z b s) k + Spec.d1 ((args V0).cb 0) ((args V0).cb 1) ((args V0).z b s) k :=
  congrArg₂ (fun a b : EReal => a + b) (v135_eq V0 b s k) (v156_eq V0 b s k)

/-- The quantized rows. -/
theorem v160_eq (b : Fin 8) (s : Fin 2048) (k : Fin 64) : res_main_v160 V0 (ix3 b s k) = (args V0).q b s k := by
  have h : res_main_v160 V0 (ix3 b s k) = (Ideal.ofBits .f32 0x00000000#32 + res_main_v129 V0 (ix3 b s k) + res_main_v155 V0 (ix3 b s k) : EReal) := rfl
  rw [h, v129_eq, v155_eq, Ideal.ofBits_zero_f32, zero_add]
  rfl

/-- The column of first codes. -/
theorem v171_eq (b : Fin 8) (s : Fin 2048) : res_main_v171 V0 (ix2 b s) = BitVec.ofNat 32 ((args V0).code0 b s).val :=
  (column_apply (res_main_v126 V0) (res_main_v152 V0) b s).trans (v126_eq V0 b s)

/-- The history rows: a quantized row and beside it the table's row of its code. -/
theorem v173_eq (b : Fin 8) (s : Fin 2048) (k : Fin 128) : res_main_v173 V0 (ix3 b s k) = (args V0).hist b s k := by
  pointwise [res_main_v173]
  unfold Spec.Args.hist
  by_cases h : k.val < 64
  · rw [dif_pos h, dif_pos h]; exact v160_eq V0 b s _
  · rw [dif_neg h, dif_neg h]; exact gather_code (V0 (Proc.devRef .tc main_arg10)) (res_main_v171 V0) b s _ _ (v171_eq V0 b s)

end Cert.ReferenceIdeal.Ref
end
-- ==== Proof.RefRes.lean ====
/- The reference's five results as functions of the arguments. -/
module
public import proofs.«01_k».proof.Proof.Args
public import proofs.«01_k».proof.Proof.RefVq
public import Idealize.ShloMosaic.Lib.StableHlo.ReadAt
@[expose] public section
set_option maxRecDepth 16384
noncomputable section
namespace Cert.ReferenceIdeal.Ref
open Cert.ReferenceIdeal Cert.ReferenceIdeal.Gen Idealize.ShloMosaic Idealize.ShloMosaic.TcCoe Idealize.SL.Sem Idealize.ShloMosaic.StableHlo
open Idealize.ShloMosaic.Pointwise

variable (V0 : Valuation τ sig (Elt Ideal))

/-- The first sixteen target rows are rows of the quantized array, ten and more steps on. -/
theorem v236_eq (b : Fin 8) (n : Fin 2019) (p : Fin 16) (k : Fin 64) :
    res_main_v236 V0 (ix4 b n p k) = (args V0).q b ⟨n.val + p.val + 10, by omega⟩ k := by
  have Q (m : Fin 2048) (h : m.val = n.val + p.val + 10) :
      res_main_v160 V0 (ix3 b m k) = (args V0).q b ⟨n.val + p.val + 10, by omega⟩ k :=
    (v160_eq V0 b m k).trans (congrArg (fun m => (args V0).q b m k) (Fin.ext h))
  pointwise [res_main_v236]
  obtain ⟨p, hp⟩ := p
  interval_cases p
  all_goals exact Q _ (by simp only []; omega)

/-- All twenty target rows are rows of the quantized array, ten and more steps on. -/
theorem v238_eq (b : Fin 8) (n : Fin 2019) (p : Fin 20) (k : Fin 64) :
    res_main_v238 V0 (ix4 b n p k) = (args V0).q b ⟨n.val + p.val + 10, by omega⟩ k := by
  have Q (m : Fin 2048) (h : m.val = n.val + p.val + 10) :
      res_main_v160 V0 (ix3 b m k) = (args V0).q b ⟨n.val + p.val + 10, by omega⟩ k :=
    (v160_eq V0 b m k).trans (congrArg (fun m => (args V0).q b m k) (Fin.ext h))
  pointwise [res_main_v238]
  by_cases h : p.val < 16
  · rw [dif_pos h]
    exact v236_eq V0 b n ⟨p.val, h⟩ k
  · rw [dif_neg h]
    obtain ⟨p, hp⟩ := p
    have h' : 16 ≤ p := not_lt.mp h
    interval_cases p
    all_goals exact Q _ (by simp only []; omega)

/-- A sum over 1280 entries, taken as ten blocks of 128. -/
theorem sum_blocks (f : Fin 1280 → EReal) : ∑ x, f x = ∑ r : Fin 10, ∑ k : Fin 128, f ⟨128 * r.val + k.val, by omega⟩ := by
  rw [← (finProdFinEquiv (m := 10) (n := 128)).sum_comp f, Fintype.sum_prod_type]
  exact Finset.sum_congr rfl fun r _ => Finset.sum_congr rfl fun k _ => congrArg f (Fin.ext (Nat.add_comm _ _))

/-- A bit made a number is one where it is set and zero elsewhere. -/
theorem uitofp_ind (v : BitVec 1) : (FloatOps.uitofp (F := Ideal) .f32 v : EReal) = if v = 1#1 then 1 else 0 := by
  have h : (FloatOps.uitofp (F := Ideal) .f32 v : EReal) = ((v.toNat : ℝ) : EReal) := rfl
  rw [h]
  have hv : v = 0#1 ∨ v = 1#1 := (show ∀ v : BitVec 1, v = 0#1 ∨ v = 1#1 by decide) v
  rcases hv with rfl | rfl <;> simp

/-- The number of an equality of two words. -/
theorem ind_eq (x y : BitVec 32) : (FloatOps.uitofp (F := Ideal) .f32 (IntOp.cmpi .eq x y) : EReal) = Spec.ind (x = y) := by
  rw [uitofp_ind]
  unfold Spec.ind
  refine if_congr ?_ rfl rfl
  by_cases h : x = y
  · simp [IntOp.cmpi, h]
  · simp only [IntOp.cmpi, beq_eq_false_iff_ne.mpr h, h, iff_false]; decide

/-- The number of an inequality of two words. -/
theorem ind_ne (x y : BitVec 32) : (FloatOps.uitofp (F := Ideal) .f32 (IntOp.cmpi .ne x y) : EReal) = Spec.ind (x ≠ y) := by
  rw [uitofp_ind]
  unfold Spec.ind
  refine if_congr ?_ rfl rfl
  by_cases h : x = y
  · subst h; simp [IntOp.cmpi]
  · simp only [IntOp.cmpi, bne, beq_eq_false_iff_ne.mpr h, Bool.not_false]; exact iff_of_true rfl h

/-- Ten shifted copies put together hold at place `r` of a window the row `r` steps after its start. -/
theorem rows_eq (b : Fin 8) (n : Fin 2019) (r : Fin 10) (k : Fin 128) (x : S8x2048x128.Idx → EReal) :
  (concatenate S8x2019x10x128 2 [⟨S8x2019x1x128, ((broadcastInDim S8x2019x1x128 ![0, 1, 3] bcast_S8x2019x128_S8x2019x1x128_0_1_3 (extractStridedSlice S8x2019x128 ![0, 0, 0] x slices_S8x2048x128_S8x2019x128_0_0_0)) )⟩, ⟨S8x2019x1x128, ((broadcastInDim S8x2019x1x128 ![0, 1, 3] bcast_S8x2019x128_S8x2019x1x128_0_1_3 (extractStridedSlice S8x2019x128 ![0, 1, 0] x slices_S8x2048x128_S8x2019x128_0_1_0)) )⟩, ⟨S8x2019x1x128, ((broadcastInDim S8x2019x1x128 ![0, 1, 3] bcast_S8x2019x128_S8x2019x1x128_0_1_3 (extractStridedSlice S8x2019x128 ![0, 2, 0] x slices_S8x2048x128_S8x2019x128_0_2_0)) )⟩, ⟨S8x2019x1x128, ((broadcastInDim S8x2019x1x128 ![0, 1, 3] bcast_S8x2019x128_S8x2019x1x128_0_1_3 (extractStridedSlice S8x2019x128 ![0, 3, 0] x slices_S8x2048x128_S8x2019x128_0_3_0)) )⟩, ⟨S8x2019x1x128, ((broadcastInDim S8x2019x1x128 ![0, 1, 3] bcast_S8x2019x128_S8x2019x1x128_0_1_3 (extractStridedSlice S8x2019x128 ![0, 4, 0] x slices_S8x2048x128_S8x2019x128_0_4_0)) )⟩, ⟨S8x2019x1x128, ((broadcastInDim S8x2019x1x128 ![0, 1, 3] bcast_S8x2019x128_S8x2019x1x128_0_1_3 (extractStridedSlice S8x2019x128 ![0, 5, 0] x slices_S8x2048x128_S8x2019x128_0_5_0)) )⟩, ⟨S8x2019x1x128, ((broadcastInDim S8x2019x1x128 ![0, 1, 3] bcast_S8x2019x128_S8x2019x1x128_0_1_3 (extractStridedSlice S8x2019x128 ![0, 6, 0] x slices_S8x2048x128_S8x2019x128_0_6_0)) )⟩, ⟨S8x2019x1x128, ((broadcastInDim S8x2019x1x128 ![0, 1, 3] bcast_S8x2019x128_S8x2019x1x128_0_1_3 (extractStridedSlice S8x2019x128 ![0, 7, 0] x slices_S8x2048x128_S8x2019x128_0_7_0)) )⟩, ⟨S8x2019x1x128, ((broadcastInDim S8x2019x1x128 ![0, 1, 3] bcast_S8x2019x128_S8x2019x1x128_0_1_3 (extractStridedSlice S8x2019x128 ![0, 8, 0] x slices_S8x2048x128_S8x2019x128_0_8_0)) )⟩, ⟨S8x2019x1x128, ((broadcastInDim S8x2019x1x128 ![0, 1, 3] bcast_S8x2019x128_S8x2019x1x128_0_1_3 (extractStridedSlice S8x2019x128 ![0, 9, 0] x slices_S8x2048x128_S8x2019x128_0_9_0)) )⟩] concatenates_S8x2019x1x128_S8x2019x1x128_S8x2019x1x128_S8x2019x1x128_S8x2019x1x128_S8x2019x1x128_S8x2019x1x128_S8x2019x1x128_S8x2019x1x128_S8x2019x1x128_S8x2019x10x128_d2 : FVec Ideal S8x2019x10x128 .f32) (ix4 b n r k) = x (ix3 b ⟨n.val + r.val, by omega⟩ k) := by
  have Q (m : Fin 2048) (h : m.val = n.val + r.val) : x (ix3 b m k) = x (ix3 b ⟨n.val + r.val, by omega⟩ k) :=
    congrArg (fun m => x (ix3 b m k)) (Fin.ext h)
  pointwise []
  obtain ⟨r, hr⟩ := r
  interval_cases r
  all_goals exact Q _ (by simp only []; omega)

/-- The two predictor layers over one window. -/
theorem layers_eq (h : FVec Ideal S8x2019x10x128 .f32) (w3 w4 : FVec Ideal S1280x1280 .f32) (e3 e4 : FVec Ideal S1280 .f32) (b : Fin 8) (n : Fin 2019) (p : Fin 20) (k : Fin 64) :
  shapeCast S8x2019x20x64 (addf (Host.dotGeneral dot_S16152x1280_S1280x1280_S16152x1280_1_0_0_1_n_n none (maximumf (addf (Host.dotGeneral dot_S16152x1280_S1280x1280_S16152x1280_1_0_0_1_n_n none (shapeCast S16152x1280 h shapeCasts_S8x2019x10x128_S16152x1280) (transpose S1280x1280 [1, 0] w3 transposes_S1280x1280_S1280x1280_1_0)) (broadcastInDim S16152x1280 ![0, 1] bcast_S1x1280_S16152x1280_0_1 (broadcastInDim S1x1280 ![1] bcast_S1280_S1x1280_1 e3))) (broadcastInDim S16152x1280 ![] bcast_S_S16152x1280 (constant S_ .f32 0x00000000#32))) (transpose S1280x1280 [1, 0] w4 transposes_S1280x1280_S1280x1280_1_0)) (broadcastInDim S16152x1280 ![0, 1] bcast_S1x1280_S16152x1280_0_1 (broadcastInDim S1x1280 ![1] bcast_S1280_S1x1280_1 e4))) shapeCasts_S16152x1280_S8x2019x20x64 (ix4 b n p k)
    = Spec.pred (fun r k => h (ix4 b n r k)) (fun r k d => w3 (ix2 d ⟨128 * r.val + k.val, by omega⟩)) (fun d => e3 (ix1 d)) (fun d o => w4 (ix2 o d)) (fun o => e4 (ix1 o)) ⟨64 * p.val + k.val, by omega⟩ := by
  pointwise []
  have ho : (⟨p.val * 64 + k.val, by omega⟩ : Fin 1280) = ⟨64 * p.val + k.val, by omega⟩ := Fin.ext (by simp only []; omega)
  unfold Spec.pred
  refine congrArg₂ (fun a b : EReal => a + b) (Finset.sum_congr rfl fun d _ => congrArg₂ (fun a b : EReal => a * b)
    (congrArg (fun a : EReal => max (a + e3 (ix1 d)) 0) ((sum_blocks _).trans (Finset.sum_congr rfl fun r _ =>
      Finset.sum_congr rfl fun i _ => congrArg₂ (fun a b : EReal => a * b) ?_ rfl)))
    (congrArg (fun o => w4 (ix2 o d)) ho)) (congrArg (fun o => e4 (ix1 o)) ho)
  have h1 : (128 * r.val + i.val) / 128 = r.val := by omega
  have h2 : (128 * r.val + i.val) % 128 = i.val := by omega
  exact congrArg₂ (fun x y => h (ix4 b n x y)) (Fin.ext h1) (Fin.ext h2)

/-- Whether the code ten steps on repeats at the next step. -/
theorem same_eq (w : IVec S8x2048 32) (b : Fin 8) (n : Fin 2019) :
    (uitofp (F := Ideal) .f32 (cmpi .eq (extractStridedSlice S8x2019 ![0, 10] w slices_S8x2048_S8x2019_0_10) (extractStridedSlice S8x2019 ![0, 11] w slices_S8x2048_S8x2019_0_11))) (ix2 b n)
     = Spec.ind (w (ix2 b ⟨n.val + 10, by omega⟩) = w (ix2 b ⟨n.val + 11, by omega⟩)) := by
  pointwise []
  refine (ind_eq _ _).trans ?_
  have h1 : (⟨10 + n.val, by omega⟩ : Fin 2048) = ⟨n.val + 10, by omega⟩ := Fin.ext (Nat.add_comm _ _)
  have h2 : (⟨11 + n.val, by omega⟩ : Fin 2048) = ⟨n.val + 11, by omega⟩ := Fin.ext (Nat.add_comm _ _)
  rw [h1, h2]

/-- The cosine of two rows, less a number. -/
theorem sim_eq (u v : FVec Ideal S8x2019x20x64 .f32) (e : FVec Ideal S8x2019 .f32) (b : Fin 8) (n : Fin 2019) (p : Fin 20) :
    subf (Host.divf (Host.reduceAdd (mulf u v) (constant S_ .f32 0x00000000#32) reducesTo_S8x2019x20x64_S8x2019x20_d3 h_S_) (mulf (maximumf (Host.sqrt (Host.reduceAdd (mulf u u) (constant S_ .f32 0x00000000#32) reducesTo_S8x2019x20x64_S8x2019x20_d3 h_S_)) (broadcastInDim S8x2019x20 ![] bcast_S_S8x2019x20 (constant S_ .f32 0x322BCC77#32))) (maximumf (Host.sqrt (Host.reduceAdd (mulf v v) (constant S_ .f32 0x00000000#32) reducesTo_S8x2019x20x64_S8x2019x20_d3 h_S_)) (broadcastInDim S8x2019x20 ![] bcast_S_S8x2019x20 (constant S_ .f32 0x322BCC77#32))))) (mulf (broadcastInDim S8x2019x20 ![0, 1, 2] bcast_S8x2019x1_S8x2019x20_0_1_2 (broadcastInDim S8x2019x1 ![0, 1] bcast_S8x2019_S8x2019x1_0_1 e)) (broadcastInDim S8x2019x20 ![0, 1, 2] bcast_S1x1x20_S8x2019x20_0_1_2 (broadcastInDim S1x1x20 ![] bcast_S_S1x1x20 (constant S_ .f32 0x3F800000#32)))) (ix3 b n p)
    = Spec.cosDiff (e (ix2 b n)) (fun k => u (ix4 b n p k)) (fun k => v (ix4 b n p k)) := by
  pointwise []
  rfl

/-- The predicted rows. -/
theorem v251_eq (b : Fin 8) (n : Fin 2019) (p : Fin 20) (k : Fin 64) :
    res_main_v251 V0 (ix4 b n p k) = (args V0).out b n ⟨64 * p.val + k.val, by omega⟩ := by
  refine (layers_eq _ (V0 (Proc.devRef .tc main_arg6)) (V0 (Proc.devRef .tc main_arg8)) (V0 (Proc.devRef .tc main_arg7))
    (V0 (Proc.devRef .tc main_arg9)) b n p k).trans ?_
  exact congrArg (fun h => Spec.pred h (fun r k d => (args V0).w3 d ⟨128 * r.val + k.val, by omega⟩) (args V0).e3
    (fun d o => (args V0).w4 o d) (args V0).e4 ⟨64 * p.val + k.val, by omega⟩) (funext fun r => funext fun k =>
      (rows_eq b n r k (res_main_v173 V0)).trans (v173_eq V0 b _ k))

/-- Codes are equal exactly where their words are. -/
theorem code_inj (i j : Fin 1024) : BitVec.ofNat 32 i.val = BitVec.ofNat 32 j.val ↔ i = j := by
  refine ⟨fun h => Fin.ext ?_, fun h => by rw [h]⟩
  have := congrArg BitVec.toNat h
  simp only [BitVec.toNat_ofNat] at this
  omega

/-- The number of an equality of codes, read off their words. -/
theorem ind_congr {x y : BitVec 32} {i j : Fin 1024} (hx : x = BitVec.ofNat 32 i.val) (hy : y = BitVec.ofNat 32 j.val) :
    Spec.ind (x = y) = Spec.ind (i = j) := by
  subst hx hy
  simp only [code_inj]

/-- The number of an inequality of codes, read off their words. -/
theorem ind_ne_congr {x y : BitVec 32} {i j : Fin 1024} (hx : x = BitVec.ofNat 32 i.val) (hy : y = BitVec.ofNat 32 j.val) :
    Spec.ind (x ≠ y) = Spec.ind (i ≠ j) := by
  subst hx hy
  simp only [ne_eq, code_inj]

/-- The cosine of equal rows. -/
theorem cos_congr {s s' : EReal} {u u' v v' : Fin 64 → EReal} (hs : s = s') (hu : ∀ k, u k = u' k) (hv : ∀ k, v k = v' k) :
    Spec.cosDiff s u v = Spec.cosDiff s' u' v' := by
  rw [hs, funext hu, funext hv]

/-- The similarity less its target. -/
theorem v271_eq (b : Fin 8) (n : Fin 2019) (p : Fin 20) : res_main_v271 V0 (ix3 b n p) = (args V0).sim b n p :=
  (sim_eq (res_main_v238 V0) (res_main_v251 V0) _ b n p).trans (cos_congr
    ((same_eq (res_main_v171 V0) b n).trans (ind_congr (v171_eq V0 b _) (v171_eq V0 b _))) (v238_eq V0 b n p) (v251_eq V0 b n p))

/-- The count of changes of code along the sequences. -/
theorem smooth_apply (w : IVec S8x2048 32) : Host.reduceAdd (F := Ideal) (uitofp .f32 (cmpi .ne (extractStridedSlice S8x2047 ![0, 1] w slices_S8x2048_S8x2047_0_1) (extractStridedSlice S8x2047 ![0, 0] w slices_S8x2048_S8x2047_0_0))) (constant S_ .f32 0x00000000#32) reducesTo_S8x2047_S_d0_1 h_S_
    = fun _ => ∑ b : Fin 8, ∑ n : Fin 2047, Spec.ind (w (ix2 b ⟨1 + n.val, by omega⟩) ≠ w (ix2 b ⟨n.val, by omega⟩)) := by
  funext j
  obtain rfl : j = ix0 := Subsingleton.elim (α := S_.Idx) _ _
  pointwise []
  exact Finset.sum_congr rfl fun b _ => Finset.sum_congr rfl fun n _ => ind_ne _ _

/-- The mean square of an array of rows. -/
theorem mean_apply (x : FVec Ideal S8x2048x64 .f32) : Host.divf (Host.reduceAdd (mulf x x) (constant S_ .f32 0x00000000#32) reducesTo_S8x2048x64_S_d0_1_2 h_S_) (constant S_ .f32 0x49800000#32)
    = fun _ => Ideal.div (∑ b : Fin 8, ∑ s : Fin 2048, ∑ k : Fin 64, x (ix3 b s k) * x (ix3 b s k)) (Ideal.ofBits .f32 0x49800000#32) := by
  funext j
  obtain rfl : j = ix0 := Subsingleton.elim (α := S_.Idx) _ _
  pointwise []

/-- The mean of two numbers is half their sum. -/
theorem half_apply (u v : FVec Ideal S_ .f32) : Host.divf (F := Ideal) (Host.reduceAdd (concatenate S2 0 [⟨S1, (broadcastInDim S1 ![] bcast_S_S1 u)⟩, ⟨S1, (broadcastInDim S1 ![] bcast_S_S1 v)⟩] concatenates_S1_S1_S2_d0) (constant S_ .f32 0x00000000#32) reducesTo_S2_S_d0 h_S_) (constant S_ .f32 0x40000000#32)
    = fun _ => Ideal.ofBits .f32 0x3F000000#32 * (u ix0 + v ix0) := by
  funext j
  obtain rfl : j = ix0 := Subsingleton.elim (α := S_.Idx) _ _
  pointwise []
  have h2 : Ideal.ofBits .f32 0x40000000#32 = ((2 : ℝ) : EReal) := by
    simp [Ideal.ofBits, Ideal.ieee]; norm_num; rw [← EReal.coe_mul]; congr 1; norm_num
  have h3 : Ideal.ofBits .f32 0x3F000000#32 = ((2⁻¹ : ℝ) : EReal) := by
    simp [Ideal.ofBits, Ideal.ieee]; norm_num; rw [← EReal.coe_mul]; congr 1; norm_num
  rw [h2, h3, Ideal.div_coe two_ne_zero, mul_comm, one_div]
  simp only [Finset.univ_unique, Finset.sum_singleton]

/-- The mean square of an array of similarities. -/
theorem group_apply (x : FVec Ideal S8x2019x20 .f32) : Host.divf (Host.reduceAdd (mulf x x) (constant S_ .f32 0x00000000#32) reducesTo_S8x2019x20_S_d0_1_2 h_S_) (constant S_ .f32 0x489DBC00#32)
    = fun _ => Ideal.div (∑ b : Fin 8, ∑ n : Fin 2019, ∑ p : Fin 20, x (ix3 b n p) * x (ix3 b n p)) (Ideal.ofBits .f32 0x489DBC00#32) := by
  funext j
  obtain rfl : j = ix0 := Subsingleton.elim (α := S_.Idx) _ _
  pointwise []

/-- The group loss. -/
theorem group_eq : Host.divf (Host.reduceAdd (mulf (res_main_v271 V0) (res_main_v271 V0)) (constant S_ .f32 0x00000000#32)
    reducesTo_S8x2019x20_S_d0_1_2 h_S_) (constant S_ .f32 0x489DBC00#32) = fun _ => (args V0).group := by
  refine (group_apply (res_main_v271 V0)).trans (funext fun _ => congrArg (Ideal.div · (Ideal.ofBits .f32 0x489DBC00#32)) ?_)
  exact Finset.sum_congr rfl fun b _ => Finset.sum_congr rfl fun n _ => Finset.sum_congr rfl fun p _ =>
    congrArg (fun a : EReal => a * a) (v271_eq V0 b n p)

/-- The first quantizer stage's loss. -/
theorem mean0_eq : Host.divf (Host.reduceAdd (mulf (res_main_v130 V0) (res_main_v130 V0)) (constant S_ .f32 0x00000000#32)
    reducesTo_S8x2048x64_S_d0_1_2 h_S_) (constant S_ .f32 0x49800000#32) = fun _ => (args V0).vq0 := by
  refine (mean_apply (res_main_v130 V0)).trans (funext fun _ => congrArg (Ideal.div · (Ideal.ofBits .f32 0x49800000#32)) ?_)
  exact Finset.sum_congr rfl fun b _ => Finset.sum_congr rfl fun s _ => Finset.sum_congr rfl fun k _ =>
    congrArg (fun a : EReal => a * a) (v130_eq V0 b s k)

/-- The second quantizer stage's loss. -/
theorem mean1_eq : Host.divf (Host.reduceAdd (mulf (res_main_v156 V0) (res_main_v156 V0)) (constant S_ .f32 0x00000000#32)
    reducesTo_S8x2048x64_S_d0_1_2 h_S_) (constant S_ .f32 0x49800000#32) = fun _ => (args V0).vq1 := by
  refine (mean_apply (res_main_v156 V0)).trans (funext fun _ => congrArg (Ideal.div · (Ideal.ofBits .f32 0x49800000#32)) ?_)
  exact Finset.sum_congr rfl fun b _ => Finset.sum_congr rfl fun s _ => Finset.sum_congr rfl fun k _ =>
    congrArg (fun a : EReal => a * a) (v156_eq V0 b s k)

/-- The quantizer loss. -/
theorem vq_eq : Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32)
    = fun _ => (args V0).vq :=
  (half_apply _ _).trans (funext fun _ => congrArg (Ideal.ofBits .f32 0x3F000000#32 * ·)
    (congrArg₂ (fun a b : EReal => a + b) (congrFun (mean0_eq V0) ix0) (congrFun (mean1_eq V0) ix0)))

/-- The smoothness loss. -/
theorem smooth_eq : Host.divf (Host.reduceAdd (F := Ideal) (uitofp .f32 (cmpi .ne (extractStridedSlice S8x2047 ![0, 1] (res_main_v171 V0) slices_S8x2048_S8x2047_0_1) (extractStridedSlice S8x2047 ![0, 0] (res_main_v171 V0) slices_S8x2048_S8x2047_0_0))) (constant S_ .f32 0x00000000#32) reducesTo_S8x2047_S_d0_1 h_S_) (constant S_ .f32 0x467FE000#32)
    = fun _ => (args V0).smooth := by
  refine (congrArg (fun x : FVec Ideal S_ .f32 => Host.divf x (constant S_ .f32 0x467FE000#32)) (smooth_apply (res_main_v171 V0))).trans
    (funext fun _ => congrArg (Ideal.div · (Ideal.ofBits .f32 0x467FE000#32)) ?_)
  exact Finset.sum_congr rfl fun b _ => Finset.sum_congr rfl fun n _ => ind_ne_congr (v171_eq V0 b _) (v171_eq V0 b _)

/-- The weighted sum of three scalars. -/
theorem loss_apply (g v w : EReal) : addf (F := Ideal) (addf (mulf (fun _ => g) (constant S_ .f32 0x3F800000#32)) (mulf (fun _ => v) (constant S_ .f32 0x3E800000#32))) (mulf (fun _ => w) (constant S_ .f32 0x3DCCCCCD#32))
    = fun _ => g * Ideal.ofBits .f32 0x3F800000#32 + v * Ideal.ofBits .f32 0x3E800000#32 + w * Ideal.ofBits .f32 0x3DCCCCCD#32 := rfl

/-- Two columns of codes side by side. -/
theorem codes_apply (u w : IVec S8x2048 32) (b : Fin 8) (s : Fin 2048) (e : Fin 2) :
    concatenate S8x2048x2 2 [⟨S8x2048x1, (broadcastInDim S8x2048x1 ![0, 1] bcast_S8x2048_S8x2048x1_0_1 u)⟩, ⟨S8x2048x1, (broadcastInDim S8x2048x1 ![0, 1] bcast_S8x2048_S8x2048x1_0_1 w)⟩] concatenates_S8x2048x1_S8x2048x1_S8x2048x2_d2 (ix3 b s e)
      = if e.val = 0 then u (ix2 b s) else w (ix2 b s) := by
  pointwise []
  by_cases h : e.val < 1
  · rw [dif_pos h, if_pos (by omega)]
  · rw [dif_neg h, if_neg (by omega)]

/-- The codes of both stages. -/
theorem codes_eq : concatenate S8x2048x2 2 [⟨S8x2048x1, (broadcastInDim S8x2048x1 ![0, 1] bcast_S8x2048_S8x2048x1_0_1 (res_main_v126 V0))⟩, ⟨S8x2048x1, (broadcastInDim S8x2048x1 ![0, 1] bcast_S8x2048_S8x2048x1_0_1 (res_main_v152 V0))⟩] concatenates_S8x2048x1_S8x2048x1_S8x2048x2_d2
    = fun j : S8x2048x2.Idx => if (j 2).val = 0 then BitVec.ofNat 32 ((args V0).code0 (j 0) (j 1)).val
      else BitVec.ofNat 32 ((args V0).code1 (j 0) (j 1)).val := by
  funext j
  have hj : j = ix3 (j 0) (j 1) (j 2) := by
    funext a
    match a with
    | ⟨0, _⟩ => rfl
    | ⟨1, _⟩ => rfl
    | ⟨2, _⟩ => rfl
  refine (congrArg _ hj).trans ((codes_apply (res_main_v126 V0) (res_main_v152 V0) (j 0) (j 1) (j 2)).trans ?_)
  exact if_congr Iff.rfl (v126_eq V0 (j 0) (j 1)) (v152_eq V0 (j 0) (j 1))

/-- The whole loss. -/
theorem loss_eq : addf (F := Ideal) (addf (mulf (Host.divf (Host.reduceAdd (mulf (res_main_v271 V0) (res_main_v271 V0)) (constant S_ .f32 0x00000000#32) reducesTo_S8x2019x20_S_d0_1_2 h_S_) (constant S_ .f32 0x489DBC00#32)) (constant S_ .f32 0x3F800000#32)) (mulf (Host.divf (Host.reduceAdd (concatenate S2 0 [⟨S1, (broadcastInDim S1 ![] bcast_S_S1 (Host.divf (Host.reduceAdd (mulf (res_main_v130 V0) (res_main_v130 V0)) (constant S_ .f32 0x00000000#32) reducesTo_S8x2048x64_S_d0_1_2 h_S_) (constant S_ .f32 0x49800000#32)))⟩, ⟨S1, (broadcastInDim S1 ![] bcast_S_S1 (Host.divf (Host.reduceAdd (mulf (res_main_v156 V0) (res_main_v156 V0)) (constant S_ .f32 0x00000000#32) reducesTo_S8x2048x64_S_d0_1_2 h_S_) (constant S_ .f32 0x49800000#32)))⟩] concatenates_S1_S1_S2_d0) (constant S_ .f32 0x00000000#32) reducesTo_S2_S_d0 h_S_) (constant S_ .f32 0x40000000#32)) (constant S_ .f32 0x3E800000#32))) (mulf (Host.divf (Host.reduceAdd (uitofp .f32 (cmpi .ne (extractStridedSlice S8x2047 ![0, 1] (res_main_v171 V0) slices_S8x2048_S8x2047_0_1) (extractStridedSlice S8x2047 ![0, 0] (res_main_v171 V0) slices_S8x2048_S8x2047_0_0))) (constant S_ .f32 0x00000000#32) reducesTo_S8x2047_S_d0_1 h_S_) (constant S_ .f32 0x467FE000#32)) (constant S_ .f32 0x3DCCCCCD#32))
    = fun _ => (args V0).loss := by
  have L (g v w : FVec Ideal S_ .f32) (g' v' w' : EReal) (hg : g = fun _ => g') (hv : v = fun _ => v') (hw : w = fun _ => w') :
      addf (F := Ideal) (addf (mulf g (constant S_ .f32 0x3F800000#32)) (mulf v (constant S_ .f32 0x3E800000#32))) (mulf w (constant S_ .f32 0x3DCCCCCD#32))
        = fun _ => g' * Ideal.ofBits .f32 0x3F800000#32 + v' * Ideal.ofBits .f32 0x3E800000#32 + w' * Ideal.ofBits .f32 0x3DCCCCCD#32 := by
    subst hg hv hw; exact loss_apply g' v' w'
  exact L _ _ _ _ _ _ (group_eq V0) (vq_eq V0) (smooth_eq V0)

end Cert.ReferenceIdeal.Ref
end
-- ==== Proof.lean ====
/- The kernel's five claims. The frames of the kernel are the generated ones; the reference's frame and the equality of the
   five results come from the two programs' runs, each read as the same functions of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_tables
public import proofs.«01_k».proof.Proof.KRun
public import proofs.«01_k».proof.Proof.KHost
public import proofs.«01_k».proof.Proof.Tables
public import proofs.«01_k».proof.Proof.RefRun
public import proofs.«01_k».proof.Proof.RefRes
public import Idealize.ShloMosaic.Adequacy
public import Idealize.ShloMosaic.Init

@[expose] public section

noncomputable section

namespace Cert.Proof

open Idealize.ShloMosaic Idealize.SL.Sem Cert.Kernel

/-- The reference terminates with its arguments unchanged; it declares no semaphore. -/
theorem reference_frame : Cert.quiescent_ReferenceIdeal := fun m g _ =>
  (θ_run _ _ _).mono (fun r h => ⟨fun c => (h c).2.2.2.2.2, sem_eq_zero_of_no_sems (by decide) _⟩) (Cert.ReferenceIdeal.Ref.run m g)

/-- From memories agreeing on the arguments both programs read the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Ref.args (StableHlo.launchContents m' c) = Cert.KernelIdeal.Val.args m c := by
  have E {a0 b0 : (⟨3, ![8, 2, 2048]⟩ : Shape).Idx → EReal} {a2 b2 : (⟨3, ![256, 2, 7]⟩ : Shape).Idx → EReal}
      {a3 b3 : (⟨1, ![256]⟩ : Shape).Idx → EReal} {a4 b4 : (⟨3, ![64, 256, 9]⟩ : Shape).Idx → EReal}
      {a5 b5 : (⟨1, ![64]⟩ : Shape).Idx → EReal} {a6 b6 : (⟨2, ![1280, 1280]⟩ : Shape).Idx → EReal}
      {a7 b7 : (⟨1, ![1280]⟩ : Shape).Idx → EReal} {a8 b8 : (⟨2, ![1280, 1280]⟩ : Shape).Idx → EReal}
      {a9 b9 : (⟨1, ![1280]⟩ : Shape).Idx → EReal} {a10 b10 : (⟨2, ![1024, 64]⟩ : Shape).Idx → EReal}
      {a11 b11 : (⟨3, ![2, 1024, 64]⟩ : Shape).Idx → EReal} (h0 : a0 = b0) (h2 : a2 = b2) (h3 : a3 = b3) (h4 : a4 = b4) (h5 : a5 = b5)
      (h6 : a6 = b6) (h7 : a7 = b7) (h8 : a8 = b8) (h9 : a9 = b9) (h10 : a10 = b10) (h11 : a11 = b11) :
      Cert.Spec.argsOf a0 a2 a3 a4 a5 a6 a7 a8 a9 a10 a11 = Cert.Spec.argsOf b0 b2 b3 b4 b5 b6 b7 b8 b9 b10 b11 := by
    subst h0 h2 h3 h4 h5 h6 h7 h8 h9 h10 h11; rfl
  exact E h0 h2 h3 h4 h5 h6 h7 h8 h9 h10 h11

/-- The code array the arguments determine: the first code, then the second. -/
def codesOf (B : Cert.Spec.Args) : (⟨3, ![8, 2048, 2]⟩ : Shape).Idx → BitVec 32 := fun j =>
  if (j 2).val = 0 then BitVec.ofNat 32 (B.code0 (j 0) (j 1)).val else BitVec.ofNat 32 (B.code1 (j 0) (j 1)).val

/-- The two programs compute the same five results of the arguments. -/
theorem algebraic : Cert.algebraic_KernelIdeal_ReferenceIdeal_pre_finite_tables := fun m g m' g' hpre hargs => by
  have H (c : Dev Cert.KernelIdeal.nD) := Cert.KernelIdeal.Val.finite_args m hpre c
  have A (c : Dev Cert.KernelIdeal.nD) : Cert.ReferenceIdeal.Ref.args (StableHlo.launchContents m' c) = Cert.KernelIdeal.Val.args m c := by
    obtain ⟨h0, -, h2, h3, h4, h5, h6, h7, h8, h9, h10, h11⟩ := hargs c
    exact args_eq m m' c h0 h2 h3 h4 h5 h6 h7 h8 h9 h10 h11
  refine ⟨fun c => codesOf (Cert.KernelIdeal.Val.args m c),
    fun c => fun _ : Cert.KernelIdeal.S_.Idx => (Cert.KernelIdeal.Val.args m c).loss,
    fun c => fun _ : Cert.KernelIdeal.S_.Idx => (Cert.KernelIdeal.Val.args m c).group,
    fun c => fun _ : Cert.KernelIdeal.S_.Idx => (Cert.KernelIdeal.Val.args m c).vq,
    fun c => fun _ : Cert.KernelIdeal.S_.Idx => (Cert.KernelIdeal.Val.args m c).smooth, ?_, ?_⟩
  · refine (θ_run _ _ _).mono (fun r h c => ?_) (Cert.KernelIdeal.Val.run m g)
    obtain ⟨h0, h1, h2, h3, h4, h5⟩ := h c
    exact ⟨h0.trans (Cert.KernelIdeal.Val.codes_eq g (H c)), h1.trans (Cert.KernelIdeal.Val.loss_eq g (H c)),
      h2.trans (Cert.KernelIdeal.Val.group_eq g (H c)), h3.trans (Cert.KernelIdeal.Val.vq_eq g (H c)),
      h4.trans (Cert.KernelIdeal.Val.smooth_eq g (H c)), h5⟩
  · refine (θ_run _ _ _).mono (fun r h c => ?_) (Cert.ReferenceIdeal.Ref.run m' g')
    obtain ⟨h0, h1, h2, h3, h4, h5⟩ := h c
    exact ⟨h0.trans ((Cert.ReferenceIdeal.Ref.codes_eq _).trans (congrArg codesOf (A c))),
      h1.trans ((Cert.ReferenceIdeal.Ref.loss_eq _).trans (congrArg (fun B : Cert.Spec.Args => fun _ : Cert.KernelIdeal.S_.Idx => B.loss) (A c))),
      h2.trans ((Cert.ReferenceIdeal.Ref.group_eq _).trans (congrArg (fun B : Cert.Spec.Args => fun _ : Cert.KernelIdeal.S_.Idx => B.group) (A c))),
      h3.trans ((Cert.ReferenceIdeal.Ref.vq_eq _).trans (congrArg (fun B : Cert.Spec.Args => fun _ : Cert.KernelIdeal.S_.Idx => B.vq) (A c))),
      h4.trans ((Cert.ReferenceIdeal.Ref.smooth_eq _).trans (congrArg (fun B : Cert.Spec.Args => fun _ : Cert.KernelIdeal.S_.Idx => B.smooth) (A c))), h5⟩

/-- All the claims. -/
theorem claim : Cert.Claim := ⟨Cert.Kernel.Gen.facts, Cert.KernelIdeal.Gen.facts, Cert.ReferenceIdeal.Gen.facts, Cert.Pre_finite_tables.Gen.facts,
  fun m g _ => Cert.Kernel.Gen.frame m g, fun m g _ => Cert.KernelIdeal.Gen.frame m g, fun m g _ => Cert.KernelIdeal.Gen.frame m g,
  reference_frame, fun m g _ => reference_frame m g trivial, trivial, algebraic⟩

end Cert.Proof

end
